-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v122) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x4096 : Shape := ⟨3, ![4, 2048, 4096]⟩
abbrev S4096x16 : Shape := ⟨2, ![4096, 16]⟩
abbrev S_ : Shape := ⟨0, ![]⟩
abbrev S1 : Shape := ⟨1, ![1]⟩
abbrev S2 : Shape := ⟨1, ![2]⟩
abbrev S1x1 : Shape := ⟨2, ![1, 1]⟩
abbrev S4x2048 : Shape := ⟨2, ![4, 2048]⟩
abbrev S4x4x512x1 : Shape := ⟨4, ![4, 4, 512, 1]⟩
abbrev S4x2048x2560 : Shape := ⟨3, ![4, 2048, 2560]⟩
abbrev S1x512x4096 : Shape := ⟨3, ![1, 512, 4096]⟩
abbrev S1x1x512x1 : Shape := ⟨4, ![1, 1, 512, 1]⟩
abbrev S1x512x2560 : Shape := ⟨3, ![1, 512, 2560]⟩
abbrev S2x16 : Shape := ⟨2, ![2, 16]⟩
abbrev S1x16 : Shape := ⟨2, ![1, 16]⟩
abbrev S512x512 : Shape := ⟨2, ![512, 512]⟩
abbrev S512x4096 : Shape := ⟨2, ![512, 4096]⟩
abbrev S512x16 : Shape := ⟨2, ![512, 16]⟩
abbrev S512 : Shape := ⟨1, ![512]⟩
abbrev S512x1 : Shape := ⟨2, ![512, 1]⟩
abbrev S1x512x1 : Shape := ⟨3, ![1, 512, 1]⟩
abbrev S1x1x1 : Shape := ⟨3, ![1, 1, 1]⟩
abbrev S16 : Shape := ⟨1, ![16]⟩
abbrev S512x2560 : Shape := ⟨2, ![512, 2560]⟩
abbrev S1x1x16 : Shape := ⟨3, ![1, 1, 16]⟩

abbrev nBuf : Space → Nat
  | .hbm => 281
  | .vmem => 16
  | .smem => 0
  | _ => 0

abbrev hbmTy0_0 (i : Nat) : BufTy := match i % 128 with
  | 0 => ⟨S4x2048x4096, .f32⟩
  | 1 => ⟨S4096x16, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S_, .f32⟩
  | 13 => ⟨S_, .f32⟩
  | 14 => ⟨S_, .f32⟩
  | 15 => ⟨S_, .f32⟩
  | 16 => ⟨S1x1, .f32⟩
  | 17 => ⟨S1x1, .f32⟩
  | 18 => ⟨S1, .i32⟩
  | 19 => ⟨S_, .i32⟩
  | 20 => ⟨S1, .i32⟩
  | 21 => ⟨S_, .i32⟩
  | 22 => ⟨S4x2048, .i64⟩
  | 23 => ⟨S4x2048, .i64⟩
  | 24 => ⟨S_, .i64⟩
  | 25 => ⟨S4x2048, .i64⟩
  | 26 => ⟨S4x2048, .i64⟩
  | 27 => ⟨S_, .i64⟩
  | 28 => ⟨S4x2048, .i64⟩
  | 29 => ⟨S4x2048, .i64⟩
  | 30 => ⟨S4x2048, .i64⟩
  | 31 => ⟨S_, .i64⟩
  | 32 => ⟨S4x2048, .i64⟩
  | 33 => ⟨S4x2048, .i64⟩
  | 34 => ⟨S4x2048, .i32⟩
  | 35 => ⟨S4x2048, .i32⟩
  | 36 => ⟨S_, .i32⟩
  | 37 => ⟨S_, .i32⟩
  | 38 => ⟨S_, .i32⟩
  | 39 => ⟨S4x2048, .i32⟩
  | 40 => ⟨S4x2048, .i32⟩
  | 41 => ⟨S4x2048, .i32⟩
  | 42 => ⟨S4x2048, .i32⟩
  | 43 => ⟨S4x2048, .i32⟩
  | 44 => ⟨S_, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S4x2048, .i32⟩
  | 51 => ⟨S4x2048, .i32⟩
  | 52 => ⟨S4x2048, .i32⟩
  | 53 => ⟨S_, .i32⟩
  | 54 => ⟨S4x2048, .i32⟩
  | 55 => ⟨S4x2048, .i32⟩
  | 56 => ⟨S_, .i32⟩
  | 57 => ⟨S4x2048, .i32⟩
  | 58 => ⟨S4x2048, .i32⟩
  | 59 => ⟨S4x2048, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S4x2048, .i32⟩
  | 70 => ⟨S4x2048, .i32⟩
  | 71 => ⟨S_, .i32⟩
  | 72 => ⟨S4x2048, .i32⟩
  | 73 => ⟨S4x2048, .i32⟩
  | 74 => ⟨S_, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S4x2048, .i32⟩
  | 82 => ⟨S4x2048, .i32⟩
  | 83 => ⟨S_, .i32⟩
  | 84 => ⟨S4x2048, .i32⟩
  | 85 => ⟨S4x2048, .i32⟩
  | 86 => ⟨S4x2048, .i32⟩
  | 87 => ⟨S_, .i32⟩
  | 88 => ⟨S4x2048, .i32⟩
  | 89 => ⟨S4x2048, .i32⟩
  | 90 => ⟨S_, .i32⟩
  | 91 => ⟨S4x2048, .i32⟩
  | 92 => ⟨S4x2048, .i32⟩
  | 93 => ⟨S4x2048, .i32⟩
  | 94 => ⟨S4x2048, .i32⟩
  | 95 => ⟨S4x2048, .i32⟩
  | 96 => ⟨S_, .i32⟩
  | 97 => ⟨S4x2048, .i32⟩
  | 98 => ⟨S4x2048, .i32⟩
  | 99 => ⟨S_, .i32⟩
  | 100 => ⟨S4x2048, .i32⟩
  | 101 => ⟨S4x2048, .i32⟩
  | 102 => ⟨S4x2048, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S_, .i32⟩
  | 115 => ⟨S4x2048, .i32⟩
  | 116 => ⟨S4x2048, .i32⟩
  | 117 => ⟨S_, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S4x2048, .i32⟩
  | 125 => ⟨S4x2048, .i32⟩
  | 126 => ⟨S_, .i32⟩
  | 127 => ⟨S4x2048, .i32⟩
  | _ => ⟨S4x2048x4096, .f32⟩

abbrev hbmTy0_1 (i : Nat) : BufTy := match i % 128 with
  | 0 => ⟨S4x2048, .i32⟩
  | 1 => ⟨S4x2048, .i32⟩
  | 2 => ⟨S_, .i32⟩
  | 3 => ⟨S4x2048, .i32⟩
  | 4 => ⟨S4x2048, .i32⟩
  | 5 => ⟨S_, .i32⟩
  | 6 => ⟨S4x2048, .i32⟩
  | 7 => ⟨S4x2048, .i32⟩
  | 8 => ⟨S4x2048, .i32⟩
  | 9 => ⟨S4x2048, .i32⟩
  | 10 => ⟨S4x2048, .i32⟩
  | 11 => ⟨S_, .i32⟩
  | 12 => ⟨S4x2048, .i32⟩
  | 13 => ⟨S4x2048, .i32⟩
  | 14 => ⟨S_, .i32⟩
  | 15 => ⟨S4x2048, .i32⟩
  | 16 => ⟨S4x2048, .i32⟩
  | 17 => ⟨S4x2048, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S_, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S4x2048, .i32⟩
  | 39 => ⟨S4x2048, .i32⟩
  | 40 => ⟨S4x2048, .i32⟩
  | 41 => ⟨S_, .i32⟩
  | 42 => ⟨S4x2048, .i32⟩
  | 43 => ⟨S4x2048, .i32⟩
  | 44 => ⟨S4x2048, .i32⟩
  | 45 => ⟨S_, .i32⟩
  | 46 => ⟨S4x2048, .i32⟩
  | 47 => ⟨S4x2048, .i32⟩
  | 48 => ⟨S_, .i32⟩
  | 49 => ⟨S4x2048, .i32⟩
  | 50 => ⟨S4x2048, .i32⟩
  | 51 => ⟨S4x2048, .i32⟩
  | 52 => ⟨S4x2048, .i32⟩
  | 53 => ⟨S4x2048, .i32⟩
  | 54 => ⟨S_, .i32⟩
  | 55 => ⟨S4x2048, .i32⟩
  | 56 => ⟨S4x2048, .i32⟩
  | 57 => ⟨S_, .i32⟩
  | 58 => ⟨S4x2048, .i32⟩
  | 59 => ⟨S4x2048, .i32⟩
  | 60 => ⟨S4x2048, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .i32⟩
  | 70 => ⟨S4x2048, .i32⟩
  | 71 => ⟨S4x2048, .i32⟩
  | 72 => ⟨S_, .i32⟩
  | 73 => ⟨S4x2048, .i32⟩
  | 74 => ⟨S4x2048, .i32⟩
  | 75 => ⟨S_, .i32⟩
  | 76 => ⟨S4x2048, .i32⟩
  | 77 => ⟨S4x2048, .i32⟩
  | 78 => ⟨S4x2048, .i32⟩
  | 79 => ⟨S4x2048, .i32⟩
  | 80 => ⟨S4x2048, .i32⟩
  | 81 => ⟨S4x2048, .i32⟩
  | 82 => ⟨S4x2048, .i32⟩
  | 83 => ⟨S4x2048, .i32⟩
  | 84 => ⟨S_, .i32⟩
  | 85 => ⟨S4x2048, .i32⟩
  | 86 => ⟨S4x2048, .i32⟩
  | 87 => ⟨S4x2048, .i32⟩
  | 88 => ⟨S_, .i32⟩
  | 89 => ⟨S4x2048, .i32⟩
  | 90 => ⟨S4x2048, .i32⟩
  | 91 => ⟨S_, .i32⟩
  | 92 => ⟨S4x2048, .i32⟩
  | 93 => ⟨S4x2048, .i32⟩
  | 94 => ⟨S4x2048, .i32⟩
  | 95 => ⟨S4x2048, .i32⟩
  | 96 => ⟨S4x2048, .i32⟩
  | 97 => ⟨S_, .i32⟩
  | 98 => ⟨S4x2048, .i32⟩
  | 99 => ⟨S4x2048, .i32⟩
  | 100 => ⟨S_, .i32⟩
  | 101 => ⟨S4x2048, .i32⟩
  | 102 => ⟨S4x2048, .i32⟩
  | 103 => ⟨S4x2048, .i32⟩
  | 104 => ⟨S4x2048, .i32⟩
  | 105 => ⟨S4x2048, .i32⟩
  | 106 => ⟨S_, .i32⟩
  | 107 => ⟨S4x2048, .i32⟩
  | 108 => ⟨S4x2048, .i32⟩
  | 109 => ⟨S_, .i32⟩
  | 110 => ⟨S4x2048, .i32⟩
  | 111 => ⟨S4x2048, .i32⟩
  | 112 => ⟨S4x2048, .i32⟩
  | 113 => ⟨S4x2048, .i32⟩
  | 114 => ⟨S4x2048, .i32⟩
  | 115 => ⟨S_, .i32⟩
  | 116 => ⟨S4x2048, .i32⟩
  | 117 => ⟨S4x2048, .i32⟩
  | 118 => ⟨S_, .i32⟩
  | 119 => ⟨S4x2048, .i32⟩
  | 120 => ⟨S4x2048, .i32⟩
  | 121 => ⟨S4x2048, .i32⟩
  | 122 => ⟨S4x2048, .i32⟩
  | 123 => ⟨S4x2048, .i32⟩
  | 124 => ⟨S4x2048, .i32⟩
  | 125 => ⟨S4x2048, .i32⟩
  | 126 => ⟨S4x2048, .i32⟩
  | 127 => ⟨S_, .i32⟩
  | _ => ⟨S4x2048x4096, .f32⟩

abbrev hbmTy0_2 (i : Nat) : BufTy := match i % 128 with
  | 0 => ⟨S4x2048, .i32⟩
  | 1 => ⟨S4x2048, .i32⟩
  | 2 => ⟨S4x2048, .i32⟩
  | 3 => ⟨S_, .i32⟩
  | 4 => ⟨S4x2048, .i32⟩
  | 5 => ⟨S4x2048, .i32⟩
  | 6 => ⟨S_, .i32⟩
  | 7 => ⟨S4x2048, .i32⟩
  | 8 => ⟨S4x2048, .i32⟩
  | 9 => ⟨S4x2048, .f32⟩
  | 10 => ⟨S_, .f32⟩
  | 11 => ⟨S4x2048, .f32⟩
  | 12 => ⟨S4x2048, .f32⟩
  | 13 => ⟨S1x1, .f32⟩
  | 14 => ⟨S4x2048, .f32⟩
  | 15 => ⟨S4x2048, .f32⟩
  | 16 => ⟨S4x2048, .f32⟩
  | 17 => ⟨S4x2048, .f32⟩
  | 18 => ⟨S4x2048, .f32⟩
  | 19 => ⟨S4x2048, .f32⟩
  | 20 => ⟨S4x4x512x1, .f32⟩
  | 21 => ⟨S4x2048x2560, .f32⟩
  | 22 => ⟨S4x2048x2560, .f32⟩
  | 23 => ⟨S1x1, .f32⟩
  | 24 => ⟨S1x1, .f32⟩
  | _ => ⟨S4x2048x4096, .f32⟩

abbrev hbmTy (i : Nat) : BufTy := match i / 128 with
  | 0 => hbmTy0_0 i
  | 1 => hbmTy0_1 i
  | 2 => hbmTy0_2 i
  | _ => ⟨S4x2048x4096, .f32⟩

abbrev bufTy : (tb : Table) → Fin (tcTables nBuf tb) → BufTy
  | .hbm, ⟨i, _⟩ => hbmTy i
  | .local _ .vmem, ⟨0, _⟩ => ⟨S1x512x4096, .f32⟩
  | .local _ .vmem, ⟨1, _⟩ => ⟨S1x512x4096, .f32⟩
  | .local _ .vmem, ⟨2, _⟩ => ⟨S4096x16, .f32⟩
  | .local _ .vmem, ⟨3, _⟩ => ⟨S1x1x512x1, .f32⟩
  | .local _ .vmem, ⟨4, _⟩ => ⟨S1x1x512x1, .f32⟩
  | .local _ .vmem, ⟨5, _⟩ => ⟨S1x512x2560, .f32⟩
  | .local _ .vmem, ⟨6, _⟩ => ⟨S1x512x2560, .f32⟩
  | .local _ .vmem, ⟨7, _⟩ => ⟨S1x512x2560, .f32⟩
  | .local _ .vmem, ⟨8, _⟩ => ⟨S1x512x2560, .f32⟩
  | .local _ .vmem, ⟨9, _⟩ => ⟨S1x1, .f32⟩
  | .local _ .vmem, ⟨10, _⟩ => ⟨S1x1, .f32⟩
  | .local _ .vmem, ⟨11, _⟩ => ⟨S2x16, .f32⟩
  | .local _ .vmem, ⟨12, _⟩ => ⟨S1x16, .f32⟩
  | .local _ .vmem, ⟨13, _⟩ => ⟨S1x1, .f32⟩
  | .local _ .vmem, ⟨14, _⟩ => ⟨S1x1, .f32⟩
  | .local _ .vmem, ⟨15, _⟩ => ⟨S512x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_c_1 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst : Ref sig .tc := ⟨.hbm, 12, rfl⟩
abbrev main_call0_cst_2 : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_c : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_call0_c_0 : Ref sig .tc := ⟨.hbm, 27, rfl⟩
abbrev main_call0_call0_v12 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_c_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_v17 : Ref sig .tc := ⟨.hbm, 34, rfl⟩
abbrev main_call0_call0_v18 : Ref sig .tc := ⟨.hbm, 35, rfl⟩
abbrev main_call0_call0_call0_v0 : Ref sig .tc := ⟨.hbm, 36, rfl⟩
abbrev main_call0_call0_call0_c : Ref sig .tc := ⟨.hbm, 37, rfl⟩
abbrev main_call0_call0_call0_v1 : Ref sig .tc := ⟨.hbm, 38, rfl⟩
abbrev main_call0_call0_call0_v2 : Ref sig .tc := ⟨.hbm, 39, rfl⟩
abbrev main_call0_call0_call0_v3 : Ref sig .tc := ⟨.hbm, 40, rfl⟩
abbrev main_call0_call0_call0_v4 : Ref sig .tc := ⟨.hbm, 41, rfl⟩
abbrev main_call0_call0_call0_v5 : Ref sig .tc := ⟨.hbm, 42, rfl⟩
abbrev main_call0_call0_call0_v6 : Ref sig .tc := ⟨.hbm, 43, rfl⟩
abbrev main_call0_call0_call0_c_0 : Ref sig .tc := ⟨.hbm, 44, rfl⟩
abbrev main_call0_call0_call0_v7 : Ref sig .tc := ⟨.hbm, 45, rfl⟩
abbrev main_call0_call0_call0_v8 : Ref sig .tc := ⟨.hbm, 46, rfl⟩
abbrev main_call0_call0_call0_c_1 : Ref sig .tc := ⟨.hbm, 47, rfl⟩
abbrev main_call0_call0_call0_v9 : Ref sig .tc := ⟨.hbm, 48, rfl⟩
abbrev main_call0_call0_call0_v10 : Ref sig .tc := ⟨.hbm, 49, rfl⟩
abbrev main_call0_call0_call0_v11 : Ref sig .tc := ⟨.hbm, 50, rfl⟩
abbrev main_call0_call0_call0_v12 : Ref sig .tc := ⟨.hbm, 51, rfl⟩
abbrev main_call0_call0_call0_v13 : Ref sig .tc := ⟨.hbm, 52, rfl⟩
abbrev main_call0_call0_call0_c_2 : Ref sig .tc := ⟨.hbm, 53, rfl⟩
abbrev main_call0_call0_call0_v14 : Ref sig .tc := ⟨.hbm, 54, rfl⟩
abbrev main_call0_call0_call0_v15 : Ref sig .tc := ⟨.hbm, 55, rfl⟩
abbrev main_call0_call0_call0_c_3 : Ref sig .tc := ⟨.hbm, 56, rfl⟩
abbrev main_call0_call0_call0_v16 : Ref sig .tc := ⟨.hbm, 57, rfl⟩
abbrev main_call0_call0_call0_v17 : Ref sig .tc := ⟨.hbm, 58, rfl⟩
abbrev main_call0_call0_call0_v18 : Ref sig .tc := ⟨.hbm, 59, rfl⟩
abbrev main_call0_call0_call0_v19 : Ref sig .tc := ⟨.hbm, 60, rfl⟩
abbrev main_call0_call0_call0_v20 : Ref sig .tc := ⟨.hbm, 61, rfl⟩
abbrev main_call0_call0_call0_c_4 : Ref sig .tc := ⟨.hbm, 62, rfl⟩
abbrev main_call0_call0_call0_v21 : Ref sig .tc := ⟨.hbm, 63, rfl⟩
abbrev main_call0_call0_call0_v22 : Ref sig .tc := ⟨.hbm, 64, rfl⟩
abbrev main_call0_call0_call0_c_5 : Ref sig .tc := ⟨.hbm, 65, rfl⟩
abbrev main_call0_call0_call0_v23 : Ref sig .tc := ⟨.hbm, 66, rfl⟩
abbrev main_call0_call0_call0_v24 : Ref sig .tc := ⟨.hbm, 67, rfl⟩
abbrev main_call0_call0_call0_v25 : Ref sig .tc := ⟨.hbm, 68, rfl⟩
abbrev main_call0_call0_call0_v26 : Ref sig .tc := ⟨.hbm, 69, rfl⟩
abbrev main_call0_call0_call0_v27 : Ref sig .tc := ⟨.hbm, 70, rfl⟩
abbrev main_call0_call0_call0_c_6 : Ref sig .tc := ⟨.hbm, 71, rfl⟩
abbrev main_call0_call0_call0_v28 : Ref sig .tc := ⟨.hbm, 72, rfl⟩
abbrev main_call0_call0_call0_v29 : Ref sig .tc := ⟨.hbm, 73, rfl⟩
abbrev main_call0_call0_call0_c_7 : Ref sig .tc := ⟨.hbm, 74, rfl⟩
abbrev main_call0_call0_call0_v30 : Ref sig .tc := ⟨.hbm, 75, rfl⟩
abbrev main_call0_call0_call0_v31 : Ref sig .tc := ⟨.hbm, 76, rfl⟩
abbrev main_call0_call0_call0_v32 : Ref sig .tc := ⟨.hbm, 77, rfl⟩
abbrev main_call0_call0_call0_v33 : Ref sig .tc := ⟨.hbm, 78, rfl⟩
abbrev main_call0_call0_call0_v34 : Ref sig .tc := ⟨.hbm, 79, rfl⟩
abbrev main_call0_call0_call0_v35 : Ref sig .tc := ⟨.hbm, 80, rfl⟩
abbrev main_call0_call0_call0_v36 : Ref sig .tc := ⟨.hbm, 81, rfl⟩
abbrev main_call0_call0_call0_v37 : Ref sig .tc := ⟨.hbm, 82, rfl⟩
abbrev main_call0_call0_call0_c_8 : Ref sig .tc := ⟨.hbm, 83, rfl⟩
abbrev main_call0_call0_call0_v38 : Ref sig .tc := ⟨.hbm, 84, rfl⟩
abbrev main_call0_call0_call0_v39 : Ref sig .tc := ⟨.hbm, 85, rfl⟩
abbrev main_call0_call0_call0_v40 : Ref sig .tc := ⟨.hbm, 86, rfl⟩
abbrev main_call0_call0_call0_c_9 : Ref sig .tc := ⟨.hbm, 87, rfl⟩
abbrev main_call0_call0_call0_v41 : Ref sig .tc := ⟨.hbm, 88, rfl⟩
abbrev main_call0_call0_call0_v42 : Ref sig .tc := ⟨.hbm, 89, rfl⟩
abbrev main_call0_call0_call0_c_10 : Ref sig .tc := ⟨.hbm, 90, rfl⟩
abbrev main_call0_call0_call0_v43 : Ref sig .tc := ⟨.hbm, 91, rfl⟩
abbrev main_call0_call0_call0_v44 : Ref sig .tc := ⟨.hbm, 92, rfl⟩
abbrev main_call0_call0_call0_v45 : Ref sig .tc := ⟨.hbm, 93, rfl⟩
abbrev main_call0_call0_call0_v46 : Ref sig .tc := ⟨.hbm, 94, rfl⟩
abbrev main_call0_call0_call0_v47 : Ref sig .tc := ⟨.hbm, 95, rfl⟩
abbrev main_call0_call0_call0_c_11 : Ref sig .tc := ⟨.hbm, 96, rfl⟩
abbrev main_call0_call0_call0_v48 : Ref sig .tc := ⟨.hbm, 97, rfl⟩
abbrev main_call0_call0_call0_v49 : Ref sig .tc := ⟨.hbm, 98, rfl⟩
abbrev main_call0_call0_call0_c_12 : Ref sig .tc := ⟨.hbm, 99, rfl⟩
abbrev main_call0_call0_call0_v50 : Ref sig .tc := ⟨.hbm, 100, rfl⟩
abbrev main_call0_call0_call0_v51 : Ref sig .tc := ⟨.hbm, 101, rfl⟩
abbrev main_call0_call0_call0_v52 : Ref sig .tc := ⟨.hbm, 102, rfl⟩
abbrev main_call0_call0_call0_v53 : Ref sig .tc := ⟨.hbm, 103, rfl⟩
abbrev main_call0_call0_call0_v54 : Ref sig .tc := ⟨.hbm, 104, rfl⟩
abbrev main_call0_call0_call0_c_13 : Ref sig .tc := ⟨.hbm, 105, rfl⟩
abbrev main_call0_call0_call0_v55 : Ref sig .tc := ⟨.hbm, 106, rfl⟩
abbrev main_call0_call0_call0_v56 : Ref sig .tc := ⟨.hbm, 107, rfl⟩
abbrev main_call0_call0_call0_c_14 : Ref sig .tc := ⟨.hbm, 108, rfl⟩
abbrev main_call0_call0_call0_v57 : Ref sig .tc := ⟨.hbm, 109, rfl⟩
abbrev main_call0_call0_call0_v58 : Ref sig .tc := ⟨.hbm, 110, rfl⟩
abbrev main_call0_call0_call0_v59 : Ref sig .tc := ⟨.hbm, 111, rfl⟩
abbrev main_call0_call0_call0_v60 : Ref sig .tc := ⟨.hbm, 112, rfl⟩
abbrev main_call0_call0_call0_v61 : Ref sig .tc := ⟨.hbm, 113, rfl⟩
abbrev main_call0_call0_call0_c_15 : Ref sig .tc := ⟨.hbm, 114, rfl⟩
abbrev main_call0_call0_call0_v62 : Ref sig .tc := ⟨.hbm, 115, rfl⟩
abbrev main_call0_call0_call0_v63 : Ref sig .tc := ⟨.hbm, 116, rfl⟩
abbrev main_call0_call0_call0_c_16 : Ref sig .tc := ⟨.hbm, 117, rfl⟩
abbrev main_call0_call0_call0_v64 : Ref sig .tc := ⟨.hbm, 118, rfl⟩
abbrev main_call0_call0_call0_v65 : Ref sig .tc := ⟨.hbm, 119, rfl⟩
abbrev main_call0_call0_call0_v66 : Ref sig .tc := ⟨.hbm, 120, rfl⟩
abbrev main_call0_call0_call0_v67 : Ref sig .tc := ⟨.hbm, 121, rfl⟩
abbrev main_call0_call0_call0_v68 : Ref sig .tc := ⟨.hbm, 122, rfl⟩
abbrev main_call0_call0_call0_v69 : Ref sig .tc := ⟨.hbm, 123, rfl⟩
abbrev main_call0_call0_call0_v70 : Ref sig .tc := ⟨.hbm, 124, rfl⟩
abbrev main_call0_call0_call0_v71 : Ref sig .tc := ⟨.hbm, 125, rfl⟩
abbrev main_call0_call0_call0_c_17 : Ref sig .tc := ⟨.hbm, 126, rfl⟩
abbrev main_call0_call0_call0_v72 : Ref sig .tc := ⟨.hbm, 127, rfl⟩
abbrev main_call0_call0_call0_v73 : Ref sig .tc := ⟨.hbm, 128, rfl⟩
abbrev main_call0_call0_call0_v74 : Ref sig .tc := ⟨.hbm, 129, rfl⟩
abbrev main_call0_call0_call0_c_18 : Ref sig .tc := ⟨.hbm, 130, rfl⟩
abbrev main_call0_call0_call0_v75 : Ref sig .tc := ⟨.hbm, 131, rfl⟩
abbrev main_call0_call0_call0_v76 : Ref sig .tc := ⟨.hbm, 132, rfl⟩
abbrev main_call0_call0_call0_c_19 : Ref sig .tc := ⟨.hbm, 133, rfl⟩
abbrev main_call0_call0_call0_v77 : Ref sig .tc := ⟨.hbm, 134, rfl⟩
abbrev main_call0_call0_call0_v78 : Ref sig .tc := ⟨.hbm, 135, rfl⟩
abbrev main_call0_call0_call0_v79 : Ref sig .tc := ⟨.hbm, 136, rfl⟩
abbrev main_call0_call0_call0_v80 : Ref sig .tc := ⟨.hbm, 137, rfl⟩
abbrev main_call0_call0_call0_v81 : Ref sig .tc := ⟨.hbm, 138, rfl⟩
abbrev main_call0_call0_call0_c_20 : Ref sig .tc := ⟨.hbm, 139, rfl⟩
abbrev main_call0_call0_call0_v82 : Ref sig .tc := ⟨.hbm, 140, rfl⟩
abbrev main_call0_call0_call0_v83 : Ref sig .tc := ⟨.hbm, 141, rfl⟩
abbrev main_call0_call0_call0_c_21 : Ref sig .tc := ⟨.hbm, 142, rfl⟩
abbrev main_call0_call0_call0_v84 : Ref sig .tc := ⟨.hbm, 143, rfl⟩
abbrev main_call0_call0_call0_v85 : Ref sig .tc := ⟨.hbm, 144, rfl⟩
abbrev main_call0_call0_call0_v86 : Ref sig .tc := ⟨.hbm, 145, rfl⟩
abbrev main_call0_call0_call0_v87 : Ref sig .tc := ⟨.hbm, 146, rfl⟩
abbrev main_call0_call0_call0_v88 : Ref sig .tc := ⟨.hbm, 147, rfl⟩
abbrev main_call0_call0_call0_c_22 : Ref sig .tc := ⟨.hbm, 148, rfl⟩
abbrev main_call0_call0_call0_v89 : Ref sig .tc := ⟨.hbm, 149, rfl⟩
abbrev main_call0_call0_call0_v90 : Ref sig .tc := ⟨.hbm, 150, rfl⟩
abbrev main_call0_call0_call0_c_23 : Ref sig .tc := ⟨.hbm, 151, rfl⟩
abbrev main_call0_call0_call0_v91 : Ref sig .tc := ⟨.hbm, 152, rfl⟩
abbrev main_call0_call0_call0_v92 : Ref sig .tc := ⟨.hbm, 153, rfl⟩
abbrev main_call0_call0_call0_v93 : Ref sig .tc := ⟨.hbm, 154, rfl⟩
abbrev main_call0_call0_call0_v94 : Ref sig .tc := ⟨.hbm, 155, rfl⟩
abbrev main_call0_call0_call0_v95 : Ref sig .tc := ⟨.hbm, 156, rfl⟩
abbrev main_call0_call0_call0_c_24 : Ref sig .tc := ⟨.hbm, 157, rfl⟩
abbrev main_call0_call0_call0_v96 : Ref sig .tc := ⟨.hbm, 158, rfl⟩
abbrev main_call0_call0_call0_v97 : Ref sig .tc := ⟨.hbm, 159, rfl⟩
abbrev main_call0_call0_call0_c_25 : Ref sig .tc := ⟨.hbm, 160, rfl⟩
abbrev main_call0_call0_call0_v98 : Ref sig .tc := ⟨.hbm, 161, rfl⟩
abbrev main_call0_call0_call0_v99 : Ref sig .tc := ⟨.hbm, 162, rfl⟩
abbrev main_call0_call0_call0_v100 : Ref sig .tc := ⟨.hbm, 163, rfl⟩
abbrev main_call0_call0_call0_v101 : Ref sig .tc := ⟨.hbm, 164, rfl⟩
abbrev main_call0_call0_call0_v102 : Ref sig .tc := ⟨.hbm, 165, rfl⟩
abbrev main_call0_call0_call0_v103 : Ref sig .tc := ⟨.hbm, 166, rfl⟩
abbrev main_call0_call0_call0_v104 : Ref sig .tc := ⟨.hbm, 167, rfl⟩
abbrev main_call0_call0_call0_v105 : Ref sig .tc := ⟨.hbm, 168, rfl⟩
abbrev main_call0_call0_call0_c_26 : Ref sig .tc := ⟨.hbm, 169, rfl⟩
abbrev main_call0_call0_call0_v106 : Ref sig .tc := ⟨.hbm, 170, rfl⟩
abbrev main_call0_call0_call0_v107 : Ref sig .tc := ⟨.hbm, 171, rfl⟩
abbrev main_call0_call0_call0_v108 : Ref sig .tc := ⟨.hbm, 172, rfl⟩
abbrev main_call0_call0_call0_c_27 : Ref sig .tc := ⟨.hbm, 173, rfl⟩
abbrev main_call0_call0_call0_v109 : Ref sig .tc := ⟨.hbm, 174, rfl⟩
abbrev main_call0_call0_call0_v110 : Ref sig .tc := ⟨.hbm, 175, rfl⟩
abbrev main_call0_call0_call0_c_28 : Ref sig .tc := ⟨.hbm, 176, rfl⟩
abbrev main_call0_call0_call0_v111 : Ref sig .tc := ⟨.hbm, 177, rfl⟩
abbrev main_call0_call0_call0_v112 : Ref sig .tc := ⟨.hbm, 178, rfl⟩
abbrev main_call0_call0_call0_v113 : Ref sig .tc := ⟨.hbm, 179, rfl⟩
abbrev main_call0_call0_call0_v114 : Ref sig .tc := ⟨.hbm, 180, rfl⟩
abbrev main_call0_call0_call0_v115 : Ref sig .tc := ⟨.hbm, 181, rfl⟩
abbrev main_call0_call0_call0_c_29 : Ref sig .tc := ⟨.hbm, 182, rfl⟩
abbrev main_call0_call0_call0_v116 : Ref sig .tc := ⟨.hbm, 183, rfl⟩
abbrev main_call0_call0_call0_v117 : Ref sig .tc := ⟨.hbm, 184, rfl⟩
abbrev main_call0_call0_call0_c_30 : Ref sig .tc := ⟨.hbm, 185, rfl⟩
abbrev main_call0_call0_call0_v118 : Ref sig .tc := ⟨.hbm, 186, rfl⟩
abbrev main_call0_call0_call0_v119 : Ref sig .tc := ⟨.hbm, 187, rfl⟩
abbrev main_call0_call0_call0_v120 : Ref sig .tc := ⟨.hbm, 188, rfl⟩
abbrev main_call0_call0_call0_v121 : Ref sig .tc := ⟨.hbm, 189, rfl⟩
abbrev main_call0_call0_call0_v122 : Ref sig .tc := ⟨.hbm, 190, rfl⟩
abbrev main_call0_call0_call0_c_31 : Ref sig .tc := ⟨.hbm, 191, rfl⟩
abbrev main_call0_call0_call0_v123 : Ref sig .tc := ⟨.hbm, 192, rfl⟩
abbrev main_call0_call0_call0_v124 : Ref sig .tc := ⟨.hbm, 193, rfl⟩
abbrev main_call0_call0_call0_c_32 : Ref sig .tc := ⟨.hbm, 194, rfl⟩
abbrev main_call0_call0_call0_v125 : Ref sig .tc := ⟨.hbm, 195, rfl⟩
abbrev main_call0_call0_call0_v126 : Ref sig .tc := ⟨.hbm, 196, rfl⟩
abbrev main_call0_call0_call0_v127 : Ref sig .tc := ⟨.hbm, 197, rfl⟩
abbrev main_call0_call0_call0_v128 : Ref sig .tc := ⟨.hbm, 198, rfl⟩
abbrev main_call0_call0_call0_v129 : Ref sig .tc := ⟨.hbm, 199, rfl⟩
abbrev main_call0_call0_call0_c_33 : Ref sig .tc := ⟨.hbm, 200, rfl⟩
abbrev main_call0_call0_call0_v130 : Ref sig .tc := ⟨.hbm, 201, rfl⟩
abbrev main_call0_call0_call0_v131 : Ref sig .tc := ⟨.hbm, 202, rfl⟩
abbrev main_call0_call0_call0_c_34 : Ref sig .tc := ⟨.hbm, 203, rfl⟩
abbrev main_call0_call0_call0_v132 : Ref sig .tc := ⟨.hbm, 204, rfl⟩
abbrev main_call0_call0_call0_v133 : Ref sig .tc := ⟨.hbm, 205, rfl⟩
abbrev main_call0_call0_call0_v134 : Ref sig .tc := ⟨.hbm, 206, rfl⟩
abbrev main_call0_call0_call0_v135 : Ref sig .tc := ⟨.hbm, 207, rfl⟩
abbrev main_call0_call0_call0_v136 : Ref sig .tc := ⟨.hbm, 208, rfl⟩
abbrev main_call0_call0_call0_v137 : Ref sig .tc := ⟨.hbm, 209, rfl⟩
abbrev main_call0_call0_call0_v138 : Ref sig .tc := ⟨.hbm, 210, rfl⟩
abbrev main_call0_call0_call0_v139 : Ref sig .tc := ⟨.hbm, 211, rfl⟩
abbrev main_call0_call0_call0_c_35 : Ref sig .tc := ⟨.hbm, 212, rfl⟩
abbrev main_call0_call0_call0_v140 : Ref sig .tc := ⟨.hbm, 213, rfl⟩
abbrev main_call0_call0_call0_v141 : Ref sig .tc := ⟨.hbm, 214, rfl⟩
abbrev main_call0_call0_call0_v142 : Ref sig .tc := ⟨.hbm, 215, rfl⟩
abbrev main_call0_call0_call0_c_36 : Ref sig .tc := ⟨.hbm, 216, rfl⟩
abbrev main_call0_call0_call0_v143 : Ref sig .tc := ⟨.hbm, 217, rfl⟩
abbrev main_call0_call0_call0_v144 : Ref sig .tc := ⟨.hbm, 218, rfl⟩
abbrev main_call0_call0_call0_c_37 : Ref sig .tc := ⟨.hbm, 219, rfl⟩
abbrev main_call0_call0_call0_v145 : Ref sig .tc := ⟨.hbm, 220, rfl⟩
abbrev main_call0_call0_call0_v146 : Ref sig .tc := ⟨.hbm, 221, rfl⟩
abbrev main_call0_call0_call0_v147 : Ref sig .tc := ⟨.hbm, 222, rfl⟩
abbrev main_call0_call0_call0_v148 : Ref sig .tc := ⟨.hbm, 223, rfl⟩
abbrev main_call0_call0_call0_v149 : Ref sig .tc := ⟨.hbm, 224, rfl⟩
abbrev main_call0_call0_call0_c_38 : Ref sig .tc := ⟨.hbm, 225, rfl⟩
abbrev main_call0_call0_call0_v150 : Ref sig .tc := ⟨.hbm, 226, rfl⟩
abbrev main_call0_call0_call0_v151 : Ref sig .tc := ⟨.hbm, 227, rfl⟩
abbrev main_call0_call0_call0_c_39 : Ref sig .tc := ⟨.hbm, 228, rfl⟩
abbrev main_call0_call0_call0_v152 : Ref sig .tc := ⟨.hbm, 229, rfl⟩
abbrev main_call0_call0_call0_v153 : Ref sig .tc := ⟨.hbm, 230, rfl⟩
abbrev main_call0_call0_call0_v154 : Ref sig .tc := ⟨.hbm, 231, rfl⟩
abbrev main_call0_call0_call0_v155 : Ref sig .tc := ⟨.hbm, 232, rfl⟩
abbrev main_call0_call0_call0_v156 : Ref sig .tc := ⟨.hbm, 233, rfl⟩
abbrev main_call0_call0_call0_c_40 : Ref sig .tc := ⟨.hbm, 234, rfl⟩
abbrev main_call0_call0_call0_v157 : Ref sig .tc := ⟨.hbm, 235, rfl⟩
abbrev main_call0_call0_call0_v158 : Ref sig .tc := ⟨.hbm, 236, rfl⟩
abbrev main_call0_call0_call0_c_41 : Ref sig .tc := ⟨.hbm, 237, rfl⟩
abbrev main_call0_call0_call0_v159 : Ref sig .tc := ⟨.hbm, 238, rfl⟩
abbrev main_call0_call0_call0_v160 : Ref sig .tc := ⟨.hbm, 239, rfl⟩
abbrev main_call0_call0_call0_v161 : Ref sig .tc := ⟨.hbm, 240, rfl⟩
abbrev main_call0_call0_call0_v162 : Ref sig .tc := ⟨.hbm, 241, rfl⟩
abbrev main_call0_call0_call0_v163 : Ref sig .tc := ⟨.hbm, 242, rfl⟩
abbrev main_call0_call0_call0_c_42 : Ref sig .tc := ⟨.hbm, 243, rfl⟩
abbrev main_call0_call0_call0_v164 : Ref sig .tc := ⟨.hbm, 244, rfl⟩
abbrev main_call0_call0_call0_v165 : Ref sig .tc := ⟨.hbm, 245, rfl⟩
abbrev main_call0_call0_call0_c_43 : Ref sig .tc := ⟨.hbm, 246, rfl⟩
abbrev main_call0_call0_call0_v166 : Ref sig .tc := ⟨.hbm, 247, rfl⟩
abbrev main_call0_call0_call0_v167 : Ref sig .tc := ⟨.hbm, 248, rfl⟩
abbrev main_call0_call0_call0_v168 : Ref sig .tc := ⟨.hbm, 249, rfl⟩
abbrev main_call0_call0_call0_v169 : Ref sig .tc := ⟨.hbm, 250, rfl⟩
abbrev main_call0_call0_call0_v170 : Ref sig .tc := ⟨.hbm, 251, rfl⟩
abbrev main_call0_call0_v19_0 : Ref sig .tc := ⟨.hbm, 252, rfl⟩
abbrev main_call0_call0_call0_v172 : Ref sig .tc := ⟨.hbm, 253, rfl⟩
abbrev main_call0_call0_call0_v173 : Ref sig .tc := ⟨.hbm, 254, rfl⟩
abbrev main_call0_call0_call0_c_44 : Ref sig .tc := ⟨.hbm, 255, rfl⟩
abbrev main_call0_call0_call0_v174 : Ref sig .tc := ⟨.hbm, 256, rfl⟩
abbrev main_call0_call0_v19_1 : Ref sig .tc := ⟨.hbm, 257, rfl⟩
abbrev main_call0_call0_v20 : Ref sig .tc := ⟨.hbm, 258, rfl⟩
abbrev main_call0_call0_c_2 : Ref sig .tc := ⟨.hbm, 259, rfl⟩
abbrev main_call0_call0_v21 : Ref sig .tc := ⟨.hbm, 260, rfl⟩
abbrev main_call0_call0_v22 : Ref sig .tc := ⟨.hbm, 261, rfl⟩
abbrev main_call0_call0_c_3 : Ref sig .tc := ⟨.hbm, 262, rfl⟩
abbrev main_call0_call0_v23 : Ref sig .tc := ⟨.hbm, 263, rfl⟩
abbrev main_call0_call0_v24 : Ref sig .tc := ⟨.hbm, 264, rfl⟩
abbrev main_call0_call0_v25 : Ref sig .tc := ⟨.hbm, 265, rfl⟩
abbrev main_call0_call0_cst : Ref sig .tc := ⟨.hbm, 266, rfl⟩
abbrev main_call0_call0_v26 : Ref sig .tc := ⟨.hbm, 267, rfl⟩
abbrev main_call0_call0_v27 : Ref sig .tc := ⟨.hbm, 268, rfl⟩
abbrev main_call0_call0_v28 : Ref sig .tc := ⟨.hbm, 269, rfl⟩
abbrev main_call0_call0_v29 : Ref sig .tc := ⟨.hbm, 270, rfl⟩
abbrev main_call0_call0_v30 : Ref sig .tc := ⟨.hbm, 271, rfl⟩
abbrev main_call0_call0_v31 : Ref sig .tc := ⟨.hbm, 272, rfl⟩
abbrev main_call0_call0_v32 : Ref sig .tc := ⟨.hbm, 273, rfl⟩
abbrev main_call0_call0_v33 : Ref sig .tc := ⟨.hbm, 274, rfl⟩
abbrev main_call0_v7 : Ref sig .tc := ⟨.hbm, 275, rfl⟩
abbrev main_call0_v8 : Ref sig .tc := ⟨.hbm, 276, rfl⟩
abbrev main_v0_0 : Ref sig .tc := ⟨.hbm, 277, rfl⟩
abbrev main_v0_1 : Ref sig .tc := ⟨.hbm, 278, rfl⟩
abbrev main_v0_2 : Ref sig .tc := ⟨.hbm, 279, rfl⟩
abbrev main_v0_3 : Ref sig .tc := ⟨.hbm, 280, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== ReferenceIdeal.lean ====
abbrev S4x2048x4096 : Shape := ⟨3, ![4, 2048, 4096]⟩
abbrev S4096x16 : Shape := ⟨2, ![4096, 16]⟩
abbrev S4x2048x16 : Shape := ⟨3, ![4, 2048, 16]⟩
abbrev S_ : Shape := ⟨0, ![]⟩
abbrev S4x2048 : Shape := ⟨2, ![4, 2048]⟩
abbrev S4x2048x1 : Shape := ⟨3, ![4, 2048, 1]⟩
abbrev S4x2048x2 : Shape := ⟨3, ![4, 2048, 2]⟩
abbrev S1x1x16 : Shape := ⟨3, ![1, 1, 16]⟩
abbrev S4x16 : Shape := ⟨2, ![4, 16]⟩
abbrev S1 : Shape := ⟨1, ![1]⟩
abbrev S2 : Shape := ⟨1, ![2]⟩
abbrev S1x1 : Shape := ⟨2, ![1, 1]⟩
abbrev S4x1x16 : Shape := ⟨3, ![4, 1, 16]⟩
abbrev S1x1x160 : Shape := ⟨3, ![1, 1, 160]⟩
abbrev S4x2048x160 : Shape := ⟨3, ![4, 2048, 160]⟩
abbrev S4x2048x1x1 : Shape := ⟨4, ![4, 2048, 1, 1]⟩
abbrev S4x2048x16x1 : Shape := ⟨4, ![4, 2048, 16, 1]⟩
abbrev S4x2048x1x160 : Shape := ⟨4, ![4, 2048, 1, 160]⟩
abbrev S4x2048x16x160 : Shape := ⟨4, ![4, 2048, 16, 160]⟩
abbrev S4 : Shape := ⟨1, ![4]⟩
abbrev S4x2048x2560 : Shape := ⟨3, ![4, 2048, 2560]⟩

abbrev nBuf : Space → Nat
  | .hbm => 453
  | .vmem => 0
  | .smem => 0
  | _ => 0

abbrev hbmTy0_0 (i : Nat) : BufTy := match i % 128 with
  | 0 => ⟨S4x2048x4096, .f32⟩
  | 1 => ⟨S4096x16, .f32⟩
  | 2 => ⟨S4x2048x16, .f32⟩
  | 3 => ⟨S_, .f32⟩
  | 4 => ⟨S4x2048, .f32⟩
  | 5 => ⟨S_, .f32⟩
  | 6 => ⟨S4x2048, .f32⟩
  | 7 => ⟨S4x2048, .f32⟩
  | 8 => ⟨S4x2048x1, .f32⟩
  | 9 => ⟨S4x2048x16, .f32⟩
  | 10 => ⟨S4x2048x16, .f32⟩
  | 11 => ⟨S4x2048x16, .f32⟩
  | 12 => ⟨S_, .f32⟩
  | 13 => ⟨S4x2048, .f32⟩
  | 14 => ⟨S4x2048x1, .f32⟩
  | 15 => ⟨S4x2048x16, .f32⟩
  | 16 => ⟨S4x2048x16, .f32⟩
  | 17 => ⟨S4x2048x2, .f32⟩
  | 18 => ⟨S4x2048x2, .i32⟩
  | 19 => ⟨S4x2048x1, .f32⟩
  | 20 => ⟨S4x2048, .f32⟩
  | 21 => ⟨S4x2048x1, .f32⟩
  | 22 => ⟨S4x2048, .f32⟩
  | 23 => ⟨S4x2048x1, .i32⟩
  | 24 => ⟨S4x2048, .i32⟩
  | 25 => ⟨S4x2048x1, .i32⟩
  | 26 => ⟨S4x2048, .i32⟩
  | 27 => ⟨S4x2048x1, .i32⟩
  | 28 => ⟨S1x1x16, .i32⟩
  | 29 => ⟨S4x2048x16, .i32⟩
  | 30 => ⟨S4x2048x16, .i32⟩
  | 31 => ⟨S4x2048x16, .i1⟩
  | 32 => ⟨S4x2048x16, .f32⟩
  | 33 => ⟨S4x2048x1, .i32⟩
  | 34 => ⟨S1x1x16, .i32⟩
  | 35 => ⟨S4x2048x16, .i32⟩
  | 36 => ⟨S4x2048x16, .i32⟩
  | 37 => ⟨S4x2048x16, .i1⟩
  | 38 => ⟨S4x2048x16, .f32⟩
  | 39 => ⟨S4x2048, .f32⟩
  | 40 => ⟨S_, .f32⟩
  | 41 => ⟨S4x2048, .f32⟩
  | 42 => ⟨S4x2048, .f32⟩
  | 43 => ⟨S4x2048, .f32⟩
  | 44 => ⟨S4x2048, .f32⟩
  | 45 => ⟨S_, .f32⟩
  | 46 => ⟨S4x16, .f32⟩
  | 47 => ⟨S_, .f32⟩
  | 48 => ⟨S4x16, .f32⟩
  | 49 => ⟨S4x16, .f32⟩
  | 50 => ⟨S_, .f32⟩
  | 51 => ⟨S4x16, .f32⟩
  | 52 => ⟨S_, .f32⟩
  | 53 => ⟨S4x16, .f32⟩
  | 54 => ⟨S4x16, .f32⟩
  | 55 => ⟨S4x16, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .i32⟩
  | 63 => ⟨S_, .i32⟩
  | 64 => ⟨S_, .i32⟩
  | 65 => ⟨S_, .i32⟩
  | 66 => ⟨S1, .i32⟩
  | 67 => ⟨S_, .i32⟩
  | 68 => ⟨S_, .i32⟩
  | 69 => ⟨S_, .i32⟩
  | 70 => ⟨S1, .i32⟩
  | 71 => ⟨S2, .i32⟩
  | 72 => ⟨S_, .f32⟩
  | 73 => ⟨S_, .f32⟩
  | 74 => ⟨S_, .f32⟩
  | 75 => ⟨S_, .f32⟩
  | 76 => ⟨S1x1, .f32⟩
  | 77 => ⟨S1x1, .f32⟩
  | 78 => ⟨S1, .i32⟩
  | 79 => ⟨S_, .i32⟩
  | 80 => ⟨S1, .i32⟩
  | 81 => ⟨S_, .i32⟩
  | 82 => ⟨S4x2048, .i64⟩
  | 83 => ⟨S4x2048, .i64⟩
  | 84 => ⟨S_, .i64⟩
  | 85 => ⟨S4x2048, .i64⟩
  | 86 => ⟨S4x2048, .i64⟩
  | 87 => ⟨S_, .i64⟩
  | 88 => ⟨S4x2048, .i64⟩
  | 89 => ⟨S4x2048, .i64⟩
  | 90 => ⟨S4x2048, .i64⟩
  | 91 => ⟨S_, .i64⟩
  | 92 => ⟨S4x2048, .i64⟩
  | 93 => ⟨S4x2048, .i64⟩
  | 94 => ⟨S4x2048, .i32⟩
  | 95 => ⟨S4x2048, .i32⟩
  | 96 => ⟨S_, .i32⟩
  | 97 => ⟨S_, .i32⟩
  | 98 => ⟨S_, .i32⟩
  | 99 => ⟨S4x2048, .i32⟩
  | 100 => ⟨S4x2048, .i32⟩
  | 101 => ⟨S4x2048, .i32⟩
  | 102 => ⟨S4x2048, .i32⟩
  | 103 => ⟨S4x2048, .i32⟩
  | 104 => ⟨S_, .i32⟩
  | 105 => ⟨S4x2048, .i32⟩
  | 106 => ⟨S4x2048, .i32⟩
  | 107 => ⟨S_, .i32⟩
  | 108 => ⟨S4x2048, .i32⟩
  | 109 => ⟨S4x2048, .i32⟩
  | 110 => ⟨S4x2048, .i32⟩
  | 111 => ⟨S4x2048, .i32⟩
  | 112 => ⟨S4x2048, .i32⟩
  | 113 => ⟨S_, .i32⟩
  | 114 => ⟨S4x2048, .i32⟩
  | 115 => ⟨S4x2048, .i32⟩
  | 116 => ⟨S_, .i32⟩
  | 117 => ⟨S4x2048, .i32⟩
  | 118 => ⟨S4x2048, .i32⟩
  | 119 => ⟨S4x2048, .i32⟩
  | 120 => ⟨S4x2048, .i32⟩
  | 121 => ⟨S4x2048, .i32⟩
  | 122 => ⟨S_, .i32⟩
  | 123 => ⟨S4x2048, .i32⟩
  | 124 => ⟨S4x2048, .i32⟩
  | 125 => ⟨S_, .i32⟩
  | 126 => ⟨S4x2048, .i32⟩
  | 127 => ⟨S4x2048, .i32⟩
  | _ => ⟨S4x2048x4096, .f32⟩

abbrev hbmTy0_1 (i : Nat) : BufTy := match i % 128 with
  | 0 => ⟨S4x2048, .i32⟩
  | 1 => ⟨S4x2048, .i32⟩
  | 2 => ⟨S4x2048, .i32⟩
  | 3 => ⟨S_, .i32⟩
  | 4 => ⟨S4x2048, .i32⟩
  | 5 => ⟨S4x2048, .i32⟩
  | 6 => ⟨S_, .i32⟩
  | 7 => ⟨S4x2048, .i32⟩
  | 8 => ⟨S4x2048, .i32⟩
  | 9 => ⟨S4x2048, .i32⟩
  | 10 => ⟨S4x2048, .i32⟩
  | 11 => ⟨S4x2048, .i32⟩
  | 12 => ⟨S4x2048, .i32⟩
  | 13 => ⟨S4x2048, .i32⟩
  | 14 => ⟨S4x2048, .i32⟩
  | 15 => ⟨S_, .i32⟩
  | 16 => ⟨S4x2048, .i32⟩
  | 17 => ⟨S4x2048, .i32⟩
  | 18 => ⟨S4x2048, .i32⟩
  | 19 => ⟨S_, .i32⟩
  | 20 => ⟨S4x2048, .i32⟩
  | 21 => ⟨S4x2048, .i32⟩
  | 22 => ⟨S_, .i32⟩
  | 23 => ⟨S4x2048, .i32⟩
  | 24 => ⟨S4x2048, .i32⟩
  | 25 => ⟨S4x2048, .i32⟩
  | 26 => ⟨S4x2048, .i32⟩
  | 27 => ⟨S4x2048, .i32⟩
  | 28 => ⟨S_, .i32⟩
  | 29 => ⟨S4x2048, .i32⟩
  | 30 => ⟨S4x2048, .i32⟩
  | 31 => ⟨S_, .i32⟩
  | 32 => ⟨S4x2048, .i32⟩
  | 33 => ⟨S4x2048, .i32⟩
  | 34 => ⟨S4x2048, .i32⟩
  | 35 => ⟨S4x2048, .i32⟩
  | 36 => ⟨S4x2048, .i32⟩
  | 37 => ⟨S_, .i32⟩
  | 38 => ⟨S4x2048, .i32⟩
  | 39 => ⟨S4x2048, .i32⟩
  | 40 => ⟨S_, .i32⟩
  | 41 => ⟨S4x2048, .i32⟩
  | 42 => ⟨S4x2048, .i32⟩
  | 43 => ⟨S4x2048, .i32⟩
  | 44 => ⟨S4x2048, .i32⟩
  | 45 => ⟨S4x2048, .i32⟩
  | 46 => ⟨S_, .i32⟩
  | 47 => ⟨S4x2048, .i32⟩
  | 48 => ⟨S4x2048, .i32⟩
  | 49 => ⟨S_, .i32⟩
  | 50 => ⟨S4x2048, .i32⟩
  | 51 => ⟨S4x2048, .i32⟩
  | 52 => ⟨S4x2048, .i32⟩
  | 53 => ⟨S4x2048, .i32⟩
  | 54 => ⟨S4x2048, .i32⟩
  | 55 => ⟨S4x2048, .i32⟩
  | 56 => ⟨S4x2048, .i32⟩
  | 57 => ⟨S4x2048, .i32⟩
  | 58 => ⟨S_, .i32⟩
  | 59 => ⟨S4x2048, .i32⟩
  | 60 => ⟨S4x2048, .i32⟩
  | 61 => ⟨S4x2048, .i32⟩
  | 62 => ⟨S_, .i32⟩
  | 63 => ⟨S4x2048, .i32⟩
  | 64 => ⟨S4x2048, .i32⟩
  | 65 => ⟨S_, .i32⟩
  | 66 => ⟨S4x2048, .i32⟩
  | 67 => ⟨S4x2048, .i32⟩
  | 68 => ⟨S4x2048, .i32⟩
  | 69 => ⟨S4x2048, .i32⟩
  | 70 => ⟨S4x2048, .i32⟩
  | 71 => ⟨S_, .i32⟩
  | 72 => ⟨S4x2048, .i32⟩
  | 73 => ⟨S4x2048, .i32⟩
  | 74 => ⟨S_, .i32⟩
  | 75 => ⟨S4x2048, .i32⟩
  | 76 => ⟨S4x2048, .i32⟩
  | 77 => ⟨S4x2048, .i32⟩
  | 78 => ⟨S4x2048, .i32⟩
  | 79 => ⟨S4x2048, .i32⟩
  | 80 => ⟨S_, .i32⟩
  | 81 => ⟨S4x2048, .i32⟩
  | 82 => ⟨S4x2048, .i32⟩
  | 83 => ⟨S_, .i32⟩
  | 84 => ⟨S4x2048, .i32⟩
  | 85 => ⟨S4x2048, .i32⟩
  | 86 => ⟨S4x2048, .i32⟩
  | 87 => ⟨S4x2048, .i32⟩
  | 88 => ⟨S4x2048, .i32⟩
  | 89 => ⟨S_, .i32⟩
  | 90 => ⟨S4x2048, .i32⟩
  | 91 => ⟨S4x2048, .i32⟩
  | 92 => ⟨S_, .i32⟩
  | 93 => ⟨S4x2048, .i32⟩
  | 94 => ⟨S4x2048, .i32⟩
  | 95 => ⟨S4x2048, .i32⟩
  | 96 => ⟨S4x2048, .i32⟩
  | 97 => ⟨S4x2048, .i32⟩
  | 98 => ⟨S4x2048, .i32⟩
  | 99 => ⟨S4x2048, .i32⟩
  | 100 => ⟨S4x2048, .i32⟩
  | 101 => ⟨S_, .i32⟩
  | 102 => ⟨S4x2048, .i32⟩
  | 103 => ⟨S4x2048, .i32⟩
  | 104 => ⟨S4x2048, .i32⟩
  | 105 => ⟨S_, .i32⟩
  | 106 => ⟨S4x2048, .i32⟩
  | 107 => ⟨S4x2048, .i32⟩
  | 108 => ⟨S_, .i32⟩
  | 109 => ⟨S4x2048, .i32⟩
  | 110 => ⟨S4x2048, .i32⟩
  | 111 => ⟨S4x2048, .i32⟩
  | 112 => ⟨S4x2048, .i32⟩
  | 113 => ⟨S4x2048, .i32⟩
  | 114 => ⟨S_, .i32⟩
  | 115 => ⟨S4x2048, .i32⟩
  | 116 => ⟨S4x2048, .i32⟩
  | 117 => ⟨S_, .i32⟩
  | 118 => ⟨S4x2048, .i32⟩
  | 119 => ⟨S4x2048, .i32⟩
  | 120 => ⟨S4x2048, .i32⟩
  | 121 => ⟨S4x2048, .i32⟩
  | 122 => ⟨S4x2048, .i32⟩
  | 123 => ⟨S_, .i32⟩
  | 124 => ⟨S4x2048, .i32⟩
  | 125 => ⟨S4x2048, .i32⟩
  | 126 => ⟨S_, .i32⟩
  | 127 => ⟨S4x2048, .i32⟩
  | _ => ⟨S4x2048x4096, .f32⟩

abbrev hbmTy0_2 (i : Nat) : BufTy := match i % 128 with
  | 0 => ⟨S4x2048, .i32⟩
  | 1 => ⟨S4x2048, .i32⟩
  | 2 => ⟨S4x2048, .i32⟩
  | 3 => ⟨S4x2048, .i32⟩
  | 4 => ⟨S_, .i32⟩
  | 5 => ⟨S4x2048, .i32⟩
  | 6 => ⟨S4x2048, .i32⟩
  | 7 => ⟨S_, .i32⟩
  | 8 => ⟨S4x2048, .i32⟩
  | 9 => ⟨S4x2048, .i32⟩
  | 10 => ⟨S4x2048, .i32⟩
  | 11 => ⟨S4x2048, .i32⟩
  | 12 => ⟨S4x2048, .i32⟩
  | 13 => ⟨S4x2048, .i32⟩
  | 14 => ⟨S4x2048, .i32⟩
  | 15 => ⟨S4x2048, .i32⟩
  | 16 => ⟨S_, .i32⟩
  | 17 => ⟨S4x2048, .i32⟩
  | 18 => ⟨S4x2048, .i32⟩
  | 19 => ⟨S4x2048, .i32⟩
  | 20 => ⟨S_, .i32⟩
  | 21 => ⟨S4x2048, .i32⟩
  | 22 => ⟨S4x2048, .i32⟩
  | 23 => ⟨S_, .i32⟩
  | 24 => ⟨S4x2048, .i32⟩
  | 25 => ⟨S4x2048, .i32⟩
  | 26 => ⟨S4x2048, .i32⟩
  | 27 => ⟨S4x2048, .i32⟩
  | 28 => ⟨S4x2048, .i32⟩
  | 29 => ⟨S_, .i32⟩
  | 30 => ⟨S4x2048, .i32⟩
  | 31 => ⟨S4x2048, .i32⟩
  | 32 => ⟨S_, .i32⟩
  | 33 => ⟨S4x2048, .i32⟩
  | 34 => ⟨S4x2048, .i32⟩
  | 35 => ⟨S4x2048, .i32⟩
  | 36 => ⟨S4x2048, .i32⟩
  | 37 => ⟨S4x2048, .i32⟩
  | 38 => ⟨S_, .i32⟩
  | 39 => ⟨S4x2048, .i32⟩
  | 40 => ⟨S4x2048, .i32⟩
  | 41 => ⟨S_, .i32⟩
  | 42 => ⟨S4x2048, .i32⟩
  | 43 => ⟨S4x2048, .i32⟩
  | 44 => ⟨S4x2048, .i32⟩
  | 45 => ⟨S4x2048, .i32⟩
  | 46 => ⟨S4x2048, .i32⟩
  | 47 => ⟨S_, .i32⟩
  | 48 => ⟨S4x2048, .i32⟩
  | 49 => ⟨S4x2048, .i32⟩
  | 50 => ⟨S_, .i32⟩
  | 51 => ⟨S4x2048, .i32⟩
  | 52 => ⟨S4x2048, .i32⟩
  | 53 => ⟨S4x2048, .i32⟩
  | 54 => ⟨S4x2048, .i32⟩
  | 55 => ⟨S4x2048, .i32⟩
  | 56 => ⟨S4x2048, .i32⟩
  | 57 => ⟨S4x2048, .i32⟩
  | 58 => ⟨S4x2048, .i32⟩
  | 59 => ⟨S_, .i32⟩
  | 60 => ⟨S4x2048, .i32⟩
  | 61 => ⟨S4x2048, .i32⟩
  | 62 => ⟨S4x2048, .i32⟩
  | 63 => ⟨S_, .i32⟩
  | 64 => ⟨S4x2048, .i32⟩
  | 65 => ⟨S4x2048, .i32⟩
  | 66 => ⟨S_, .i32⟩
  | 67 => ⟨S4x2048, .i32⟩
  | 68 => ⟨S4x2048, .i32⟩
  | 69 => ⟨S4x2048, .f32⟩
  | 70 => ⟨S_, .f32⟩
  | 71 => ⟨S4x2048, .f32⟩
  | 72 => ⟨S4x2048, .f32⟩
  | 73 => ⟨S1x1, .f32⟩
  | 74 => ⟨S4x2048, .f32⟩
  | 75 => ⟨S4x2048, .f32⟩
  | 76 => ⟨S4x2048, .f32⟩
  | 77 => ⟨S4x2048, .f32⟩
  | 78 => ⟨S4x2048, .f32⟩
  | 79 => ⟨S4x2048, .f32⟩
  | 80 => ⟨S_, .f32⟩
  | 81 => ⟨S4x2048, .f32⟩
  | 82 => ⟨S4x2048, .f32⟩
  | 83 => ⟨S4x2048, .i1⟩
  | 84 => ⟨S4x2048, .f32⟩
  | 85 => ⟨S4x2048x1, .f32⟩
  | 86 => ⟨S4x2048x16, .f32⟩
  | 87 => ⟨S4x2048x16, .f32⟩
  | 88 => ⟨S_, .f32⟩
  | 89 => ⟨S_, .f32⟩
  | 90 => ⟨S4x2048x16, .f32⟩
  | 91 => ⟨S4x2048x16, .f32⟩
  | 92 => ⟨S4x2048x16, .f32⟩
  | 93 => ⟨S_, .f32⟩
  | 94 => ⟨S4x2048x16, .f32⟩
  | 95 => ⟨S4x2048x16, .i1⟩
  | 96 => ⟨S4x2048x16, .f32⟩
  | 97 => ⟨S4x2048x16, .f32⟩
  | 98 => ⟨S_, .f32⟩
  | 99 => ⟨S4x16, .f32⟩
  | 100 => ⟨S4x1x16, .f32⟩
  | 101 => ⟨S_, .f32⟩
  | 102 => ⟨S4x1x16, .f32⟩
  | 103 => ⟨S4x1x16, .f32⟩
  | 104 => ⟨S_, .f32⟩
  | 105 => ⟨S4x2048, .f32⟩
  | 106 => ⟨S_, .f32⟩
  | 107 => ⟨S4x2048, .f32⟩
  | 108 => ⟨S4x2048, .f32⟩
  | 109 => ⟨S_, .f32⟩
  | 110 => ⟨S_, .f32⟩
  | 111 => ⟨S4x2048x16, .f32⟩
  | 112 => ⟨S4x2048x16, .f32⟩
  | 113 => ⟨S4x2048x16, .f32⟩
  | 114 => ⟨S4x2048x16, .f32⟩
  | 115 => ⟨S4x2048x16, .f32⟩
  | 116 => ⟨S_, .f32⟩
  | 117 => ⟨S4x2048x16, .f32⟩
  | 118 => ⟨S4x2048x16, .i1⟩
  | 119 => ⟨S4x2048x16, .f32⟩
  | 120 => ⟨S4x2048x16, .f32⟩
  | 121 => ⟨S_, .f32⟩
  | 122 => ⟨S4x2048, .f32⟩
  | 123 => ⟨S_, .f32⟩
  | 124 => ⟨S4x2048, .f32⟩
  | 125 => ⟨S4x2048, .f32⟩
  | 126 => ⟨S4x2048x1, .i32⟩
  | 127 => ⟨S1x1x16, .i32⟩
  | _ => ⟨S4x2048x4096, .f32⟩

abbrev hbmTy0_3 (i : Nat) : BufTy := match i % 128 with
  | 0 => ⟨S4x2048x16, .i32⟩
  | 1 => ⟨S4x2048x16, .i32⟩
  | 2 => ⟨S4x2048x16, .i1⟩
  | 3 => ⟨S4x2048x16, .f32⟩
  | 4 => ⟨S4x2048x1, .i32⟩
  | 5 => ⟨S1x1x16, .i32⟩
  | 6 => ⟨S4x2048x16, .i32⟩
  | 7 => ⟨S4x2048x16, .i32⟩
  | 8 => ⟨S4x2048x16, .i1⟩
  | 9 => ⟨S4x2048x16, .f32⟩
  | 10 => ⟨S4x2048, .i32⟩
  | 11 => ⟨S4x2048x1, .i32⟩
  | 12 => ⟨S1x1x160, .i32⟩
  | 13 => ⟨S4x2048x160, .i32⟩
  | 14 => ⟨S4x2048x160, .i32⟩
  | 15 => ⟨S4x2048x160, .i1⟩
  | 16 => ⟨S4x2048x160, .f32⟩
  | 17 => ⟨S4x2048, .i32⟩
  | 18 => ⟨S4x2048x1, .i32⟩
  | 19 => ⟨S1x1x160, .i32⟩
  | 20 => ⟨S4x2048x160, .i32⟩
  | 21 => ⟨S4x2048x160, .i32⟩
  | 22 => ⟨S4x2048x160, .i1⟩
  | 23 => ⟨S4x2048x160, .f32⟩
  | 24 => ⟨S4x2048x1x1, .f32⟩
  | 25 => ⟨S4x2048x1x1, .f32⟩
  | 26 => ⟨S4x2048x1x1, .f32⟩
  | 27 => ⟨S4x2048x16x1, .f32⟩
  | 28 => ⟨S4x2048x16x1, .f32⟩
  | 29 => ⟨S4x2048x16x1, .f32⟩
  | 30 => ⟨S4x2048x1x160, .f32⟩
  | 31 => ⟨S4x2048x16x160, .f32⟩
  | 32 => ⟨S4x2048x16x160, .f32⟩
  | 33 => ⟨S4x2048x16x160, .f32⟩
  | 34 => ⟨S4x2048x1x1, .f32⟩
  | 35 => ⟨S4x2048x1x1, .f32⟩
  | 36 => ⟨S4x2048x1x1, .f32⟩
  | 37 => ⟨S4x2048x16x1, .f32⟩
  | 38 => ⟨S4x2048x16x1, .f32⟩
  | 39 => ⟨S4x2048x16x1, .f32⟩
  | 40 => ⟨S4x2048x1x160, .f32⟩
  | 41 => ⟨S4x2048x16x160, .f32⟩
  | 42 => ⟨S4x2048x16x160, .f32⟩
  | 43 => ⟨S4x2048x16x160, .f32⟩
  | 44 => ⟨S4x2048x16x160, .f32⟩
  | 45 => ⟨S_, .f32⟩
  | 46 => ⟨S4x2048x16x160, .f32⟩
  | 47 => ⟨S4x2048x16x160, .i1⟩
  | 48 => ⟨S4x2048x16x160, .f32⟩
  | 49 => ⟨S_, .f32⟩
  | 50 => ⟨S4x2048, .f32⟩
  | 51 => ⟨S4x2048x1, .f32⟩
  | 52 => ⟨S4x2048x16, .f32⟩
  | 53 => ⟨S4x2048x16, .f32⟩
  | 54 => ⟨S4x2048x16, .f32⟩
  | 55 => ⟨S_, .f32⟩
  | 56 => ⟨S4x2048, .f32⟩
  | 57 => ⟨S4x2048, .f32⟩
  | 58 => ⟨S4x2048, .f32⟩
  | 59 => ⟨S_, .f32⟩
  | 60 => ⟨S4, .f32⟩
  | 61 => ⟨S_, .f32⟩
  | 62 => ⟨S_, .f32⟩
  | 63 => ⟨S_, .f32⟩
  | 64 => ⟨S_, .f32⟩
  | 65 => ⟨S4x2048x2560, .f32⟩
  | 66 => ⟨S4x2048x2560, .f32⟩
  | 67 => ⟨S1x1, .f32⟩
  | 68 => ⟨S1x1, .f32⟩
  | _ => ⟨S4x2048x4096, .f32⟩

abbrev hbmTy (i : Nat) : BufTy := match i / 128 with
  | 0 => hbmTy0_0 i
  | 1 => hbmTy0_1 i
  | 2 => hbmTy0_2 i
  | 3 => hbmTy0_3 i
  | _ => ⟨S4x2048x4096, .f32⟩

abbrev bufTy : (tb : Table) → Fin (tcTables nBuf tb) → BufTy
  | .hbm, ⟨i, _⟩ => hbmTy i
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v20 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_3 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_c : Ref sig .tc := ⟨.hbm, 62, rfl⟩
abbrev main_c_10 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_11 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_12 : Ref sig .tc := ⟨.hbm, 72, rfl⟩
abbrev main_cst_13 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_c : Ref sig .tc := ⟨.hbm, 84, rfl⟩
abbrev main_call2_v10 : Ref sig .tc := ⟨.hbm, 85, rfl⟩
abbrev main_call2_v11 : Ref sig .tc := ⟨.hbm, 86, rfl⟩
abbrev main_call2_c_0 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_c_1 : Ref sig .tc := ⟨.hbm, 91, rfl⟩
abbrev main_call2_v15 : Ref sig .tc := ⟨.hbm, 92, rfl⟩
abbrev main_call2_v16 : Ref sig .tc := ⟨.hbm, 93, rfl⟩
abbrev main_call2_v17 : Ref sig .tc := ⟨.hbm, 94, rfl⟩
abbrev main_call2_v18 : Ref sig .tc := ⟨.hbm, 95, rfl⟩
abbrev main_call2_call0_v0 : Ref sig .tc := ⟨.hbm, 96, rfl⟩
abbrev main_call2_call0_c : Ref sig .tc := ⟨.hbm, 97, rfl⟩
abbrev main_call2_call0_v1 : Ref sig .tc := ⟨.hbm, 98, rfl⟩
abbrev main_call2_call0_v2 : Ref sig .tc := ⟨.hbm, 99, rfl⟩
abbrev main_call2_call0_v3 : Ref sig .tc := ⟨.hbm, 100, rfl⟩
abbrev main_call2_call0_v4 : Ref sig .tc := ⟨.hbm, 101, rfl⟩
abbrev main_call2_call0_v5 : Ref sig .tc := ⟨.hbm, 102, rfl⟩
abbrev main_call2_call0_v6 : Ref sig .tc := ⟨.hbm, 103, rfl⟩
abbrev main_call2_call0_c_0 : Ref sig .tc := ⟨.hbm, 104, rfl⟩
abbrev main_call2_call0_v7 : Ref sig .tc := ⟨.hbm, 105, rfl⟩
abbrev main_call2_call0_v8 : Ref sig .tc := ⟨.hbm, 106, rfl⟩
abbrev main_call2_call0_c_1 : Ref sig .tc := ⟨.hbm, 107, rfl⟩
abbrev main_call2_call0_v9 : Ref sig .tc := ⟨.hbm, 108, rfl⟩
abbrev main_call2_call0_v10 : Ref sig .tc := ⟨.hbm, 109, rfl⟩
abbrev main_call2_call0_v11 : Ref sig .tc := ⟨.hbm, 110, rfl⟩
abbrev main_call2_call0_v12 : Ref sig .tc := ⟨.hbm, 111, rfl⟩
abbrev main_call2_call0_v13 : Ref sig .tc := ⟨.hbm, 112, rfl⟩
abbrev main_call2_call0_c_2 : Ref sig .tc := ⟨.hbm, 113, rfl⟩
abbrev main_call2_call0_v14 : Ref sig .tc := ⟨.hbm, 114, rfl⟩
abbrev main_call2_call0_v15 : Ref sig .tc := ⟨.hbm, 115, rfl⟩
abbrev main_call2_call0_c_3 : Ref sig .tc := ⟨.hbm, 116, rfl⟩
abbrev main_call2_call0_v16 : Ref sig .tc := ⟨.hbm, 117, rfl⟩
abbrev main_call2_call0_v17 : Ref sig .tc := ⟨.hbm, 118, rfl⟩
abbrev main_call2_call0_v18 : Ref sig .tc := ⟨.hbm, 119, rfl⟩
abbrev main_call2_call0_v19 : Ref sig .tc := ⟨.hbm, 120, rfl⟩
abbrev main_call2_call0_v20 : Ref sig .tc := ⟨.hbm, 121, rfl⟩
abbrev main_call2_call0_c_4 : Ref sig .tc := ⟨.hbm, 122, rfl⟩
abbrev main_call2_call0_v21 : Ref sig .tc := ⟨.hbm, 123, rfl⟩
abbrev main_call2_call0_v22 : Ref sig .tc := ⟨.hbm, 124, rfl⟩
abbrev main_call2_call0_c_5 : Ref sig .tc := ⟨.hbm, 125, rfl⟩
abbrev main_call2_call0_v23 : Ref sig .tc := ⟨.hbm, 126, rfl⟩
abbrev main_call2_call0_v24 : Ref sig .tc := ⟨.hbm, 127, rfl⟩
abbrev main_call2_call0_v25 : Ref sig .tc := ⟨.hbm, 128, rfl⟩
abbrev main_call2_call0_v26 : Ref sig .tc := ⟨.hbm, 129, rfl⟩
abbrev main_call2_call0_v27 : Ref sig .tc := ⟨.hbm, 130, rfl⟩
abbrev main_call2_call0_c_6 : Ref sig .tc := ⟨.hbm, 131, rfl⟩
abbrev main_call2_call0_v28 : Ref sig .tc := ⟨.hbm, 132, rfl⟩
abbrev main_call2_call0_v29 : Ref sig .tc := ⟨.hbm, 133, rfl⟩
abbrev main_call2_call0_c_7 : Ref sig .tc := ⟨.hbm, 134, rfl⟩
abbrev main_call2_call0_v30 : Ref sig .tc := ⟨.hbm, 135, rfl⟩
abbrev main_call2_call0_v31 : Ref sig .tc := ⟨.hbm, 136, rfl⟩
abbrev main_call2_call0_v32 : Ref sig .tc := ⟨.hbm, 137, rfl⟩
abbrev main_call2_call0_v33 : Ref sig .tc := ⟨.hbm, 138, rfl⟩
abbrev main_call2_call0_v34 : Ref sig .tc := ⟨.hbm, 139, rfl⟩
abbrev main_call2_call0_v35 : Ref sig .tc := ⟨.hbm, 140, rfl⟩
abbrev main_call2_call0_v36 : Ref sig .tc := ⟨.hbm, 141, rfl⟩
abbrev main_call2_call0_v37 : Ref sig .tc := ⟨.hbm, 142, rfl⟩
abbrev main_call2_call0_c_8 : Ref sig .tc := ⟨.hbm, 143, rfl⟩
abbrev main_call2_call0_v38 : Ref sig .tc := ⟨.hbm, 144, rfl⟩
abbrev main_call2_call0_v39 : Ref sig .tc := ⟨.hbm, 145, rfl⟩
abbrev main_call2_call0_v40 : Ref sig .tc := ⟨.hbm, 146, rfl⟩
abbrev main_call2_call0_c_9 : Ref sig .tc := ⟨.hbm, 147, rfl⟩
abbrev main_call2_call0_v41 : Ref sig .tc := ⟨.hbm, 148, rfl⟩
abbrev main_call2_call0_v42 : Ref sig .tc := ⟨.hbm, 149, rfl⟩
abbrev main_call2_call0_c_10 : Ref sig .tc := ⟨.hbm, 150, rfl⟩
abbrev main_call2_call0_v43 : Ref sig .tc := ⟨.hbm, 151, rfl⟩
abbrev main_call2_call0_v44 : Ref sig .tc := ⟨.hbm, 152, rfl⟩
abbrev main_call2_call0_v45 : Ref sig .tc := ⟨.hbm, 153, rfl⟩
abbrev main_call2_call0_v46 : Ref sig .tc := ⟨.hbm, 154, rfl⟩
abbrev main_call2_call0_v47 : Ref sig .tc := ⟨.hbm, 155, rfl⟩
abbrev main_call2_call0_c_11 : Ref sig .tc := ⟨.hbm, 156, rfl⟩
abbrev main_call2_call0_v48 : Ref sig .tc := ⟨.hbm, 157, rfl⟩
abbrev main_call2_call0_v49 : Ref sig .tc := ⟨.hbm, 158, rfl⟩
abbrev main_call2_call0_c_12 : Ref sig .tc := ⟨.hbm, 159, rfl⟩
abbrev main_call2_call0_v50 : Ref sig .tc := ⟨.hbm, 160, rfl⟩
abbrev main_call2_call0_v51 : Ref sig .tc := ⟨.hbm, 161, rfl⟩
abbrev main_call2_call0_v52 : Ref sig .tc := ⟨.hbm, 162, rfl⟩
abbrev main_call2_call0_v53 : Ref sig .tc := ⟨.hbm, 163, rfl⟩
abbrev main_call2_call0_v54 : Ref sig .tc := ⟨.hbm, 164, rfl⟩
abbrev main_call2_call0_c_13 : Ref sig .tc := ⟨.hbm, 165, rfl⟩
abbrev main_call2_call0_v55 : Ref sig .tc := ⟨.hbm, 166, rfl⟩
abbrev main_call2_call0_v56 : Ref sig .tc := ⟨.hbm, 167, rfl⟩
abbrev main_call2_call0_c_14 : Ref sig .tc := ⟨.hbm, 168, rfl⟩
abbrev main_call2_call0_v57 : Ref sig .tc := ⟨.hbm, 169, rfl⟩
abbrev main_call2_call0_v58 : Ref sig .tc := ⟨.hbm, 170, rfl⟩
abbrev main_call2_call0_v59 : Ref sig .tc := ⟨.hbm, 171, rfl⟩
abbrev main_call2_call0_v60 : Ref sig .tc := ⟨.hbm, 172, rfl⟩
abbrev main_call2_call0_v61 : Ref sig .tc := ⟨.hbm, 173, rfl⟩
abbrev main_call2_call0_c_15 : Ref sig .tc := ⟨.hbm, 174, rfl⟩
abbrev main_call2_call0_v62 : Ref sig .tc := ⟨.hbm, 175, rfl⟩
abbrev main_call2_call0_v63 : Ref sig .tc := ⟨.hbm, 176, rfl⟩
abbrev main_call2_call0_c_16 : Ref sig .tc := ⟨.hbm, 177, rfl⟩
abbrev main_call2_call0_v64 : Ref sig .tc := ⟨.hbm, 178, rfl⟩
abbrev main_call2_call0_v65 : Ref sig .tc := ⟨.hbm, 179, rfl⟩
abbrev main_call2_call0_v66 : Ref sig .tc := ⟨.hbm, 180, rfl⟩
abbrev main_call2_call0_v67 : Ref sig .tc := ⟨.hbm, 181, rfl⟩
abbrev main_call2_call0_v68 : Ref sig .tc := ⟨.hbm, 182, rfl⟩
abbrev main_call2_call0_v69 : Ref sig .tc := ⟨.hbm, 183, rfl⟩
abbrev main_call2_call0_v70 : Ref sig .tc := ⟨.hbm, 184, rfl⟩
abbrev main_call2_call0_v71 : Ref sig .tc := ⟨.hbm, 185, rfl⟩
abbrev main_call2_call0_c_17 : Ref sig .tc := ⟨.hbm, 186, rfl⟩
abbrev main_call2_call0_v72 : Ref sig .tc := ⟨.hbm, 187, rfl⟩
abbrev main_call2_call0_v73 : Ref sig .tc := ⟨.hbm, 188, rfl⟩
abbrev main_call2_call0_v74 : Ref sig .tc := ⟨.hbm, 189, rfl⟩
abbrev main_call2_call0_c_18 : Ref sig .tc := ⟨.hbm, 190, rfl⟩
abbrev main_call2_call0_v75 : Ref sig .tc := ⟨.hbm, 191, rfl⟩
abbrev main_call2_call0_v76 : Ref sig .tc := ⟨.hbm, 192, rfl⟩
abbrev main_call2_call0_c_19 : Ref sig .tc := ⟨.hbm, 193, rfl⟩
abbrev main_call2_call0_v77 : Ref sig .tc := ⟨.hbm, 194, rfl⟩
abbrev main_call2_call0_v78 : Ref sig .tc := ⟨.hbm, 195, rfl⟩
abbrev main_call2_call0_v79 : Ref sig .tc := ⟨.hbm, 196, rfl⟩
abbrev main_call2_call0_v80 : Ref sig .tc := ⟨.hbm, 197, rfl⟩
abbrev main_call2_call0_v81 : Ref sig .tc := ⟨.hbm, 198, rfl⟩
abbrev main_call2_call0_c_20 : Ref sig .tc := ⟨.hbm, 199, rfl⟩
abbrev main_call2_call0_v82 : Ref sig .tc := ⟨.hbm, 200, rfl⟩
abbrev main_call2_call0_v83 : Ref sig .tc := ⟨.hbm, 201, rfl⟩
abbrev main_call2_call0_c_21 : Ref sig .tc := ⟨.hbm, 202, rfl⟩
abbrev main_call2_call0_v84 : Ref sig .tc := ⟨.hbm, 203, rfl⟩
abbrev main_call2_call0_v85 : Ref sig .tc := ⟨.hbm, 204, rfl⟩
abbrev main_call2_call0_v86 : Ref sig .tc := ⟨.hbm, 205, rfl⟩
abbrev main_call2_call0_v87 : Ref sig .tc := ⟨.hbm, 206, rfl⟩
abbrev main_call2_call0_v88 : Ref sig .tc := ⟨.hbm, 207, rfl⟩
abbrev main_call2_call0_c_22 : Ref sig .tc := ⟨.hbm, 208, rfl⟩
abbrev main_call2_call0_v89 : Ref sig .tc := ⟨.hbm, 209, rfl⟩
abbrev main_call2_call0_v90 : Ref sig .tc := ⟨.hbm, 210, rfl⟩
abbrev main_call2_call0_c_23 : Ref sig .tc := ⟨.hbm, 211, rfl⟩
abbrev main_call2_call0_v91 : Ref sig .tc := ⟨.hbm, 212, rfl⟩
abbrev main_call2_call0_v92 : Ref sig .tc := ⟨.hbm, 213, rfl⟩
abbrev main_call2_call0_v93 : Ref sig .tc := ⟨.hbm, 214, rfl⟩
abbrev main_call2_call0_v94 : Ref sig .tc := ⟨.hbm, 215, rfl⟩
abbrev main_call2_call0_v95 : Ref sig .tc := ⟨.hbm, 216, rfl⟩
abbrev main_call2_call0_c_24 : Ref sig .tc := ⟨.hbm, 217, rfl⟩
abbrev main_call2_call0_v96 : Ref sig .tc := ⟨.hbm, 218, rfl⟩
abbrev main_call2_call0_v97 : Ref sig .tc := ⟨.hbm, 219, rfl⟩
abbrev main_call2_call0_c_25 : Ref sig .tc := ⟨.hbm, 220, rfl⟩
abbrev main_call2_call0_v98 : Ref sig .tc := ⟨.hbm, 221, rfl⟩
abbrev main_call2_call0_v99 : Ref sig .tc := ⟨.hbm, 222, rfl⟩
abbrev main_call2_call0_v100 : Ref sig .tc := ⟨.hbm, 223, rfl⟩
abbrev main_call2_call0_v101 : Ref sig .tc := ⟨.hbm, 224, rfl⟩
abbrev main_call2_call0_v102 : Ref sig .tc := ⟨.hbm, 225, rfl⟩
abbrev main_call2_call0_v103 : Ref sig .tc := ⟨.hbm, 226, rfl⟩
abbrev main_call2_call0_v104 : Ref sig .tc := ⟨.hbm, 227, rfl⟩
abbrev main_call2_call0_v105 : Ref sig .tc := ⟨.hbm, 228, rfl⟩
abbrev main_call2_call0_c_26 : Ref sig .tc := ⟨.hbm, 229, rfl⟩
abbrev main_call2_call0_v106 : Ref sig .tc := ⟨.hbm, 230, rfl⟩
abbrev main_call2_call0_v107 : Ref sig .tc := ⟨.hbm, 231, rfl⟩
abbrev main_call2_call0_v108 : Ref sig .tc := ⟨.hbm, 232, rfl⟩
abbrev main_call2_call0_c_27 : Ref sig .tc := ⟨.hbm, 233, rfl⟩
abbrev main_call2_call0_v109 : Ref sig .tc := ⟨.hbm, 234, rfl⟩
abbrev main_call2_call0_v110 : Ref sig .tc := ⟨.hbm, 235, rfl⟩
abbrev main_call2_call0_c_28 : Ref sig .tc := ⟨.hbm, 236, rfl⟩
abbrev main_call2_call0_v111 : Ref sig .tc := ⟨.hbm, 237, rfl⟩
abbrev main_call2_call0_v112 : Ref sig .tc := ⟨.hbm, 238, rfl⟩
abbrev main_call2_call0_v113 : Ref sig .tc := ⟨.hbm, 239, rfl⟩
abbrev main_call2_call0_v114 : Ref sig .tc := ⟨.hbm, 240, rfl⟩
abbrev main_call2_call0_v115 : Ref sig .tc := ⟨.hbm, 241, rfl⟩
abbrev main_call2_call0_c_29 : Ref sig .tc := ⟨.hbm, 242, rfl⟩
abbrev main_call2_call0_v116 : Ref sig .tc := ⟨.hbm, 243, rfl⟩
abbrev main_call2_call0_v117 : Ref sig .tc := ⟨.hbm, 244, rfl⟩
abbrev main_call2_call0_c_30 : Ref sig .tc := ⟨.hbm, 245, rfl⟩
abbrev main_call2_call0_v118 : Ref sig .tc := ⟨.hbm, 246, rfl⟩
abbrev main_call2_call0_v119 : Ref sig .tc := ⟨.hbm, 247, rfl⟩
abbrev main_call2_call0_v120 : Ref sig .tc := ⟨.hbm, 248, rfl⟩
abbrev main_call2_call0_v121 : Ref sig .tc := ⟨.hbm, 249, rfl⟩
abbrev main_call2_call0_v122 : Ref sig .tc := ⟨.hbm, 250, rfl⟩
abbrev main_call2_call0_c_31 : Ref sig .tc := ⟨.hbm, 251, rfl⟩
abbrev main_call2_call0_v123 : Ref sig .tc := ⟨.hbm, 252, rfl⟩
abbrev main_call2_call0_v124 : Ref sig .tc := ⟨.hbm, 253, rfl⟩
abbrev main_call2_call0_c_32 : Ref sig .tc := ⟨.hbm, 254, rfl⟩
abbrev main_call2_call0_v125 : Ref sig .tc := ⟨.hbm, 255, rfl⟩
abbrev main_call2_call0_v126 : Ref sig .tc := ⟨.hbm, 256, rfl⟩
abbrev main_call2_call0_v127 : Ref sig .tc := ⟨.hbm, 257, rfl⟩
abbrev main_call2_call0_v128 : Ref sig .tc := ⟨.hbm, 258, rfl⟩
abbrev main_call2_call0_v129 : Ref sig .tc := ⟨.hbm, 259, rfl⟩
abbrev main_call2_call0_c_33 : Ref sig .tc := ⟨.hbm, 260, rfl⟩
abbrev main_call2_call0_v130 : Ref sig .tc := ⟨.hbm, 261, rfl⟩
abbrev main_call2_call0_v131 : Ref sig .tc := ⟨.hbm, 262, rfl⟩
abbrev main_call2_call0_c_34 : Ref sig .tc := ⟨.hbm, 263, rfl⟩
abbrev main_call2_call0_v132 : Ref sig .tc := ⟨.hbm, 264, rfl⟩
abbrev main_call2_call0_v133 : Ref sig .tc := ⟨.hbm, 265, rfl⟩
abbrev main_call2_call0_v134 : Ref sig .tc := ⟨.hbm, 266, rfl⟩
abbrev main_call2_call0_v135 : Ref sig .tc := ⟨.hbm, 267, rfl⟩
abbrev main_call2_call0_v136 : Ref sig .tc := ⟨.hbm, 268, rfl⟩
abbrev main_call2_call0_v137 : Ref sig .tc := ⟨.hbm, 269, rfl⟩
abbrev main_call2_call0_v138 : Ref sig .tc := ⟨.hbm, 270, rfl⟩
abbrev main_call2_call0_v139 : Ref sig .tc := ⟨.hbm, 271, rfl⟩
abbrev main_call2_call0_c_35 : Ref sig .tc := ⟨.hbm, 272, rfl⟩
abbrev main_call2_call0_v140 : Ref sig .tc := ⟨.hbm, 273, rfl⟩
abbrev main_call2_call0_v141 : Ref sig .tc := ⟨.hbm, 274, rfl⟩
abbrev main_call2_call0_v142 : Ref sig .tc := ⟨.hbm, 275, rfl⟩
abbrev main_call2_call0_c_36 : Ref sig .tc := ⟨.hbm, 276, rfl⟩
abbrev main_call2_call0_v143 : Ref sig .tc := ⟨.hbm, 277, rfl⟩
abbrev main_call2_call0_v144 : Ref sig .tc := ⟨.hbm, 278, rfl⟩
abbrev main_call2_call0_c_37 : Ref sig .tc := ⟨.hbm, 279, rfl⟩
abbrev main_call2_call0_v145 : Ref sig .tc := ⟨.hbm, 280, rfl⟩
abbrev main_call2_call0_v146 : Ref sig .tc := ⟨.hbm, 281, rfl⟩
abbrev main_call2_call0_v147 : Ref sig .tc := ⟨.hbm, 282, rfl⟩
abbrev main_call2_call0_v148 : Ref sig .tc := ⟨.hbm, 283, rfl⟩
abbrev main_call2_call0_v149 : Ref sig .tc := ⟨.hbm, 284, rfl⟩
abbrev main_call2_call0_c_38 : Ref sig .tc := ⟨.hbm, 285, rfl⟩
abbrev main_call2_call0_v150 : Ref sig .tc := ⟨.hbm, 286, rfl⟩
abbrev main_call2_call0_v151 : Ref sig .tc := ⟨.hbm, 287, rfl⟩
abbrev main_call2_call0_c_39 : Ref sig .tc := ⟨.hbm, 288, rfl⟩
abbrev main_call2_call0_v152 : Ref sig .tc := ⟨.hbm, 289, rfl⟩
abbrev main_call2_call0_v153 : Ref sig .tc := ⟨.hbm, 290, rfl⟩
abbrev main_call2_call0_v154 : Ref sig .tc := ⟨.hbm, 291, rfl⟩
abbrev main_call2_call0_v155 : Ref sig .tc := ⟨.hbm, 292, rfl⟩
abbrev main_call2_call0_v156 : Ref sig .tc := ⟨.hbm, 293, rfl⟩
abbrev main_call2_call0_c_40 : Ref sig .tc := ⟨.hbm, 294, rfl⟩
abbrev main_call2_call0_v157 : Ref sig .tc := ⟨.hbm, 295, rfl⟩
abbrev main_call2_call0_v158 : Ref sig .tc := ⟨.hbm, 296, rfl⟩
abbrev main_call2_call0_c_41 : Ref sig .tc := ⟨.hbm, 297, rfl⟩
abbrev main_call2_call0_v159 : Ref sig .tc := ⟨.hbm, 298, rfl⟩
abbrev main_call2_call0_v160 : Ref sig .tc := ⟨.hbm, 299, rfl⟩
abbrev main_call2_call0_v161 : Ref sig .tc := ⟨.hbm, 300, rfl⟩
abbrev main_call2_call0_v162 : Ref sig .tc := ⟨.hbm, 301, rfl⟩
abbrev main_call2_call0_v163 : Ref sig .tc := ⟨.hbm, 302, rfl⟩
abbrev main_call2_call0_c_42 : Ref sig .tc := ⟨.hbm, 303, rfl⟩
abbrev main_call2_call0_v164 : Ref sig .tc := ⟨.hbm, 304, rfl⟩
abbrev main_call2_call0_v165 : Ref sig .tc := ⟨.hbm, 305, rfl⟩
abbrev main_call2_call0_c_43 : Ref sig .tc := ⟨.hbm, 306, rfl⟩
abbrev main_call2_call0_v166 : Ref sig .tc := ⟨.hbm, 307, rfl⟩
abbrev main_call2_call0_v167 : Ref sig .tc := ⟨.hbm, 308, rfl⟩
abbrev main_call2_call0_v168 : Ref sig .tc := ⟨.hbm, 309, rfl⟩
abbrev main_call2_call0_v169 : Ref sig .tc := ⟨.hbm, 310, rfl⟩
abbrev main_call2_call0_v170 : Ref sig .tc := ⟨.hbm, 311, rfl⟩
abbrev main_call2_v19_0 : Ref sig .tc := ⟨.hbm, 312, rfl⟩
abbrev main_call2_call0_v172 : Ref sig .tc := ⟨.hbm, 313, rfl⟩
abbrev main_call2_call0_v173 : Ref sig .tc := ⟨.hbm, 314, rfl⟩
abbrev main_call2_call0_c_44 : Ref sig .tc := ⟨.hbm, 315, rfl⟩
abbrev main_call2_call0_v174 : Ref sig .tc := ⟨.hbm, 316, rfl⟩
abbrev main_call2_v19_1 : Ref sig .tc := ⟨.hbm, 317, rfl⟩
abbrev main_call2_v20 : Ref sig .tc := ⟨.hbm, 318, rfl⟩
abbrev main_call2_c_2 : Ref sig .tc := ⟨.hbm, 319, rfl⟩
abbrev main_call2_v21 : Ref sig .tc := ⟨.hbm, 320, rfl⟩
abbrev main_call2_v22 : Ref sig .tc := ⟨.hbm, 321, rfl⟩
abbrev main_call2_c_3 : Ref sig .tc := ⟨.hbm, 322, rfl⟩
abbrev main_call2_v23 : Ref sig .tc := ⟨.hbm, 323, rfl⟩
abbrev main_call2_v24 : Ref sig .tc := ⟨.hbm, 324, rfl⟩
abbrev main_call2_v25 : Ref sig .tc := ⟨.hbm, 325, rfl⟩
abbrev main_call2_cst : Ref sig .tc := ⟨.hbm, 326, rfl⟩
abbrev main_call2_v26 : Ref sig .tc := ⟨.hbm, 327, rfl⟩
abbrev main_call2_v27 : Ref sig .tc := ⟨.hbm, 328, rfl⟩
abbrev main_call2_v28 : Ref sig .tc := ⟨.hbm, 329, rfl⟩
abbrev main_call2_v29 : Ref sig .tc := ⟨.hbm, 330, rfl⟩
abbrev main_call2_v30 : Ref sig .tc := ⟨.hbm, 331, rfl⟩
abbrev main_call2_v31 : Ref sig .tc := ⟨.hbm, 332, rfl⟩
abbrev main_call2_v32 : Ref sig .tc := ⟨.hbm, 333, rfl⟩
abbrev main_call2_v33 : Ref sig .tc := ⟨.hbm, 334, rfl⟩
abbrev main_v44 : Ref sig .tc := ⟨.hbm, 335, rfl⟩
abbrev main_cst_14 : Ref sig .tc := ⟨.hbm, 336, rfl⟩
abbrev main_v45 : Ref sig .tc := ⟨.hbm, 337, rfl⟩
abbrev main_v46 : Ref sig .tc := ⟨.hbm, 338, rfl⟩
abbrev main_v47 : Ref sig .tc := ⟨.hbm, 339, rfl⟩
abbrev main_v48 : Ref sig .tc := ⟨.hbm, 340, rfl⟩
abbrev main_v49 : Ref sig .tc := ⟨.hbm, 341, rfl⟩
abbrev main_v50 : Ref sig .tc := ⟨.hbm, 342, rfl⟩
abbrev main_v51 : Ref sig .tc := ⟨.hbm, 343, rfl⟩
abbrev main_call3_call0_cst : Ref sig .tc := ⟨.hbm, 344, rfl⟩
abbrev main_call3_call0_v0 : Ref sig .tc := ⟨.hbm, 345, rfl⟩
abbrev main_v52 : Ref sig .tc := ⟨.hbm, 346, rfl⟩
abbrev main_v53 : Ref sig .tc := ⟨.hbm, 347, rfl⟩
abbrev main_v54 : Ref sig .tc := ⟨.hbm, 348, rfl⟩
abbrev main_cst_15 : Ref sig .tc := ⟨.hbm, 349, rfl⟩
abbrev main_v55 : Ref sig .tc := ⟨.hbm, 350, rfl⟩
abbrev main_v56 : Ref sig .tc := ⟨.hbm, 351, rfl⟩
abbrev main_v57 : Ref sig .tc := ⟨.hbm, 352, rfl⟩
abbrev main_v58 : Ref sig .tc := ⟨.hbm, 353, rfl⟩
abbrev main_cst_16 : Ref sig .tc := ⟨.hbm, 354, rfl⟩
abbrev main_v59 : Ref sig .tc := ⟨.hbm, 355, rfl⟩
abbrev main_v60 : Ref sig .tc := ⟨.hbm, 356, rfl⟩
abbrev main_cst_17 : Ref sig .tc := ⟨.hbm, 357, rfl⟩
abbrev main_v61 : Ref sig .tc := ⟨.hbm, 358, rfl⟩
abbrev main_v62 : Ref sig .tc := ⟨.hbm, 359, rfl⟩
abbrev main_cst_18 : Ref sig .tc := ⟨.hbm, 360, rfl⟩
abbrev main_v63 : Ref sig .tc := ⟨.hbm, 361, rfl⟩
abbrev main_cst_19 : Ref sig .tc := ⟨.hbm, 362, rfl⟩
abbrev main_v64 : Ref sig .tc := ⟨.hbm, 363, rfl⟩
abbrev main_v65 : Ref sig .tc := ⟨.hbm, 364, rfl⟩
abbrev main_call4_call0_cst : Ref sig .tc := ⟨.hbm, 365, rfl⟩
abbrev main_call4_call0_v0 : Ref sig .tc := ⟨.hbm, 366, rfl⟩
abbrev main_v66 : Ref sig .tc := ⟨.hbm, 367, rfl⟩
abbrev main_v67 : Ref sig .tc := ⟨.hbm, 368, rfl⟩
abbrev main_v68 : Ref sig .tc := ⟨.hbm, 369, rfl⟩
abbrev main_v69 : Ref sig .tc := ⟨.hbm, 370, rfl⟩
abbrev main_v70 : Ref sig .tc := ⟨.hbm, 371, rfl⟩
abbrev main_cst_20 : Ref sig .tc := ⟨.hbm, 372, rfl⟩
abbrev main_v71 : Ref sig .tc := ⟨.hbm, 373, rfl⟩
abbrev main_v72 : Ref sig .tc := ⟨.hbm, 374, rfl⟩
abbrev main_v73 : Ref sig .tc := ⟨.hbm, 375, rfl⟩
abbrev main_v74 : Ref sig .tc := ⟨.hbm, 376, rfl⟩
abbrev main_cst_21 : Ref sig .tc := ⟨.hbm, 377, rfl⟩
abbrev main_v75 : Ref sig .tc := ⟨.hbm, 378, rfl⟩
abbrev main_cst_22 : Ref sig .tc := ⟨.hbm, 379, rfl⟩
abbrev main_v76 : Ref sig .tc := ⟨.hbm, 380, rfl⟩
abbrev main_v77 : Ref sig .tc := ⟨.hbm, 381, rfl⟩
abbrev main_call5_v0 : Ref sig .tc := ⟨.hbm, 382, rfl⟩
abbrev main_call5_v1 : Ref sig .tc := ⟨.hbm, 383, rfl⟩
abbrev main_call5_v2 : Ref sig .tc := ⟨.hbm, 384, rfl⟩
abbrev main_call5_v3 : Ref sig .tc := ⟨.hbm, 385, rfl⟩
abbrev main_call5_v4 : Ref sig .tc := ⟨.hbm, 386, rfl⟩
abbrev main_v78 : Ref sig .tc := ⟨.hbm, 387, rfl⟩
abbrev main_call6_v0 : Ref sig .tc := ⟨.hbm, 388, rfl⟩
abbrev main_call6_v1 : Ref sig .tc := ⟨.hbm, 389, rfl⟩
abbrev main_call6_v2 : Ref sig .tc := ⟨.hbm, 390, rfl⟩
abbrev main_call6_v3 : Ref sig .tc := ⟨.hbm, 391, rfl⟩
abbrev main_call6_v4 : Ref sig .tc := ⟨.hbm, 392, rfl⟩
abbrev main_v79 : Ref sig .tc := ⟨.hbm, 393, rfl⟩
abbrev main_v80 : Ref sig .tc := ⟨.hbm, 394, rfl⟩
abbrev main_call7_v0 : Ref sig .tc := ⟨.hbm, 395, rfl⟩
abbrev main_call7_v1 : Ref sig .tc := ⟨.hbm, 396, rfl⟩
abbrev main_call7_v2 : Ref sig .tc := ⟨.hbm, 397, rfl⟩
abbrev main_call7_v3 : Ref sig .tc := ⟨.hbm, 398, rfl⟩
abbrev main_call7_v4 : Ref sig .tc := ⟨.hbm, 399, rfl⟩
abbrev main_v81 : Ref sig .tc := ⟨.hbm, 400, rfl⟩
abbrev main_v82 : Ref sig .tc := ⟨.hbm, 401, rfl⟩
abbrev main_call8_v0 : Ref sig .tc := ⟨.hbm, 402, rfl⟩
abbrev main_call8_v1 : Ref sig .tc := ⟨.hbm, 403, rfl⟩
abbrev main_call8_v2 : Ref sig .tc := ⟨.hbm, 404, rfl⟩
abbrev main_call8_v3 : Ref sig .tc := ⟨.hbm, 405, rfl⟩
abbrev main_call8_v4 : Ref sig .tc := ⟨.hbm, 406, rfl⟩
abbrev main_v83 : Ref sig .tc := ⟨.hbm, 407, rfl⟩
abbrev main_v84 : Ref sig .tc := ⟨.hbm, 408, rfl⟩
abbrev main_v85 : Ref sig .tc := ⟨.hbm, 409, rfl⟩
abbrev main_v86 : Ref sig .tc := ⟨.hbm, 410, rfl⟩
abbrev main_v87 : Ref sig .tc := ⟨.hbm, 411, rfl⟩
abbrev main_v88 : Ref sig .tc := ⟨.hbm, 412, rfl⟩
abbrev main_v89 : Ref sig .tc := ⟨.hbm, 413, rfl⟩
abbrev main_v90 : Ref sig .tc := ⟨.hbm, 414, rfl⟩
abbrev main_v91 : Ref sig .tc := ⟨.hbm, 415, rfl⟩
abbrev main_v92 : Ref sig .tc := ⟨.hbm, 416, rfl⟩
abbrev main_v93 : Ref sig .tc := ⟨.hbm, 417, rfl⟩
abbrev main_v94 : Ref sig .tc := ⟨.hbm, 418, rfl⟩
abbrev main_v95 : Ref sig .tc := ⟨.hbm, 419, rfl⟩
abbrev main_v96 : Ref sig .tc := ⟨.hbm, 420, rfl⟩
abbrev main_v97 : Ref sig .tc := ⟨.hbm, 421, rfl⟩
abbrev main_v98 : Ref sig .tc := ⟨.hbm, 422, rfl⟩
abbrev main_v99 : Ref sig .tc := ⟨.hbm, 423, rfl⟩
abbrev main_v100 : Ref sig .tc := ⟨.hbm, 424, rfl⟩
abbrev main_v101 : Ref sig .tc := ⟨.hbm, 425, rfl⟩
abbrev main_v102 : Ref sig .tc := ⟨.hbm, 426, rfl⟩
abbrev main_v103 : Ref sig .tc := ⟨.hbm, 427, rfl⟩
abbrev main_v104 : Ref sig .tc := ⟨.hbm, 428, rfl⟩
abbrev main_cst_23 : Ref sig .tc := ⟨.hbm, 429, rfl⟩
abbrev main_v105 : Ref sig .tc := ⟨.hbm, 430, rfl⟩
abbrev main_v106 : Ref sig .tc := ⟨.hbm, 431, rfl⟩
abbrev main_v107 : Ref sig .tc := ⟨.hbm, 432, rfl⟩
abbrev main_cst_24 : Ref sig .tc := ⟨.hbm, 433, rfl⟩
abbrev main_v108 : Ref sig .tc := ⟨.hbm, 434, rfl⟩
abbrev main_v109 : Ref sig .tc := ⟨.hbm, 435, rfl⟩
abbrev main_v110 : Ref sig .tc := ⟨.hbm, 436, rfl⟩
abbrev main_v111 : Ref sig .tc := ⟨.hbm, 437, rfl⟩
abbrev main_v112 : Ref sig .tc := ⟨.hbm, 438, rfl⟩
abbrev main_cst_25 : Ref sig .tc := ⟨.hbm, 439, rfl⟩
abbrev main_v113 : Ref sig .tc := ⟨.hbm, 440, rfl⟩
abbrev main_v114 : Ref sig .tc := ⟨.hbm, 441, rfl⟩
abbrev main_v115 : Ref sig .tc := ⟨.hbm, 442, rfl⟩
abbrev main_cst_26 : Ref sig .tc := ⟨.hbm, 443, rfl⟩
abbrev main_v116 : Ref sig .tc := ⟨.hbm, 444, rfl⟩
abbrev main_cst_27 : Ref sig .tc := ⟨.hbm, 445, rfl⟩
abbrev main_v117 : Ref sig .tc := ⟨.hbm, 446, rfl⟩
abbrev main_cst_28 : Ref sig .tc := ⟨.hbm, 447, rfl⟩
abbrev main_v118 : Ref sig .tc := ⟨.hbm, 448, rfl⟩
abbrev main_v119 : Ref sig .tc := ⟨.hbm, 449, rfl⟩
abbrev main_v120 : Ref sig .tc := ⟨.hbm, 450, rfl⟩
abbrev main_v121 : Ref sig .tc := ⟨.hbm, 451, rfl⟩
abbrev main_v122 : Ref sig .tc := ⟨.hbm, 452, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Regions

@[expose] public section

set_option maxRecDepth 16384

noncomputable section

/-! The reference as straight lines of host operations: the operations of its main program and of the functions it calls,
in the order they run, cut where a named value is complete. -/

namespace Cert.ReferenceIdeal.Hand

open Idealize.ShloMosaic Idealize.ShloMosaic.TcCoe
open Idealize.SL Idealize.SL.Sem
open Facts₀ Facts

variable {F : FTy → Type} [FloatOps F]

/-- The operations of the one-hot function over the experts. -/
abbrev oneHotOps (arg0 : StableHlo.TRef sig ⟨S4x2048, .i32⟩) (φ : fn_one_hot.Bufs) : List (HloOp τ sig (Elt F)) :=
  [ StableHlo.TRef.unary arg0 φ.v0 (broadcastInDim S4x2048x1 ![0, 1] bcast_S4x2048_S4x2048x1_0_1),
    StableHlo.TRef.nullary φ.v1 (iotaInDim S1x1x16 32 2),
    StableHlo.TRef.unary φ.v0 φ.v2 (broadcastInDim S4x2048x16 ![0, 1, 2] bcast_S4x2048x1_S4x2048x16_0_1_2),
    StableHlo.TRef.unary φ.v1 φ.v3 (broadcastInDim S4x2048x16 ![0, 1, 2] bcast_S1x1x16_S4x2048x16_0_1_2),
    StableHlo.TRef.binary φ.v2 φ.v3 φ.v4 (cmpi .eq),
    StableHlo.TRef.unary φ.v4 φ.v5 (uitofp .f32) ]

/-- The operations of the one-hot function over the places of an expert. -/
abbrev oneHotPosOps (arg0 : StableHlo.TRef sig ⟨S4x2048, .i32⟩) (φ : fn_one_hot_1.Bufs) : List (HloOp τ sig (Elt F)) :=
  [ StableHlo.TRef.unary arg0 φ.v0 (broadcastInDim S4x2048x1 ![0, 1] bcast_S4x2048_S4x2048x1_0_1),
    StableHlo.TRef.nullary φ.v1 (iotaInDim S1x1x160 32 2),
    StableHlo.TRef.unary φ.v0 φ.v2 (broadcastInDim S4x2048x160 ![0, 1, 2] bcast_S4x2048x1_S4x2048x160_0_1_2),
    StableHlo.TRef.unary φ.v1 φ.v3 (broadcastInDim S4x2048x160 ![0, 1, 2] bcast_S1x1x160_S4x2048x160_0_1_2),
    StableHlo.TRef.binary φ.v2 φ.v3 φ.v4 (cmpi .eq),
    StableHlo.TRef.unary φ.v4 φ.v5 (uitofp .f32) ]

/-- The operations of the running sum over the tokens. -/
abbrev cumsumOps (arg0 : StableHlo.TRef sig ⟨S4x2048x16, .f32⟩) (φ : fn_cumsum_0.Bufs) : List (HloOp τ sig (Elt F)) :=
  [ StableHlo.TRef.nullary φ.cst (constant S_ .f32 0x00000000#32),
    StableHlo.TRef.unary φ.cst φ.v0 (broadcastInDim S_ ![] bcast_S_S_),
    StableHlo.TRef.binary arg0 φ.v0 φ.v1 (fun x v => Host.reduceWindowAdd ![1, 2048, 1] ![1, 1, 1] ![0, 2047, 0] ![0, 0, 0] x v reduceWindows_S4x2048x16_S4x2048x16_w1s1p0_0_w2048s1p2047_0_w1s1p0_0 h_S_) ]

set_option maxHeartbeats 40000000 in
/-- The operations of the counter-based random word generator, part 1. -/
abbrev threefryOps0 (arg0 arg1 : StableHlo.TRef sig ⟨S_, .i32⟩) (arg2 arg3 : StableHlo.TRef sig ⟨S4x2048, .i32⟩) (φ : fn_threefry2x32.Bufs) : List (HloOp τ sig (Elt F)) :=
  [ StableHlo.TRef.binary arg0 arg1 φ.v0 xori,
    StableHlo.TRef.nullary φ.c (constantI S_ 32 466688986#32),
    StableHlo.TRef.binary φ.v0 φ.c φ.v1 xori,
    StableHlo.TRef.unary arg0 φ.v2 (broadcastInDim S4x2048 ![] bcast_S_S4x2048),
    StableHlo.TRef.binary arg2 φ.v2 φ.v3 addi,
    StableHlo.TRef.unary arg1 φ.v4 (broadcastInDim S4x2048 ![] bcast_S_S4x2048),
    StableHlo.TRef.binary arg3 φ.v4 φ.v5 addi,
    StableHlo.TRef.binary φ.v3 φ.v5 φ.v6 addi,
    StableHlo.TRef.nullary φ.c_0 (constantI S_ 32 13#32),
    StableHlo.TRef.unary φ.c_0 φ.v7 (broadcastInDim S4x2048 ![] bcast_S_S4x2048),
    StableHlo.TRef.binary φ.v5 φ.v7 φ.v8 Host.shli,
    StableHlo.TRef.nullary φ.c_1 (constantI S_ 32 19#32),
    StableHlo.TRef.unary φ.c_1 φ.v9 (broadcastInDim S4x2048 ![] bcast_S_S4x2048),
    StableHlo.TRef.binary φ.v5 φ.v9 φ.v10 Host.shrui,
    StableHlo.TRef.binary φ.v8 φ.v10 φ.v11 ori,
    StableHlo.TRef.binary φ.v6 φ.v11 φ.v12 xori,
    StableHlo.TRef.binary φ.v6 φ.v12 φ.v13 addi,
    StableHlo.TRef.nullary φ.c_2 (constantI S_ 32 15#32),
    StableHlo.TRef.unary φ.c_2 φ.v14 (broadcastInDim S4x2048 ![] bcast_S_S4x2048),
    StableHlo.TRef.binary φ.v12 φ.v14 φ.v15 Host.shli,
    StableHlo.TRef.nullary φ.c_3 (constantI S_ 32 17#32),
    StableHlo.TRef.unary φ.c_3 φ.v16 (broadcastInDim S4x2048 ![] bcast_S_S4x2048),
    StableHlo.TRef.binary φ.v12 φ.v16 φ.v17 Host.shrui,
    StableHlo.TRef.binary φ.v15 φ.v17 φ.v18 ori,
    StableHlo.TRef.binary φ.v13 φ.v18 φ.v19 xori,
    StableHlo.TRef.binary φ.v13 φ.v19 φ.v20 addi,
    StableHlo.TRef.nullary φ.c_4 (constantI S_ 32 26#32),
    StableHlo.TRef.unary φ.c_4 φ.v21 (broadcastInDim S4x2048 ![] bcast_S_S4x2048),
    StableHlo.TRef.binary φ.v19 φ.v21 φ.v22 Host.shli,
    StableHlo.TRef.nullary φ.c_5 (constantI S_ 32 6#32),
    StableHlo.TRef.unary φ.c_5 φ.v23 (broadcastInDim S4x2048 ![] bcast_S_S4x2048),
    StableHlo.TRef.binary φ.v19 φ.v23 φ.v24 Host.shrui,
    StableHlo.TRef.binary φ.v22 φ.v24 φ.v25 ori,
    StableHlo.TRef.binary φ.v20 φ.v25 φ.v26 xori,
    StableHlo.TRef.binary φ.v20 φ.v26 φ.v27 addi,
    StableHlo.TRef.nullary φ.c_6 (constantI S_ 32 6#32),
    StableHlo.TRef.unary φ.c_6 φ.v28 (broadcastInDim S4x2048 ![] bcast_S_S4x2048),
    StableHlo.TRef.binary φ.v26 φ.v28 φ.v29 Host.shli,
    StableHlo.TRef.nullary φ.c_7 (constantI S_ 32 26#32),
    StableHlo.TRef.unary φ.c_7 φ.v30 (broadcastInDim S4x2048 ![] bcast_S_S4x2048),
    StableHlo.TRef.binary φ.v26 φ.v30 φ.v31 Host.shrui,
    StableHlo.TRef.binary φ.v29 φ.v31 φ.v32 ori,
    StableHlo.TRef.binary φ.v27 φ.v32 φ.v33 xori,
    StableHlo.TRef.unary arg1 φ.v34 (broadcastInDim S4x2048 ![] bcast_S_S4x2048),
    StableHlo.TRef.binary φ.v27 φ.v34 φ.v35 addi,
    StableHlo.TRef.unary φ.v1 φ.v36 (broadcastInDim S4x2048 ![] bcast_S_S4x2048),
    StableHlo.TRef.binary φ.v33 φ.v36 φ.v37 addi,
    StableHlo.TRef.nullary φ.c_8 (constantI S_ 32 1#32),
    StableHlo.TRef.unary φ.c_8 φ.v38 (broadcastInDim S4x2048 ![] bcast_S_S4x2048),
    StableHlo.TRef.binary φ.v37 φ.v38 φ.v39 addi,
    StableHlo.TRef.binary φ.v35 φ.v39 φ.v40 addi,
    StableHlo.TRef.nullary φ.c_9 (constantI S_ 32 17#32),
    StableHlo.TRef.unary φ.c_9 φ.v41 (broadcastInDim S4x2048 ![] bcast_S_S4x2048),
    StableHlo.TRef.binary φ.v39 φ.v41 φ.v42 Host.shli,
    StableHlo.TRef.nullary φ.c_10 (constantI S_ 32 15#32),
    StableHlo.TRef.unary φ.c_10 φ.v43 (broadcastInDim S4x2048 ![] bcast_S_S4x2048),
    StableHlo.TRef.binary φ.v39 φ.v43 φ.v44 Host.shrui,
    StableHlo.TRef.binary φ.v42 φ.v44 φ.v45 ori,
    StableHlo.TRef.binary φ.v40 φ.v45 φ.v46 xori,
    StableHlo.TRef.binary φ.v40 φ.v46 φ.v47 addi ]

set_option maxHeartbeats 40000000 in
/-- The operations of the counter-based random word generator, part 2. -/
abbrev threefryOps1 (arg0 arg1 : StableHlo.TRef sig ⟨S_, .i32⟩) (arg2 arg3 : StableHlo.TRef sig ⟨S4x2048, .i32⟩) (φ : fn_threefry2x32.Bufs) : List (HloOp τ sig (Elt F)) :=
  [ StableHlo.TRef.nullary φ.c_11 (constantI S_ 32 29#32),
    StableHlo.TRef.unary φ.c_11 φ.v48 (broadcastInDim S4x2048 ![] bcast_S_S4x2048),
    StableHlo.TRef.binary φ.v46 φ.v48 φ.v49 Host.shli,
    StableHlo.TRef.nullary φ.c_12 (constantI S_ 32 3#32),
    StableHlo.TRef.unary φ.c_12 φ.v50 (broadcastInDim S4x2048 ![] bcast_S_S4x2048),
    StableHlo.TRef.binary φ.v46 φ.v50 φ.v51 Host.shrui,
    StableHlo.TRef.binary φ.v49 φ.v51 φ.v52 ori,
    StableHlo.TRef.binary φ.v47 φ.v52 φ.v53 xori,
    StableHlo.TRef.binary φ.v47 φ.v53 φ.v54 addi,
    StableHlo.TRef.nullary φ.c_13 (constantI S_ 32 16#32),
    StableHlo.TRef.unary φ.c_13 φ.v55 (broadcastInDim S4x2048 ![] bcast_S_S4x2048),
    StableHlo.TRef.binary φ.v53 φ.v55 φ.v56 Host.shli,
    StableHlo.TRef.nullary φ.c_14 (constantI S_ 32 16#32),
    StableHlo.TRef.unary φ.c_14 φ.v57 (broadcastInDim S4x2048 ![] bcast_S_S4x2048),
    StableHlo.TRef.binary φ.v53 φ.v57 φ.v58 Host.shrui,
    StableHlo.TRef.binary φ.v56 φ.v58 φ.v59 ori,
    StableHlo.TRef.binary φ.v54 φ.v59 φ.v60 xori,
    StableHlo.TRef.binary φ.v54 φ.v60 φ.v61 addi,
    StableHlo.TRef.nullary φ.c_15 (constantI S_ 32 24#32),
    StableHlo.TRef.unary φ.c_15 φ.v62 (broadcastInDim S4x2048 ![] bcast_S_S4x2048),
    StableHlo.TRef.binary φ.v60 φ.v62 φ.v63 Host.shli,
    StableHlo.TRef.nullary φ.c_16 (constantI S_ 32 8#32),
    StableHlo.TRef.unary φ.c_16 φ.v64 (broadcastInDim S4x2048 ![] bcast_S_S4x2048),
    StableHlo.TRef.binary φ.v60 φ.v64 φ.v65 Host.shrui,
    StableHlo.TRef.binary φ.v63 φ.v65 φ.v66 ori,
    StableHlo.TRef.binary φ.v61 φ.v66 φ.v67 xori,
    StableHlo.TRef.unary φ.v1 φ.v68 (broadcastInDim S4x2048 ![] bcast_S_S4x2048),
    StableHlo.TRef.binary φ.v61 φ.v68 φ.v69 addi,
    StableHlo.TRef.unary arg0 φ.v70 (broadcastInDim S4x2048 ![] bcast_S_S4x2048),
    StableHlo.TRef.binary φ.v67 φ.v70 φ.v71 addi,
    StableHlo.TRef.nullary φ.c_17 (constantI S_ 32 2#32),
    StableHlo.TRef.unary φ.c_17 φ.v72 (broadcastInDim S4x2048 ![] bcast_S_S4x2048),
    StableHlo.TRef.binary φ.v71 φ.v72 φ.v73 addi,
    StableHlo.TRef.binary φ.v69 φ.v73 φ.v74 addi,
    StableHlo.TRef.nullary φ.c_18 (constantI S_ 32 13#32),
    StableHlo.TRef.unary φ.c_18 φ.v75 (broadcastInDim S4x2048 ![] bcast_S_S4x2048),
    StableHlo.TRef.binary φ.v73 φ.v75 φ.v76 Host.shli,
    StableHlo.TRef.nullary φ.c_19 (constantI S_ 32 19#32),
    StableHlo.TRef.unary φ.c_19 φ.v77 (broadcastInDim S4x2048 ![] bcast_S_S4x2048),
    StableHlo.TRef.binary φ.v73 φ.v77 φ.v78 Host.shrui,
    StableHlo.TRef.binary φ.v76 φ.v78 φ.v79 ori,
    StableHlo.TRef.binary φ.v74 φ.v79 φ.v80 xori,
    StableHlo.TRef.binary φ.v74 φ.v80 φ.v81 addi,
    StableHlo.TRef.nullary φ.c_20 (constantI S_ 32 15#32),
    StableHlo.TRef.unary φ.c_20 φ.v82 (broadcastInDim S4x2048 ![] bcast_S_S4x2048),
    StableHlo.TRef.binary φ.v80 φ.v82 φ.v83 Host.shli,
    StableHlo.TRef.nullary φ.c_21 (constantI S_ 32 17#32),
    StableHlo.TRef.unary φ.c_21 φ.v84 (broadcastInDim S4x2048 ![] bcast_S_S4x2048),
    StableHlo.TRef.binary φ.v80 φ.v84 φ.v85 Host.shrui,
    StableHlo.TRef.binary φ.v83 φ.v85 φ.v86 ori,
    StableHlo.TRef.binary φ.v81 φ.v86 φ.v87 xori,
    StableHlo.TRef.binary φ.v81 φ.v87 φ.v88 addi,
    StableHlo.TRef.nullary φ.c_22 (constantI S_ 32 26#32),
    StableHlo.TRef.unary φ.c_22 φ.v89 (broadcastInDim S4x2048 ![] bcast_S_S4x2048),
    StableHlo.TRef.binary φ.v87 φ.v89 φ.v90 Host.shli,
    StableHlo.TRef.nullary φ.c_23 (constantI S_ 32 6#32),
    StableHlo.TRef.unary φ.c_23 φ.v91 (broadcastInDim S4x2048 ![] bcast_S_S4x2048),
    StableHlo.TRef.binary φ.v87 φ.v91 φ.v92 Host.shrui,
    StableHlo.TRef.binary φ.v90 φ.v92 φ.v93 ori,
    StableHlo.TRef.binary φ.v88 φ.v93 φ.v94 xori ]

set_option maxHeartbeats 40000000 in
/-- The operations of the counter-based random word generator, part 3. -/
abbrev threefryOps2 (arg0 arg1 : StableHlo.TRef sig ⟨S_, .i32⟩) (arg2 arg3 : StableHlo.TRef sig ⟨S4x2048, .i32⟩) (φ : fn_threefry2x32.Bufs) : List (HloOp τ sig (Elt F)) :=
  [ StableHlo.TRef.binary φ.v88 φ.v94 φ.v95 addi,
    StableHlo.TRef.nullary φ.c_24 (constantI S_ 32 6#32),
    StableHlo.TRef.unary φ.c_24 φ.v96 (broadcastInDim S4x2048 ![] bcast_S_S4x2048),
    StableHlo.TRef.binary φ.v94 φ.v96 φ.v97 Host.shli,
    StableHlo.TRef.nullary φ.c_25 (constantI S_ 32 26#32),
    StableHlo.TRef.unary φ.c_25 φ.v98 (broadcastInDim S4x2048 ![] bcast_S_S4x2048),
    StableHlo.TRef.binary φ.v94 φ.v98 φ.v99 Host.shrui,
    StableHlo.TRef.binary φ.v97 φ.v99 φ.v100 ori,
    StableHlo.TRef.binary φ.v95 φ.v100 φ.v101 xori,
    StableHlo.TRef.unary arg0 φ.v102 (broadcastInDim S4x2048 ![] bcast_S_S4x2048),
    StableHlo.TRef.binary φ.v95 φ.v102 φ.v103 addi,
    StableHlo.TRef.unary arg1 φ.v104 (broadcastInDim S4x2048 ![] bcast_S_S4x2048),
    StableHlo.TRef.binary φ.v101 φ.v104 φ.v105 addi,
    StableHlo.TRef.nullary φ.c_26 (constantI S_ 32 3#32),
    StableHlo.TRef.unary φ.c_26 φ.v106 (broadcastInDim S4x2048 ![] bcast_S_S4x2048),
    StableHlo.TRef.binary φ.v105 φ.v106 φ.v107 addi,
    StableHlo.TRef.binary φ.v103 φ.v107 φ.v108 addi,
    StableHlo.TRef.nullary φ.c_27 (constantI S_ 32 17#32),
    StableHlo.TRef.unary φ.c_27 φ.v109 (broadcastInDim S4x2048 ![] bcast_S_S4x2048),
    StableHlo.TRef.binary φ.v107 φ.v109 φ.v110 Host.shli,
    StableHlo.TRef.nullary φ.c_28 (constantI S_ 32 15#32),
    StableHlo.TRef.unary φ.c_28 φ.v111 (broadcastInDim S4x2048 ![] bcast_S_S4x2048),
    StableHlo.TRef.binary φ.v107 φ.v111 φ.v112 Host.shrui,
    StableHlo.TRef.binary φ.v110 φ.v112 φ.v113 ori,
    StableHlo.TRef.binary φ.v108 φ.v113 φ.v114 xori,
    StableHlo.TRef.binary φ.v108 φ.v114 φ.v115 addi,
    StableHlo.TRef.nullary φ.c_29 (constantI S_ 32 29#32),
    StableHlo.TRef.unary φ.c_29 φ.v116 (broadcastInDim S4x2048 ![] bcast_S_S4x2048),
    StableHlo.TRef.binary φ.v114 φ.v116 φ.v117 Host.shli,
    StableHlo.TRef.nullary φ.c_30 (constantI S_ 32 3#32),
    StableHlo.TRef.unary φ.c_30 φ.v118 (broadcastInDim S4x2048 ![] bcast_S_S4x2048),
    StableHlo.TRef.binary φ.v114 φ.v118 φ.v119 Host.shrui,
    StableHlo.TRef.binary φ.v117 φ.v119 φ.v120 ori,
    StableHlo.TRef.binary φ.v115 φ.v120 φ.v121 xori,
    StableHlo.TRef.binary φ.v115 φ.v121 φ.v122 addi,
    StableHlo.TRef.nullary φ.c_31 (constantI S_ 32 16#32),
    StableHlo.TRef.unary φ.c_31 φ.v123 (broadcastInDim S4x2048 ![] bcast_S_S4x2048),
    StableHlo.TRef.binary φ.v121 φ.v123 φ.v124 Host.shli,
    StableHlo.TRef.nullary φ.c_32 (constantI S_ 32 16#32),
    StableHlo.TRef.unary φ.c_32 φ.v125 (broadcastInDim S4x2048 ![] bcast_S_S4x2048),
    StableHlo.TRef.binary φ.v121 φ.v125 φ.v126 Host.shrui,
    StableHlo.TRef.binary φ.v124 φ.v126 φ.v127 ori,
    StableHlo.TRef.binary φ.v122 φ.v127 φ.v128 xori,
    StableHlo.TRef.binary φ.v122 φ.v128 φ.v129 addi,
    StableHlo.TRef.nullary φ.c_33 (constantI S_ 32 24#32),
    StableHlo.TRef.unary φ.c_33 φ.v130 (broadcastInDim S4x2048 ![] bcast_S_S4x2048),
    StableHlo.TRef.binary φ.v128 φ.v130 φ.v131 Host.shli,
    StableHlo.TRef.nullary φ.c_34 (constantI S_ 32 8#32),
    StableHlo.TRef.unary φ.c_34 φ.v132 (broadcastInDim S4x2048 ![] bcast_S_S4x2048),
    StableHlo.TRef.binary φ.v128 φ.v132 φ.v133 Host.shrui,
    StableHlo.TRef.binary φ.v131 φ.v133 φ.v134 ori,
    StableHlo.TRef.binary φ.v129 φ.v134 φ.v135 xori,
    StableHlo.TRef.unary arg1 φ.v136 (broadcastInDim S4x2048 ![] bcast_S_S4x2048),
    StableHlo.TRef.binary φ.v129 φ.v136 φ.v137 addi,
    StableHlo.TRef.unary φ.v1 φ.v138 (broadcastInDim S4x2048 ![] bcast_S_S4x2048),
    StableHlo.TRef.binary φ.v135 φ.v138 φ.v139 addi,
    StableHlo.TRef.nullary φ.c_35 (constantI S_ 32 4#32),
    StableHlo.TRef.unary φ.c_35 φ.v140 (broadcastInDim S4x2048 ![] bcast_S_S4x2048),
    StableHlo.TRef.binary φ.v139 φ.v140 φ.v141 addi,
    StableHlo.TRef.binary φ.v137 φ.v141 φ.v142 addi ]

set_option maxHeartbeats 40000000 in
/-- The operations of the counter-based random word generator, part 4. -/
abbrev threefryOps3 (arg0 arg1 : StableHlo.TRef sig ⟨S_, .i32⟩) (arg2 arg3 : StableHlo.TRef sig ⟨S4x2048, .i32⟩) (φ : fn_threefry2x32.Bufs) : List (HloOp τ sig (Elt F)) :=
  [ StableHlo.TRef.nullary φ.c_36 (constantI S_ 32 13#32),
    StableHlo.TRef.unary φ.c_36 φ.v143 (broadcastInDim S4x2048 ![] bcast_S_S4x2048),
    StableHlo.TRef.binary φ.v141 φ.v143 φ.v144 Host.shli,
    StableHlo.TRef.nullary φ.c_37 (constantI S_ 32 19#32),
    StableHlo.TRef.unary φ.c_37 φ.v145 (broadcastInDim S4x2048 ![] bcast_S_S4x2048),
    StableHlo.TRef.binary φ.v141 φ.v145 φ.v146 Host.shrui,
    StableHlo.TRef.binary φ.v144 φ.v146 φ.v147 ori,
    StableHlo.TRef.binary φ.v142 φ.v147 φ.v148 xori,
    StableHlo.TRef.binary φ.v142 φ.v148 φ.v149 addi,
    StableHlo.TRef.nullary φ.c_38 (constantI S_ 32 15#32),
    StableHlo.TRef.unary φ.c_38 φ.v150 (broadcastInDim S4x2048 ![] bcast_S_S4x2048),
    StableHlo.TRef.binary φ.v148 φ.v150 φ.v151 Host.shli,
    StableHlo.TRef.nullary φ.c_39 (constantI S_ 32 17#32),
    StableHlo.TRef.unary φ.c_39 φ.v152 (broadcastInDim S4x2048 ![] bcast_S_S4x2048),
    StableHlo.TRef.binary φ.v148 φ.v152 φ.v153 Host.shrui,
    StableHlo.TRef.binary φ.v151 φ.v153 φ.v154 ori,
    StableHlo.TRef.binary φ.v149 φ.v154 φ.v155 xori,
    StableHlo.TRef.binary φ.v149 φ.v155 φ.v156 addi,
    StableHlo.TRef.nullary φ.c_40 (constantI S_ 32 26#32),
    StableHlo.TRef.unary φ.c_40 φ.v157 (broadcastInDim S4x2048 ![] bcast_S_S4x2048),
    StableHlo.TRef.binary φ.v155 φ.v157 φ.v158 Host.shli,
    StableHlo.TRef.nullary φ.c_41 (constantI S_ 32 6#32),
    StableHlo.TRef.unary φ.c_41 φ.v159 (broadcastInDim S4x2048 ![] bcast_S_S4x2048),
    StableHlo.TRef.binary φ.v155 φ.v159 φ.v160 Host.shrui,
    StableHlo.TRef.binary φ.v158 φ.v160 φ.v161 ori,
    StableHlo.TRef.binary φ.v156 φ.v161 φ.v162 xori,
    StableHlo.TRef.binary φ.v156 φ.v162 φ.v163 addi,
    StableHlo.TRef.nullary φ.c_42 (constantI S_ 32 6#32),
    StableHlo.TRef.unary φ.c_42 φ.v164 (broadcastInDim S4x2048 ![] bcast_S_S4x2048),
    StableHlo.TRef.binary φ.v162 φ.v164 φ.v165 Host.shli,
    StableHlo.TRef.nullary φ.c_43 (constantI S_ 32 26#32),
    StableHlo.TRef.unary φ.c_43 φ.v166 (broadcastInDim S4x2048 ![] bcast_S_S4x2048),
    StableHlo.TRef.binary φ.v162 φ.v166 φ.v167 Host.shrui,
    StableHlo.TRef.binary φ.v165 φ.v167 φ.v168 ori,
    StableHlo.TRef.binary φ.v163 φ.v168 φ.v169 xori,
    StableHlo.TRef.unary φ.v1 φ.v170 (broadcastInDim S4x2048 ![] bcast_S_S4x2048),
    StableHlo.TRef.binary φ.v163 φ.v170 φ.v171 addi,
    StableHlo.TRef.unary arg0 φ.v172 (broadcastInDim S4x2048 ![] bcast_S_S4x2048),
    StableHlo.TRef.binary φ.v169 φ.v172 φ.v173 addi,
    StableHlo.TRef.nullary φ.c_44 (constantI S_ 32 5#32),
    StableHlo.TRef.unary φ.c_44 φ.v174 (broadcastInDim S4x2048 ![] bcast_S_S4x2048),
    StableHlo.TRef.binary φ.v173 φ.v174 φ.v175 addi ]

/-- The operations of the uniform draw before the random words. -/
abbrev uniformPreOps (arg0 : StableHlo.TRef sig ⟨S2, .i32⟩) (arg1 arg2 : StableHlo.TRef sig ⟨S_, .f32⟩) (φ : fn_uniform.Bufs) : List (HloOp τ sig (Elt F)) :=
  [ StableHlo.TRef.unary arg1 φ.v0 id,
    StableHlo.TRef.unary arg2 φ.v1 id,
    StableHlo.TRef.unary φ.v0 φ.v2 (broadcastInDim S1x1 ![] bcast_S_S1x1),
    StableHlo.TRef.unary φ.v1 φ.v3 (broadcastInDim S1x1 ![] bcast_S_S1x1),
    StableHlo.TRef.unary arg0 φ.v4 (extractStridedSlice S1 ![0] · slices_S2_S1_0),
    StableHlo.TRef.reshape φ.v4 φ.v5 (rfl : (.i32 : EltTy) = .i32) shapeCasts_S1_S_,
    StableHlo.TRef.unary arg0 φ.v6 (extractStridedSlice S1 ![1] · slices_S2_S1_1),
    StableHlo.TRef.reshape φ.v6 φ.v7 (rfl : (.i32 : EltTy) = .i32) shapeCasts_S1_S_,
    StableHlo.TRef.nullary φ.v8 (iotaInDim S4x2048 64 0),
    StableHlo.TRef.nullary φ.v9 (iotaInDim S4x2048 64 1),
    StableHlo.TRef.nullary φ.c (constantI S_ 64 2048#64),
    StableHlo.TRef.unary φ.c φ.v10 (broadcastInDim S4x2048 ![] bcast_S_S4x2048),
    StableHlo.TRef.binary φ.v10 φ.v8 φ.v11 muli,
    StableHlo.TRef.nullary φ.c_0 (constantI S_ 64 1#64),
    StableHlo.TRef.unary φ.c_0 φ.v12 (broadcastInDim S4x2048 ![] bcast_S_S4x2048),
    StableHlo.TRef.binary φ.v12 φ.v9 φ.v13 muli,
    StableHlo.TRef.binary φ.v11 φ.v13 φ.v14 addi,
    StableHlo.TRef.nullary φ.c_1 (constantI S_ 64 32#64),
    StableHlo.TRef.unary φ.c_1 φ.v15 (broadcastInDim S4x2048 ![] bcast_S_S4x2048),
    StableHlo.TRef.binary φ.v14 φ.v15 φ.v16 Host.shrui,
    StableHlo.TRef.unary φ.v14 φ.v17 (trunci 32 · natLt_32_64),
    StableHlo.TRef.unary φ.v16 φ.v18 (trunci 32 · natLt_32_64) ]

/-- The operations of the uniform draw after the random words. -/
abbrev uniformPostOps (arg0 : StableHlo.TRef sig ⟨S2, .i32⟩) (arg1 arg2 : StableHlo.TRef sig ⟨S_, .f32⟩) (φ : fn_uniform.Bufs) : List (HloOp τ sig (Elt F)) :=
  [ StableHlo.TRef.binary φ.call0.v171 φ.call0.v175 φ.v20 xori,
    StableHlo.TRef.nullary φ.c_2 (constantI S_ 32 9#32),
    StableHlo.TRef.unary φ.c_2 φ.v21 (broadcastInDim S4x2048 ![] bcast_S_S4x2048),
    StableHlo.TRef.binary φ.v20 φ.v21 φ.v22 Host.shrui,
    StableHlo.TRef.nullary φ.c_3 (constantI S_ 32 1065353216#32),
    StableHlo.TRef.unary φ.c_3 φ.v23 (broadcastInDim S4x2048 ![] bcast_S_S4x2048),
    StableHlo.TRef.binary φ.v22 φ.v23 φ.v24 ori,
    StableHlo.TRef.unary φ.v24 φ.v25 (bitcastToFloat .f32),
    StableHlo.TRef.nullary φ.cst (constant S_ .f32 0x3F800000#32),
    StableHlo.TRef.unary φ.cst φ.v26 (broadcastInDim S4x2048 ![] bcast_S_S4x2048),
    StableHlo.TRef.binary φ.v25 φ.v26 φ.v27 subf,
    StableHlo.TRef.binary φ.v3 φ.v2 φ.v28 subf,
    StableHlo.TRef.unary φ.v28 φ.v29 (broadcastInDim S4x2048 ![0, 1] bcast_S1x1_S4x2048_0_1),
    StableHlo.TRef.binary φ.v27 φ.v29 φ.v30 mulf,
    StableHlo.TRef.unary φ.v2 φ.v31 (broadcastInDim S4x2048 ![0, 1] bcast_S1x1_S4x2048_0_1),
    StableHlo.TRef.binary φ.v30 φ.v31 φ.v32 addf,
    StableHlo.TRef.unary φ.v2 φ.v33 (broadcastInDim S4x2048 ![0, 1] bcast_S1x1_S4x2048_0_1),
    StableHlo.TRef.binary φ.v33 φ.v32 φ.v34 maximumf ]

/-- The logits and their softmax. -/
abbrev opsSoftmax  : List (HloOp τ sig (Elt F)) :=
  [ StableHlo.binary main_arg0 main_arg1 main_v0 ((fun l r => Host.dotGeneral dot_S4x2048x4096_S4096x16_S4x2048x16_2_0_01_1_n_n none l r) : (⟨S4x2048x4096, .f32⟩ : BufTy).Contents (Elt F) → (⟨S4096x16, .f32⟩ : BufTy).Contents (Elt F) → (⟨S4x2048x16, .f32⟩ : BufTy).Contents (Elt F)),
    StableHlo.nullary main_cst (constant S_ .f32 0xFF800000#32),
    StableHlo.binary main_v0 main_cst main_v1 ((fun x v => Host.reduce FloatOps.maximumf x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.nullary main_cst_0 (constant S_ .f32 0xFF800000#32),
    StableHlo.unary main_cst_0 main_v2 (broadcastInDim S4x2048 ![] bcast_S_S4x2048 : (⟨S_, .f32⟩ : BufTy).Contents (Elt F) → (⟨S4x2048, .f32⟩ : BufTy).Contents (Elt F)),
    StableHlo.binary main_v2 main_v1 main_v3 (maximumf : (⟨S4x2048, .f32⟩ : BufTy).Contents (Elt F) → (⟨S4x2048, .f32⟩ : BufTy).Contents (Elt F) → (⟨S4x2048, .f32⟩ : BufTy).Contents (Elt F)),
    StableHlo.unary main_v3 main_v4 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v4 main_v5 (broadcastInDim S4x2048x16 ![0, 1, 2] bcast_S4x2048x1_S4x2048x16_0_1_2 : (⟨S4x2048x1, .f32⟩ : BufTy).Contents (Elt F) → (⟨S4x2048x16, .f32⟩ : BufTy).Contents (Elt F)),
    StableHlo.binary main_v0 main_v5 main_v6 (subf : (⟨S4x2048x16, .f32⟩ : BufTy).Contents (Elt F) → (⟨S4x2048x16, .f32⟩ : BufTy).Contents (Elt F) → (⟨S4x2048x16, .f32⟩ : BufTy).Contents (Elt F)),
    StableHlo.unary main_v6 main_v7 (Host.exp : (⟨S4x2048x16, .f32⟩ : BufTy).Contents (Elt F) → (⟨S4x2048x16, .f32⟩ : BufTy).Contents (Elt F)),
    StableHlo.nullary main_cst_1 (constant S_ .f32 0x00000000#32),
    StableHlo.binary main_v7 main_cst_1 main_v8 ((fun x v => Host.reduceAdd x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.unary main_v8 main_v9 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v9 main_v10 (broadcastInDim S4x2048x16 ![0, 1, 2] bcast_S4x2048x1_S4x2048x16_0_1_2 : (⟨S4x2048x1, .f32⟩ : BufTy).Contents (Elt F) → (⟨S4x2048x16, .f32⟩ : BufTy).Contents (Elt F)),
    StableHlo.binary main_v7 main_v10 main_v11 (Host.divf : (⟨S4x2048x16, .f32⟩ : BufTy).Contents (Elt F) → (⟨S4x2048x16, .f32⟩ : BufTy).Contents (Elt F) → (⟨S4x2048x16, .f32⟩ : BufTy).Contents (Elt F)) ]

/-- The two largest of each row and where they stand. -/
abbrev opsTop  : List (HloOp τ sig (Elt F)) :=
  [ StableHlo.unary main_v11 main_values ((fun x => (Host.topK S4x2048x2 2 (FloatOps.cmpfTotal .gt) x sliceFits_S4x2048x16_S4x2048x2).1) : (⟨S4x2048x16, .f32⟩ : BufTy).Contents (Elt F) → (⟨S4x2048x2, .f32⟩ : BufTy).Contents (Elt F)),
    StableHlo.unary main_v11 main_indices ((fun x => (Host.topK S4x2048x2 2 (FloatOps.cmpfTotal .gt) x sliceFits_S4x2048x16_S4x2048x2).2) : (⟨S4x2048x16, .f32⟩ : BufTy).Contents (Elt F) → (⟨S4x2048x2, .i32⟩ : BufTy).Contents (Elt F)),
    StableHlo.unary main_values main_v12 ((extractStridedSlice S4x2048x1 ![0, 0, 0] · slices_S4x2048x2_S4x2048x1_0_0_0) : (⟨S4x2048x2, .f32⟩ : BufTy).Contents (Elt F) → (⟨S4x2048x1, .f32⟩ : BufTy).Contents (Elt F)),
    StableHlo.reshape main_v12 main_v13 (rfl : (.f32 : EltTy) = .f32) shapeCasts_S4x2048x1_S4x2048,
    StableHlo.unary main_values main_v14 ((extractStridedSlice S4x2048x1 ![0, 0, 1] · slices_S4x2048x2_S4x2048x1_0_0_1) : (⟨S4x2048x2, .f32⟩ : BufTy).Contents (Elt F) → (⟨S4x2048x1, .f32⟩ : BufTy).Contents (Elt F)),
    StableHlo.reshape main_v14 main_v15 (rfl : (.f32 : EltTy) = .f32) shapeCasts_S4x2048x1_S4x2048,
    StableHlo.unary main_indices main_v16 ((extractStridedSlice S4x2048x1 ![0, 0, 0] · slices_S4x2048x2_S4x2048x1_0_0_0) : (⟨S4x2048x2, .i32⟩ : BufTy).Contents (Elt F) → (⟨S4x2048x1, .i32⟩ : BufTy).Contents (Elt F)),
    StableHlo.reshape main_v16 main_v17 (rfl : (.i32 : EltTy) = .i32) shapeCasts_S4x2048x1_S4x2048,
    StableHlo.unary main_indices main_v18 ((extractStridedSlice S4x2048x1 ![0, 0, 1] · slices_S4x2048x2_S4x2048x1_0_0_1) : (⟨S4x2048x2, .i32⟩ : BufTy).Contents (Elt F) → (⟨S4x2048x1, .i32⟩ : BufTy).Contents (Elt F)),
    StableHlo.reshape main_v18 main_v19 (rfl : (.i32 : EltTy) = .i32) shapeCasts_S4x2048x1_S4x2048 ]

/-- The two gates and the balance loss. -/
abbrev opsGates  : List (HloOp τ sig (Elt F)) :=
  [ StableHlo.binary main_v13 main_v15 main_v22 (addf : (⟨S4x2048, .f32⟩ : BufTy).Contents (Elt F) → (⟨S4x2048, .f32⟩ : BufTy).Contents (Elt F) → (⟨S4x2048, .f32⟩ : BufTy).Contents (Elt F)),
    StableHlo.nullary main_cst_2 (constant S_ .f32 0x3089705F#32),
    StableHlo.unary main_cst_2 main_v23 (broadcastInDim S4x2048 ![] bcast_S_S4x2048 : (⟨S_, .f32⟩ : BufTy).Contents (Elt F) → (⟨S4x2048, .f32⟩ : BufTy).Contents (Elt F)),
    StableHlo.binary main_v22 main_v23 main_v24 (addf : (⟨S4x2048, .f32⟩ : BufTy).Contents (Elt F) → (⟨S4x2048, .f32⟩ : BufTy).Contents (Elt F) → (⟨S4x2048, .f32⟩ : BufTy).Contents (Elt F)),
    StableHlo.binary main_v13 main_v24 main_v25 (Host.divf : (⟨S4x2048, .f32⟩ : BufTy).Contents (Elt F) → (⟨S4x2048, .f32⟩ : BufTy).Contents (Elt F) → (⟨S4x2048, .f32⟩ : BufTy).Contents (Elt F)),
    StableHlo.binary main_v15 main_v24 main_v26 (Host.divf : (⟨S4x2048, .f32⟩ : BufTy).Contents (Elt F) → (⟨S4x2048, .f32⟩ : BufTy).Contents (Elt F) → (⟨S4x2048, .f32⟩ : BufTy).Contents (Elt F)),
    StableHlo.nullary main_cst_3 (constant S_ .f32 0x00000000#32),
    StableHlo.binary main_v20 main_cst_3 main_v27 ((fun x v => Host.reduceAdd x v reducesTo_S4x2048x16_S4x16_d1 h_S_) : (⟨S4x2048x16, .f32⟩ : BufTy).Contents (Elt F) → (⟨S_, .f32⟩ : BufTy).Contents (Elt F) → (⟨S4x16, .f32⟩ : BufTy).Contents (Elt F)),
    StableHlo.nullary main_cst_4 (constant S_ .f32 0x45000000#32),
    StableHlo.unary main_cst_4 main_v28 (broadcastInDim S4x16 ![] bcast_S_S4x16 : (⟨S_, .f32⟩ : BufTy).Contents (Elt F) → (⟨S4x16, .f32⟩ : BufTy).Contents (Elt F)),
    StableHlo.binary main_v27 main_v28 main_v29 (Host.divf : (⟨S4x16, .f32⟩ : BufTy).Contents (Elt F) → (⟨S4x16, .f32⟩ : BufTy).Contents (Elt F) → (⟨S4x16, .f32⟩ : BufTy).Contents (Elt F)),
    StableHlo.nullary main_cst_5 (constant S_ .f32 0x00000000#32),
    StableHlo.binary main_v11 main_cst_5 main_v30 ((fun x v => Host.reduceAdd x v reducesTo_S4x2048x16_S4x16_d1 h_S_) : (⟨S4x2048x16, .f32⟩ : BufTy).Contents (Elt F) → (⟨S_, .f32⟩ : BufTy).Contents (Elt F) → (⟨S4x16, .f32⟩ : BufTy).Contents (Elt F)),
    StableHlo.nullary main_cst_6 (constant S_ .f32 0x45000000#32),
    StableHlo.unary main_cst_6 main_v31 (broadcastInDim S4x16 ![] bcast_S_S4x16 : (⟨S_, .f32⟩ : BufTy).Contents (Elt F) → (⟨S4x16, .f32⟩ : BufTy).Contents (Elt F)),
    StableHlo.binary main_v30 main_v31 main_v32 (Host.divf : (⟨S4x16, .f32⟩ : BufTy).Contents (Elt F) → (⟨S4x16, .f32⟩ : BufTy).Contents (Elt F) → (⟨S4x16, .f32⟩ : BufTy).Contents (Elt F)),
    StableHlo.binary main_v32 main_v29 main_v33 (mulf : (⟨S4x16, .f32⟩ : BufTy).Contents (Elt F) → (⟨S4x16, .f32⟩ : BufTy).Contents (Elt F) → (⟨S4x16, .f32⟩ : BufTy).Contents (Elt F)),
    StableHlo.nullary main_cst_7 (constant S_ .f32 0x00000000#32),
    StableHlo.binary main_v33 main_cst_7 main_v34 ((fun x v => Host.reduceAdd x v reducesTo_S4x16_S_d0_1 h_S_) : (⟨S4x16, .f32⟩ : BufTy).Contents (Elt F) → (⟨S_, .f32⟩ : BufTy).Contents (Elt F) → (⟨S_, .f32⟩ : BufTy).Contents (Elt F)),
    StableHlo.nullary main_cst_8 (constant S_ .f32 0x42800000#32),
    StableHlo.binary main_v34 main_cst_8 main_v35 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x43800000#32),
    StableHlo.binary main_v35 main_cst_9 main_v36 (mulf : (⟨S_, .f32⟩ : BufTy).Contents (Elt F) → (⟨S_, .f32⟩ : BufTy).Contents (Elt F) → (⟨S_, .f32⟩ : BufTy).Contents (Elt F)) ]

/-- The random key. -/
abbrev opsKey  : List (HloOp τ sig (Elt F)) :=
  [ StableHlo.nullary main_c (constantI S_ 32 42#32),
    StableHlo.nullary main_c_10 (constantI S_ 32 32#32),
    StableHlo.binary main_c main_c_10 main_v37 (Host.shrui : (⟨S_, .i32⟩ : BufTy).Contents (Elt F) → (⟨S_, .i32⟩ : BufTy).Contents (Elt F) → (⟨S_, .i32⟩ : BufTy).Contents (Elt F)),
    StableHlo.unary main_v37 main_v38 (id : (⟨S_, .i32⟩ : BufTy).Contents (Elt F) → (⟨S_, .i32⟩ : BufTy).Contents (Elt F)),
    StableHlo.unary main_v38 main_v39 (broadcastInDim S1 ![] bcast_S_S1 : (⟨S_, .i32⟩ : BufTy).Contents (Elt F) → (⟨S1, .i32⟩ : BufTy).Contents (Elt F)),
    StableHlo.nullary main_c_11 (constantI S_ 32 4294967295#32),
    StableHlo.binary main_c main_c_11 main_v40 (andi : (⟨S_, .i32⟩ : BufTy).Contents (Elt F) → (⟨S_, .i32⟩ : BufTy).Contents (Elt F) → (⟨S_, .i32⟩ : BufTy).Contents (Elt F)),
    StableHlo.unary main_v40 main_v41 (id : (⟨S_, .i32⟩ : BufTy).Contents (Elt F) → (⟨S_, .i32⟩ : BufTy).Contents (Elt F)),
    StableHlo.unary main_v41 main_v42 (broadcastInDim S1 ![] bcast_S_S1 : (⟨S_, .i32⟩ : BufTy).Contents (Elt F) → (⟨S1, .i32⟩ : BufTy).Contents (Elt F)),
    StableHlo.binary main_v39 main_v42 main_v43 ((fun a b => concatenate S2 0 [⟨S1, a⟩, ⟨S1, b⟩] concatenates_S1_S1_S2_d0) : (⟨S1, .i32⟩ : BufTy).Contents (Elt F) → (⟨S1, .i32⟩ : BufTy).Contents (Elt F) → (⟨S2, .i32⟩ : BufTy).Contents (Elt F)) ]

/-- The bounds of the draw. -/
abbrev opsBounds  : List (HloOp τ sig (Elt F)) :=
  [ StableHlo.nullary main_cst_12 (constant S_ .f32 0x00000000#32),
    StableHlo.nullary main_cst_13 (constant S_ .f32 0x3F800000#32) ]

/-- The second mask, kept at random. -/
abbrev opsMask2  : List (HloOp τ sig (Elt F)) :=
  [ StableHlo.nullary main_cst_14 (constant S_ .f32 0x3E4CCCCD#32),
    StableHlo.unary main_cst_14 main_v45 (broadcastInDim S4x2048 ![] bcast_S_S4x2048 : (⟨S_, .f32⟩ : BufTy).Contents (Elt F) → (⟨S4x2048, .f32⟩ : BufTy).Contents (Elt F)),
    StableHlo.binary main_v26 main_v45 main_v46 (Host.divf : (⟨S4x2048, .f32⟩ : BufTy).Contents (Elt F) → (⟨S4x2048, .f32⟩ : BufTy).Contents (Elt F) → (⟨S4x2048, .f32⟩ : BufTy).Contents (Elt F)),
    StableHlo.binary main_v44 main_v46 main_v47 (cmpf .olt : (⟨S4x2048, .f32⟩ : BufTy).Contents (Elt F) → (⟨S4x2048, .f32⟩ : BufTy).Contents (Elt F) → (⟨S4x2048, .i1⟩ : BufTy).Contents (Elt F)),
    StableHlo.unary main_v47 main_v48 (uitofp .f32 : (⟨S4x2048, .i1⟩ : BufTy).Contents (Elt F) → (⟨S4x2048, .f32⟩ : BufTy).Contents (Elt F)),
    StableHlo.unary main_v48 main_v49 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v49 main_v50 (broadcastInDim S4x2048x16 ![0, 1, 2] bcast_S4x2048x1_S4x2048x16_0_1_2 : (⟨S4x2048x1, .f32⟩ : BufTy).Contents (Elt F) → (⟨S4x2048x16, .f32⟩ : BufTy).Contents (Elt F)),
    StableHlo.binary main_v21 main_v50 main_v51 (mulf : (⟨S4x2048x16, .f32⟩ : BufTy).Contents (Elt F) → (⟨S4x2048x16, .f32⟩ : BufTy).Contents (Elt F) → (⟨S4x2048x16, .f32⟩ : BufTy).Contents (Elt F)) ]

/-- The places and the kept mask of the first choice. -/
abbrev opsPos1  : List (HloOp τ sig (Elt F)) :=
  [ StableHlo.binary main_v52 main_v20 main_v53 (subf : (⟨S4x2048x16, .f32⟩ : BufTy).Contents (Elt F) → (⟨S4x2048x16, .f32⟩ : BufTy).Contents (Elt F) → (⟨S4x2048x16, .f32⟩ : BufTy).Contents (Elt F)),
    StableHlo.binary main_v53 main_v20 main_v54 (mulf : (⟨S4x2048x16, .f32⟩ : BufTy).Contents (Elt F) → (⟨S4x2048x16, .f32⟩ : BufTy).Contents (Elt F) → (⟨S4x2048x16, .f32⟩ : BufTy).Contents (Elt F)),
    StableHlo.nullary main_cst_15 (constant S_ .f32 0x43200000#32),
    StableHlo.unary main_cst_15 main_v55 (broadcastInDim S4x2048x16 ![] bcast_S_S4x2048x16 : (⟨S_, .f32⟩ : BufTy).Contents (Elt F) → (⟨S4x2048x16, .f32⟩ : BufTy).Contents (Elt F)),
    StableHlo.binary main_v54 main_v55 main_v56 (cmpf .olt : (⟨S4x2048x16, .f32⟩ : BufTy).Contents (Elt F) → (⟨S4x2048x16, .f32⟩ : BufTy).Contents (Elt F) → (⟨S4x2048x16, .i1⟩ : BufTy).Contents (Elt F)),
    StableHlo.unary main_v56 main_v57 (uitofp .f32 : (⟨S4x2048x16, .i1⟩ : BufTy).Contents (Elt F) → (⟨S4x2048x16, .f32⟩ : BufTy).Contents (Elt F)),
    StableHlo.binary main_v20 main_v57 main_v58 (mulf : (⟨S4x2048x16, .f32⟩ : BufTy).Contents (Elt F) → (⟨S4x2048x16, .f32⟩ : BufTy).Contents (Elt F) → (⟨S4x2048x16, .f32⟩ : BufTy).Contents (Elt F)),
    StableHlo.nullary main_cst_16 (constant S_ .f32 0x00000000#32),
    StableHlo.binary main_v58 main_cst_16 main_v59 ((fun x v => Host.reduceAdd x v reducesTo_S4x2048x16_S4x16_d1 h_S_) : (⟨S4x2048x16, .f32⟩ : BufTy).Contents (Elt F) → (⟨S_, .f32⟩ : BufTy).Contents (Elt F) → (⟨S4x16, .f32⟩ : BufTy).Contents (Elt F)),
    StableHlo.unary main_v59 main_v60 (broadcastInDim S4x1x16 ![0, 2] bcast_S4x16_S4x1x16_0_2 : (⟨S4x16, .f32⟩ : BufTy).Contents (Elt F) → (⟨S4x1x16, .f32⟩ : BufTy).Contents (Elt F)),
    StableHlo.nullary main_cst_17 (constant S_ .f32 0x45000000#32),
    StableHlo.unary main_cst_17 main_v61 (broadcastInDim S4x1x16 ![] bcast_S_S4x1x16 : (⟨S_, .f32⟩ : BufTy).Contents (Elt F) → (⟨S4x1x16, .f32⟩ : BufTy).Contents (Elt F)),
    StableHlo.binary main_v60 main_v61 main_v62 (Host.divf : (⟨S4x1x16, .f32⟩ : BufTy).Contents (Elt F) → (⟨S4x1x16, .f32⟩ : BufTy).Contents (Elt F) → (⟨S4x1x16, .f32⟩ : BufTy).Contents (Elt F)),
    StableHlo.nullary main_cst_18 (constant S_ .f32 0x00000000#32),
    StableHlo.binary main_v58 main_cst_18 main_v63 ((fun x v => Host.reduceAdd x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.nullary main_cst_19 (constant S_ .f32 0x00000000#32),
    StableHlo.binary main_v54 main_cst_19 main_v64 ((fun x v => Host.reduceAdd x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.binary main_v25 main_v63 main_v65 (mulf : (⟨S4x2048, .f32⟩ : BufTy).Contents (Elt F) → (⟨S4x2048, .f32⟩ : BufTy).Contents (Elt F) → (⟨S4x2048, .f32⟩ : BufTy).Contents (Elt F)) ]

/-- The places and the kept mask of the second choice. -/
abbrev opsPos2  : List (HloOp τ sig (Elt F)) :=
  [ StableHlo.binary main_v66 main_v51 main_v67 (subf : (⟨S4x2048x16, .f32⟩ : BufTy).Contents (Elt F) → (⟨S4x2048x16, .f32⟩ : BufTy).Contents (Elt F) → (⟨S4x2048x16, .f32⟩ : BufTy).Contents (Elt F)),
    StableHlo.unary main_v62 main_v68 (broadcastInDim S4x2048x16 ![0, 1, 2] bcast_S4x1x16_S4x2048x16_0_1_2 : (⟨S4x1x16, .f32⟩ : BufTy).Contents (Elt F) → (⟨S4x2048x16, .f32⟩ : BufTy).Contents (Elt F)),
    StableHlo.binary main_v67 main_v68 main_v69 (addf : (⟨S4x2048x16, .f32⟩ : BufTy).Contents (Elt F) → (⟨S4x2048x16, .f32⟩ : BufTy).Contents (Elt F) → (⟨S4x2048x16, .f32⟩ : BufTy).Contents (Elt F)),
    StableHlo.binary main_v69 main_v51 main_v70 (mulf : (⟨S4x2048x16, .f32⟩ : BufTy).Contents (Elt F) → (⟨S4x2048x16, .f32⟩ : BufTy).Contents (Elt F) → (⟨S4x2048x16, .f32⟩ : BufTy).Contents (Elt F)),
    StableHlo.nullary main_cst_20 (constant S_ .f32 0x43200000#32),
    StableHlo.unary main_cst_20 main_v71 (broadcastInDim S4x2048x16 ![] bcast_S_S4x2048x16 : (⟨S_, .f32⟩ : BufTy).Contents (Elt F) → (⟨S4x2048x16, .f32⟩ : BufTy).Contents (Elt F)),
    StableHlo.binary main_v70 main_v71 main_v72 (cmpf .olt : (⟨S4x2048x16, .f32⟩ : BufTy).Contents (Elt F) → (⟨S4x2048x16, .f32⟩ : BufTy).Contents (Elt F) → (⟨S4x2048x16, .i1⟩ : BufTy).Contents (Elt F)),
    StableHlo.unary main_v72 main_v73 (uitofp .f32 : (⟨S4x2048x16, .i1⟩ : BufTy).Contents (Elt F) → (⟨S4x2048x16, .f32⟩ : BufTy).Contents (Elt F)),
    StableHlo.binary main_v51 main_v73 main_v74 (mulf : (⟨S4x2048x16, .f32⟩ : BufTy).Contents (Elt F) → (⟨S4x2048x16, .f32⟩ : BufTy).Contents (Elt F) → (⟨S4x2048x16, .f32⟩ : BufTy).Contents (Elt F)),
    StableHlo.nullary main_cst_21 (constant S_ .f32 0x00000000#32),
    StableHlo.binary main_v74 main_cst_21 main_v75 ((fun x v => Host.reduceAdd x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.nullary main_cst_22 (constant S_ .f32 0x00000000#32),
    StableHlo.binary main_v70 main_cst_22 main_v76 ((fun x v => Host.reduceAdd x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.binary main_v26 main_v75 main_v77 (mulf : (⟨S4x2048, .f32⟩ : BufTy).Contents (Elt F) → (⟨S4x2048, .f32⟩ : BufTy).Contents (Elt F) → (⟨S4x2048, .f32⟩ : BufTy).Contents (Elt F)) ]

/-- The place of the first choice as a word. -/
abbrev opsPlace1  : List (HloOp τ sig (Elt F)) :=
  [ StableHlo.unary main_v64 main_v80 (fptosi 32 : (⟨S4x2048, .f32⟩ : BufTy).Contents (Elt F) → (⟨S4x2048, .i32⟩ : BufTy).Contents (Elt F)) ]

/-- The place of the second choice as a word. -/
abbrev opsPlace2  : List (HloOp τ sig (Elt F)) :=
  [ StableHlo.unary main_v76 main_v82 (fptosi 32 : (⟨S4x2048, .f32⟩ : BufTy).Contents (Elt F) → (⟨S4x2048, .i32⟩ : BufTy).Contents (Elt F)) ]

/-- The factors of the combining weights. -/
abbrev opsCombineA  : List (HloOp τ sig (Elt F)) :=
  [ StableHlo.unary main_v65 main_v84 (broadcastInDim S4x2048x1x1 ![0, 1] bcast_S4x2048_S4x2048x1x1_0_1 : (⟨S4x2048, .f32⟩ : BufTy).Contents (Elt F) → (⟨S4x2048x1x1, .f32⟩ : BufTy).Contents (Elt F)),
    StableHlo.unary main_v63 main_v85 (broadcastInDim S4x2048x1x1 ![0, 1] bcast_S4x2048_S4x2048x1x1_0_1 : (⟨S4x2048, .f32⟩ : BufTy).Contents (Elt F) → (⟨S4x2048x1x1, .f32⟩ : BufTy).Contents (Elt F)),
    StableHlo.binary main_v84 main_v85 main_v86 (mulf : (⟨S4x2048x1x1, .f32⟩ : BufTy).Contents (Elt F) → (⟨S4x2048x1x1, .f32⟩ : BufTy).Contents (Elt F) → (⟨S4x2048x1x1, .f32⟩ : BufTy).Contents (Elt F)),
    StableHlo.unary main_v78 main_v87 (broadcastInDim S4x2048x16x1 ![0, 1, 2] bcast_S4x2048x16_S4x2048x16x1_0_1_2 : (⟨S4x2048x16, .f32⟩ : BufTy).Contents (Elt F) → (⟨S4x2048x16x1, .f32⟩ : BufTy).Contents (Elt F)),
    StableHlo.unary main_v86 main_v88 (broadcastInDim S4x2048x16x1 ![0, 1, 2, 3] bcast_S4x2048x1x1_S4x2048x16x1_0_1_2_3 : (⟨S4x2048x1x1, .f32⟩ : BufTy).Contents (Elt F) → (⟨S4x2048x16x1, .f32⟩ : BufTy).Contents (Elt F)),
    StableHlo.binary main_v88 main_v87 main_v89 (mulf : (⟨S4x2048x16x1, .f32⟩ : BufTy).Contents (Elt F) → (⟨S4x2048x16x1, .f32⟩ : BufTy).Contents (Elt F) → (⟨S4x2048x16x1, .f32⟩ : BufTy).Contents (Elt F)),
    StableHlo.unary main_v81 main_v90 (broadcastInDim S4x2048x1x160 ![0, 1, 3] bcast_S4x2048x160_S4x2048x1x160_0_1_3 : (⟨S4x2048x160, .f32⟩ : BufTy).Contents (Elt F) → (⟨S4x2048x1x160, .f32⟩ : BufTy).Contents (Elt F)),
    StableHlo.unary main_v89 main_v91 (broadcastInDim S4x2048x16x160 ![0, 1, 2, 3] bcast_S4x2048x16x1_S4x2048x16x160_0_1_2_3 : (⟨S4x2048x16x1, .f32⟩ : BufTy).Contents (Elt F) → (⟨S4x2048x16x160, .f32⟩ : BufTy).Contents (Elt F)),
    StableHlo.unary main_v90 main_v92 (broadcastInDim S4x2048x16x160 ![0, 1, 2, 3] bcast_S4x2048x1x160_S4x2048x16x160_0_1_2_3 : (⟨S4x2048x1x160, .f32⟩ : BufTy).Contents (Elt F) → (⟨S4x2048x16x160, .f32⟩ : BufTy).Contents (Elt F)) ]

/-- The combining weights and the dispatch mask. -/
abbrev opsCombineB  : List (HloOp τ sig (Elt F)) :=
  [ StableHlo.binary main_v91 main_v92 main_v93 (mulf : (⟨S4x2048x16x160, .f32⟩ : BufTy).Contents (Elt F) → (⟨S4x2048x16x160, .f32⟩ : BufTy).Contents (Elt F) → (⟨S4x2048x16x160, .f32⟩ : BufTy).Contents (Elt F)),
    StableHlo.unary main_v77 main_v94 (broadcastInDim S4x2048x1x1 ![0, 1] bcast_S4x2048_S4x2048x1x1_0_1 : (⟨S4x2048, .f32⟩ : BufTy).Contents (Elt F) → (⟨S4x2048x1x1, .f32⟩ : BufTy).Contents (Elt F)),
    StableHlo.unary main_v75 main_v95 (broadcastInDim S4x2048x1x1 ![0, 1] bcast_S4x2048_S4x2048x1x1_0_1 : (⟨S4x2048, .f32⟩ : BufTy).Contents (Elt F) → (⟨S4x2048x1x1, .f32⟩ : BufTy).Contents (Elt F)),
    StableHlo.binary main_v94 main_v95 main_v96 (mulf : (⟨S4x2048x1x1, .f32⟩ : BufTy).Contents (Elt F) → (⟨S4x2048x1x1, .f32⟩ : BufTy).Contents (Elt F) → (⟨S4x2048x1x1, .f32⟩ : BufTy).Contents (Elt F)),
    StableHlo.unary main_v79 main_v97 (broadcastInDim S4x2048x16x1 ![0, 1, 2] bcast_S4x2048x16_S4x2048x16x1_0_1_2 : (⟨S4x2048x16, .f32⟩ : BufTy).Contents (Elt F) → (⟨S4x2048x16x1, .f32⟩ : BufTy).Contents (Elt F)),
    StableHlo.unary main_v96 main_v98 (broadcastInDim S4x2048x16x1 ![0, 1, 2, 3] bcast_S4x2048x1x1_S4x2048x16x1_0_1_2_3 : (⟨S4x2048x1x1, .f32⟩ : BufTy).Contents (Elt F) → (⟨S4x2048x16x1, .f32⟩ : BufTy).Contents (Elt F)),
    StableHlo.binary main_v98 main_v97 main_v99 (mulf : (⟨S4x2048x16x1, .f32⟩ : BufTy).Contents (Elt F) → (⟨S4x2048x16x1, .f32⟩ : BufTy).Contents (Elt F) → (⟨S4x2048x16x1, .f32⟩ : BufTy).Contents (Elt F)),
    StableHlo.unary main_v83 main_v100 (broadcastInDim S4x2048x1x160 ![0, 1, 3] bcast_S4x2048x160_S4x2048x1x160_0_1_3 : (⟨S4x2048x160, .f32⟩ : BufTy).Contents (Elt F) → (⟨S4x2048x1x160, .f32⟩ : BufTy).Contents (Elt F)),
    StableHlo.unary main_v99 main_v101 (broadcastInDim S4x2048x16x160 ![0, 1, 2, 3] bcast_S4x2048x16x1_S4x2048x16x160_0_1_2_3 : (⟨S4x2048x16x1, .f32⟩ : BufTy).Contents (Elt F) → (⟨S4x2048x16x160, .f32⟩ : BufTy).Contents (Elt F)),
    StableHlo.unary main_v100 main_v102 (broadcastInDim S4x2048x16x160 ![0, 1, 2, 3] bcast_S4x2048x1x160_S4x2048x16x160_0_1_2_3 : (⟨S4x2048x1x160, .f32⟩ : BufTy).Contents (Elt F) → (⟨S4x2048x16x160, .f32⟩ : BufTy).Contents (Elt F)),
    StableHlo.binary main_v101 main_v102 main_v103 (mulf : (⟨S4x2048x16x160, .f32⟩ : BufTy).Contents (Elt F) → (⟨S4x2048x16x160, .f32⟩ : BufTy).Contents (Elt F) → (⟨S4x2048x16x160, .f32⟩ : BufTy).Contents (Elt F)),
    StableHlo.binary main_v93 main_v103 main_v104 (addf : (⟨S4x2048x16x160, .f32⟩ : BufTy).Contents (Elt F) → (⟨S4x2048x16x160, .f32⟩ : BufTy).Contents (Elt F) → (⟨S4x2048x16x160, .f32⟩ : BufTy).Contents (Elt F)),
    StableHlo.nullary main_cst_23 (constant S_ .f32 0x00000000#32),
    StableHlo.unary main_cst_23 main_v105 (broadcastInDim S4x2048x16x160 ![] bcast_S_S4x2048x16x160 : (⟨S_, .f32⟩ : BufTy).Contents (Elt F) → (⟨S4x2048x16x160, .f32⟩ : BufTy).Contents (Elt F)),
    StableHlo.binary main_v104 main_v105 main_v106 (cmpf .une : (⟨S4x2048x16x160, .f32⟩ : BufTy).Contents (Elt F) → (⟨S4x2048x16x160, .f32⟩ : BufTy).Contents (Elt F) → (⟨S4x2048x16x160, .i1⟩ : BufTy).Contents (Elt F)),
    StableHlo.unary main_v106 main_v107 (uitofp .f32 : (⟨S4x2048x16x160, .i1⟩ : BufTy).Contents (Elt F) → (⟨S4x2048x16x160, .f32⟩ : BufTy).Contents (Elt F)) ]

/-- The router loss. -/
abbrev opsRouter  : List (HloOp τ sig (Elt F)) :=
  [ StableHlo.nullary main_cst_24 (constant S_ .f32 0xFF800000#32),
    StableHlo.binary main_v0 main_cst_24 main_v108 ((fun x v => Host.reduce FloatOps.maximumf x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.unary main_v108 main_v109 (broadcastInDim S4x2048x1 ![0, 1] bcast_S4x2048_S4x2048x1_0_1 : (⟨S4x2048, .f32⟩ : BufTy).Contents (Elt F) → (⟨S4x2048x1, .f32⟩ : BufTy).Contents (Elt F)),
    StableHlo.unary main_v109 main_v110 (broadcastInDim S4x2048x16 ![0, 1, 2] bcast_S4x2048x1_S4x2048x16_0_1_2 : (⟨S4x2048x1, .f32⟩ : BufTy).Contents (Elt F) → (⟨S4x2048x16, .f32⟩ : BufTy).Contents (Elt F)),
    StableHlo.binary main_v0 main_v110 main_v111 (subf : (⟨S4x2048x16, .f32⟩ : BufTy).Contents (Elt F) → (⟨S4x2048x16, .f32⟩ : BufTy).Contents (Elt F) → (⟨S4x2048x16, .f32⟩ : BufTy).Contents (Elt F)),
    StableHlo.unary main_v111 main_v112 (Host.exp : (⟨S4x2048x16, .f32⟩ : BufTy).Contents (Elt F) → (⟨S4x2048x16, .f32⟩ : BufTy).Contents (Elt F)),
    StableHlo.nullary main_cst_25 (constant S_ .f32 0x00000000#32),
    StableHlo.binary main_v112 main_cst_25 main_v113 ((fun x v => Host.reduceAdd x v reducesTo_S4x2048x16_S4x2048_d2 h_S_) : (⟨S4x2048x16, .f32⟩ : BufTy).Contents (Elt F) → (⟨S_, .f32⟩ : BufTy).Contents (Elt F) → (⟨S4x2048, .f32⟩ : BufTy).Contents (Elt F)),
    StableHlo.unary main_v113 main_v114 (Host.log : (⟨S4x2048, .f32⟩ : BufTy).Contents (Elt F) → (⟨S4x2048, .f32⟩ : BufTy).Contents (Elt F)),
    StableHlo.binary main_v108 main_v114 main_v115 (addf : (⟨S4x2048, .f32⟩ : BufTy).Contents (Elt F) → (⟨S4x2048, .f32⟩ : BufTy).Contents (Elt F) → (⟨S4x2048, .f32⟩ : BufTy).Contents (Elt F)),
    StableHlo.nullary main_cst_26 (constant S_ .f32 0x00000000#32),
    StableHlo.binary main_v115 main_cst_26 main_v116 ((fun x v => Host.reduceAdd x v reducesTo_S4x2048_S4_d1 h_S_) : (⟨S4x2048, .f32⟩ : BufTy).Contents (Elt F) → (⟨S_, .f32⟩ : BufTy).Contents (Elt F) → (⟨S4, .f32⟩ : BufTy).Contents (Elt F)),
    StableHlo.nullary main_cst_27 (constant S_ .f32 0x00000000#32),
    StableHlo.binary main_v116 main_cst_27 main_v117 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_28 (constant S_ .f32 0x40800000#32),
    StableHlo.binary main_v117 main_cst_28 main_v118 (Host.divf : (⟨S_, .f32⟩ : BufTy).Contents (Elt F) → (⟨S_, .f32⟩ : BufTy).Contents (Elt F) → (⟨S_, .f32⟩ : BufTy).Contents (Elt F)) ]

/-- The results, reshaped. -/
abbrev opsResults  : List (HloOp τ sig (Elt F)) :=
  [ StableHlo.reshape main_v107 main_v119 (rfl : (.f32 : EltTy) = .f32) shapeCasts_S4x2048x16x160_S4x2048x2560,
    StableHlo.reshape main_v104 main_v120 (rfl : (.f32 : EltTy) = .f32) shapeCasts_S4x2048x16x160_S4x2048x2560,
    StableHlo.reshape main_v36 main_v121 (rfl : (.f32 : EltTy) = .f32) shapeCasts_S_S1x1,
    StableHlo.reshape main_v118 main_v122 (rfl : (.f32 : EltTy) = .f32) shapeCasts_S_S1x1 ]

end Cert.ReferenceIdeal.Hand

end
-- ==== Proof.Ssa.lean ====
module

public import Idealize.ShloMosaic.Lib.StableHlo.Run
public import Idealize.ShloMosaic.Lib.Pipeline.Regions

@[expose] public section

set_option maxRecDepth 16384

noncomputable section

/-! Straight lines of host operations in which every operation writes the next buffer and reads earlier ones: after such a line
each buffer holds its operation's function of what the operands' buffers hold after the line, and two lines with the same
functions, operand by operand, leave the same values. -/

namespace Cert.Hand

open Idealize.ShloMosaic Idealize.ShloMosaic.StableHlo

variable {τ τ' : Topo} {sig sig' : RefSig} {Val : EltTy → Type}

/-- The reference is buffer `n` of the device memory. -/
def At (n : ℕ) (r : Ref sig .tc) : Prop := r.space = .hbm ∧ r.idx.val = n

/-- The reference is a buffer of the device memory numbered below `n`. -/
def Before (n : ℕ) (r : Ref sig .tc) : Prop := r.space = .hbm ∧ r.idx.val < n

/-- Two references to one buffer number are equal. -/
theorem At.unique {n : ℕ} {r r' : Ref sig .tc} (h : At n r) (h' : At n r') : r = r' := by
  obtain ⟨sp, i, hn⟩ := r
  obtain ⟨sp', i', hn'⟩ := r'
  obtain ⟨h1, h2⟩ := h
  obtain ⟨h3, h4⟩ := h'
  dsimp only at h1 h3
  subst h1; subst h3
  have : i = i' := Fin.ext (h2.trans h4.symm)
  subst this; rfl

/-- An earlier buffer is another one. -/
theorem Before.ne {n : ℕ} {r y : Ref sig .tc} (h : Before n r) (h' : At n y) : r ≠ y := by
  rintro rfl
  exact absurd h.2 (by rw [h'.2]; exact lt_irrefl _)

/-- A later bound holds too. -/
theorem Before.succ {n : ℕ} {r : Ref sig .tc} (h : Before n r) : Before (n + 1) r := ⟨h.1, Nat.lt_succ_of_lt h.2⟩

/-- What an operation writes is after the buffers before it. -/
theorem At.before {n : ℕ} {r : Ref sig .tc} (h : At n r) : Before (n + 1) r := ⟨h.1, by rw [h.2]; exact Nat.lt_succ_self n⟩

/-- The operation writes buffer `n` from buffers before it. -/
def Good (n : ℕ) (op : HloOp τ sig Val) : Prop :=
  ∃ y : Ref sig .tc, At n y ∧ op.writes = {Proc.devRef .tc y} ∧ op.bufs ⊆ tcRefs τ sig ∧ op.fresh = ∅ ∧
    ∀ V V' : Valuation τ sig Val, (∀ r : Ref sig .tc, Before n r → V (Proc.devRef .tc r) = V' (Proc.devRef .tc r)) →
      op.result V (Proc.devRef .tc y) = op.result V' (Proc.devRef .tc y)

/-- The operations write buffers `n`, `n + 1`, … in order, each from buffers before it. -/
def Ssa : ℕ → List (HloOp τ sig Val) → Prop
  | _, [] => True
  | n, op :: ops => Good n op ∧ Ssa (n + 1) ops

/-- A constant is such an operation. -/
theorem good_nullary {n : ℕ} {y : Ref sig .tc} {v : y.ty.Contents Val} {hy} (h : At n y) :
    Good n (nullary (τ := τ) y v hy) :=
  ⟨y, h, nullary_writes .., nullary_bufs_sub .., rfl, fun V V' hV => by rw [nullary_result', nullary_result']⟩

/-- A one-operand operation is such an operation. -/
theorem good_unary {n : ℕ} {x y : Ref sig .tc} {f : x.ty.Contents Val → y.ty.Contents Val} {hx hy} (h : At n y) (h1 : Before n x) :
    Good n (unary (τ := τ) x y f hx hy) :=
  ⟨y, h, unary_writes .., unary_bufs_sub .., rfl, fun V V' hV => by rw [unary_result', unary_result', hV x h1]⟩

/-- A two-operand operation is such an operation. -/
theorem good_binary {n : ℕ} {a b y : Ref sig .tc} {f : a.ty.Contents Val → b.ty.Contents Val → y.ty.Contents Val} {ha hb hy}
    (h : At n y) (h1 : Before n a) (h2 : Before n b) :
    Good n (binary (τ := τ) a b y f ha hb hy) :=
  ⟨y, h, binary_writes .., binary_bufs_sub .., rfl,
    fun V V' hV => by rw [binary_result', binary_result', hV a h1, hV b h2]⟩

/-- A reshape is such an operation. -/
theorem good_reshape {n : ℕ} {x y : Ref sig .tc} {he hn hx hy} (h : At n y) (h1 : Before n x) :
    Good n (reshape (τ := τ) (Val := Val) x y he hn hx hy) :=
  ⟨y, h, reshape_writes .., reshape_bufs_sub .., rfl,
    fun V V' hV => by rw [reshape_result', reshape_result', hV x h1]⟩

/-- Two such lines, the second from where the first ends, are one. -/
theorem Ssa.append {l₂ : List (HloOp τ sig Val)} : ∀ {l₁ : List (HloOp τ sig Val)} {n k : ℕ}, Ssa n l₁ → k = n + l₁.length → Ssa k l₂ →
    Ssa n (l₁ ++ l₂)
  | [], n, k, _, hk, h => by subst hk; exact h
  | op :: l₁, n, k, h, hk, h' => ⟨h.1, Ssa.append h.2 (by rw [hk, List.length_cons]; omega) h'⟩

/-- Such a line leaves the buffers before it. -/
theorem Ssa.keep : ∀ {ops : List (HloOp τ sig Val)} {n : ℕ}, Ssa n ops → ∀ (V : Valuation τ sig Val) {r : Ref sig .tc}, Before n r →
    after ops V (Proc.devRef .tc r) = V (Proc.devRef .tc r)
  | [], _, _, _, _, _ => rfl
  | op :: ops, n, h, V, r, hr => by
      obtain ⟨⟨y, hy, hw, -⟩, h'⟩ := h
      rw [after_cons, Ssa.keep h' _ hr.succ, HloOp.result_of_not_mem]
      rw [hw, Finset.mem_singleton]
      exact devRef_ne_of_ne (hr.ne hy)

/-- The contents `W` satisfy the operation's equation. -/
def Fix (W : Valuation τ sig Val) (op : HloOp τ sig Val) : Prop :=
  ∀ r : Ref sig .tc, op.writes = {Proc.devRef .tc r} → W (Proc.devRef .tc r) = op.result W (Proc.devRef .tc r)

/-- After such a line the contents satisfy every operation's equation. -/
theorem Ssa.fix : ∀ {ops : List (HloOp τ sig Val)} {n : ℕ}, Ssa n ops → ∀ V : Valuation τ sig Val, ops.Forall (Fix (after ops V))
  | [], _, _, _ => trivial
  | op :: ops, n, h, V => by
      obtain ⟨⟨y, hy, hw, -, -, hc⟩, h'⟩ := h
      rw [List.forall_cons]
      refine ⟨fun r hr => ?_, Ssa.fix h' _⟩
      have e : r = y := by
        by_contra hne
        exact devRef_ne_of_ne (τ := τ) hne (Finset.singleton_injective (hr.symm.trans hw))
      subst e
      rw [after_cons, Ssa.keep h' _ hy.before]
      refine hc _ _ fun r' hr' => ?_
      rw [Ssa.keep h' _ hr'.succ, HloOp.result_of_not_mem]
      rw [hw, Finset.mem_singleton]
      exact devRef_ne_of_ne (hr'.ne hy)

/-- Such a line touches the TensorCore's references only. -/
theorem Ssa.sub : ∀ {ops : List (HloOp τ sig Val)} {n : ℕ}, Ssa n ops → ops.Forall fun op => op.bufs ⊆ tcRefs τ sig
  | [], _, _ => trivial
  | op :: ops, n, h => by
      rw [List.forall_cons]
      obtain ⟨⟨y, -, -, hb, -⟩, h'⟩ := h
      exact ⟨hb, Ssa.sub h'⟩

/-- Such a line determines all it writes. -/
theorem Ssa.fresh : ∀ {ops : List (HloOp τ sig Val)} {n : ℕ}, Ssa n ops → ∀ op ∈ ops, op.fresh = ∅
  | [], _, _, _, h => nomatch h
  | op :: ops, n, h, op', hm => by
      obtain ⟨⟨y, -, -, -, hf, -⟩, h'⟩ := h
      rcases List.mem_cons.1 hm with rfl | hm
      · exact hf
      · exact Ssa.fresh h' op' hm

/-- A constant's equation. -/
theorem fix_nullary {W : Valuation τ sig Val} {y : Ref sig .tc} {v : y.ty.Contents Val} {hy}
    (h : Fix W (nullary y v hy)) : W (Proc.devRef .tc y) = v := by
  rw [h y (nullary_writes ..), nullary_result']

/-- A one-operand operation's equation. -/
theorem fix_unary {W : Valuation τ sig Val} {x y : Ref sig .tc} {f : x.ty.Contents Val → y.ty.Contents Val} {hx hy}
    (h : Fix W (unary x y f hx hy)) : W (Proc.devRef .tc y) = f (W (Proc.devRef .tc x)) := by
  rw [h y (unary_writes ..), unary_result']

/-- A two-operand operation's equation. -/
theorem fix_binary {W : Valuation τ sig Val} {a b y : Ref sig .tc} {f : a.ty.Contents Val → b.ty.Contents Val → y.ty.Contents Val} {ha hb hy}
    (h : Fix W (binary a b y f ha hb hy)) : W (Proc.devRef .tc y) = f (W (Proc.devRef .tc a)) (W (Proc.devRef .tc b)) := by
  rw [h y (binary_writes ..), binary_result']

/-- A reshape's equation. -/
theorem fix_reshape {W : Valuation τ sig Val} {x y : Ref sig .tc} {he hn hx hy}
    (h : Fix W (reshape x y he hn hx hy)) :
    W (Proc.devRef .tc y) = fun i => he ▸ shapeCast y.ty.shape (W (Proc.devRef .tc x)) hn i := by
  rw [h y (reshape_writes ..), reshape_result']

/-! ## Two lines in step -/

/-- Two typed references hold the same value. -/
def Same (W : Valuation τ sig Val) (W' : Valuation τ' sig' Val) {T : BufTy} (x : TRef sig T) (x' : TRef sig' T) : Prop :=
  x.ofBuf (W (Proc.devRef .tc x.ref)) = x'.ofBuf (W' (Proc.devRef .tc x'.ref))

/-- The buffers from `lo` up to `n` hold the values of those `d` further in the other line. -/
def Shifted (d lo n : ℕ) (W : Valuation τ sig Val) (W' : Valuation τ' sig' Val) : Prop :=
  ∀ (T : BufTy) (x : TRef sig T) (x' : TRef sig' T) (k : ℕ), lo ≤ k → k < n → At k x.ref → At (k + d) x'.ref → Same W W' x x'

/-- One more buffer in step. -/
theorem Shifted.step {d lo n : ℕ} {W : Valuation τ sig Val} {W' : Valuation τ' sig' Val} (h : Shifted d lo n W W') {T : BufTy}
    {y : TRef sig T} {y' : TRef sig' T} (hy : At n y.ref) (hy' : At (n + d) y'.ref) (hs : Same W W' y y') :
    Shifted d lo (n + 1) W W' := by
  intro S x x' k hlo hk hx hx'
  rcases Nat.lt_succ_iff_lt_or_eq.1 hk with hk | rfl
  · exact h S x x' k hlo hk hx hx'
  · have e := hx.unique hy
    have e' := hx'.unique hy'
    have hT : S = T := by rw [← x.ty_eq, ← y.ty_eq, e]
    subst hT
    obtain ⟨r, t, o, u⟩ := x
    obtain ⟨r', t', o', u'⟩ := x'
    obtain ⟨q, t1, o1, u1⟩ := y
    obtain ⟨q', t1', o1', u1'⟩ := y'
    dsimp only at e e'
    subst e; subst e'
    exact hs

/-- Two lines in step: operation by operation the same function of operands in step. -/
inductive Sim (d lo : ℕ) : ℕ → List (HloOp τ sig Val) → List (HloOp τ' sig' Val) → Prop
  | nil (n : ℕ) (l : List (HloOp τ sig Val)) (hl : Ssa n l) : Sim d lo n l []
  | nullary {n : ℕ} {T : BufTy} (y : TRef sig T) (y' : TRef sig' T) (v : T.Contents Val) {l l'} (hy : At n y.ref) (hy' : At (n + d) y'.ref)
      (h : Sim d lo (n + 1) l l') : Sim d lo n (TRef.nullary y v :: l) (TRef.nullary y' v :: l')
  | unary {n : ℕ} {S T : BufTy} (x : TRef sig S) (x' : TRef sig' S) (y : TRef sig T) (y' : TRef sig' T) (f : S.Contents Val → T.Contents Val)
      {l l'} (k : ℕ) (hk : lo ≤ k) (hkn : k < n) (hx : At k x.ref) (hx' : At (k + d) x'.ref) (hy : At n y.ref) (hy' : At (n + d) y'.ref)
      (h : Sim d lo (n + 1) l l') : Sim d lo n (TRef.unary x y f :: l) (TRef.unary x' y' f :: l')
  | reshape {n : ℕ} {S T : BufTy} (x : TRef sig S) (x' : TRef sig' S) (y : TRef sig T) (y' : TRef sig' T) (he : S.elt = T.elt)
      (hn : S.shape.ShapeCasts T.shape)
      {l l'} (k : ℕ) (hk : lo ≤ k) (hkn : k < n) (hx : At k x.ref) (hx' : At (k + d) x'.ref) (hy : At n y.ref) (hy' : At (n + d) y'.ref)
      (h : Sim d lo (n + 1) l l') : Sim d lo n (TRef.reshape x y he hn :: l) (TRef.reshape x' y' he hn :: l')
  | binary {n : ℕ} {R S T : BufTy} (w : TRef sig R) (w' : TRef sig' R) (x : TRef sig S) (x' : TRef sig' S) (y : TRef sig T) (y' : TRef sig' T)
      (f : R.Contents Val → S.Contents Val → T.Contents Val) {l l'}
      (j : ℕ) (hj : lo ≤ j) (hjn : j < n) (hw : At j w.ref) (hw' : At (j + d) w'.ref)
      (k : ℕ) (hk : lo ≤ k) (hkn : k < n) (hx : At k x.ref) (hx' : At (k + d) x'.ref) (hy : At n y.ref) (hy' : At (n + d) y'.ref)
      (h : Sim d lo (n + 1) l l') : Sim d lo n (TRef.binary w x y f :: l) (TRef.binary w' x' y' f :: l')

/-- The reshape of a typed reference's value, through the buffers. -/
theorem ofBuf_reshape {S T : BufTy} (x : TRef sig S) (y : TRef sig T) (he : S.elt = T.elt) (hn : S.shape.ShapeCasts T.shape)
    {W : Valuation τ sig Val} (h : Fix W (TRef.reshape x y he hn)) :
    y.ofBuf (W (Proc.devRef .tc y.ref)) = fun i => he ▸ shapeCast T.shape (x.ofBuf (W (Proc.devRef .tc x.ref))) hn i := by
  have e := fix_reshape h
  obtain ⟨r, t, o, u⟩ := x
  obtain ⟨q, t', o', u'⟩ := y
  dsimp only at e ⊢
  subst t; subst t'
  exact e

/-- Two lines in step leave the same values. -/
theorem Sim.shifted {d lo n : ℕ} {l : List (HloOp τ sig Val)} {l' : List (HloOp τ' sig' Val)} (h : Sim d lo n l l')
    {W : Valuation τ sig Val} {W' : Valuation τ' sig' Val} (hl : l.Forall (Fix W)) (hl' : l'.Forall (Fix W'))
    (hs : Shifted d lo n W W') : Shifted d lo (n + l'.length) W W' := by
  induction h with
  | nil n l _ => exact hs
  | nullary y y' v hy hy' _ ih =>
      rw [List.forall_cons] at hl hl'
      rw [List.length_cons, Nat.add_comm _ 1, ← Nat.add_assoc]
      refine ih hl.2 hl'.2 (hs.step hy hy' ?_)
      have e := fix_nullary hl.1
      have e' := fix_nullary hl'.1
      unfold Same
      rw [e, e', TRef.ofBuf_toBuf, TRef.ofBuf_toBuf]
  | unary x x' y y' f k hk hkn hx hx' hy hy' _ ih =>
      rw [List.forall_cons] at hl hl'
      rw [List.length_cons, Nat.add_comm _ 1, ← Nat.add_assoc]
      refine ih hl.2 hl'.2 (hs.step hy hy' ?_)
      have e := fix_unary hl.1
      have e' := fix_unary hl'.1
      have q := hs _ x x' k hk hkn hx hx'
      unfold Same at q ⊢
      rw [e, e', TRef.ofBuf_toBuf, TRef.ofBuf_toBuf, q]
  | reshape x x' y y' he hn k hk hkn hx hx' hy hy' _ ih =>
      rw [List.forall_cons] at hl hl'
      rw [List.length_cons, Nat.add_comm _ 1, ← Nat.add_assoc]
      refine ih hl.2 hl'.2 (hs.step hy hy' ?_)
      have q := hs _ x x' k hk hkn hx hx'
      unfold Same at q ⊢
      rw [ofBuf_reshape x y he hn hl.1, ofBuf_reshape x' y' he hn hl'.1, q]
  | binary w w' x x' y y' f j hj hjn hw hw' k hk hkn hx hx' hy hy' _ ih =>
      rw [List.forall_cons] at hl hl'
      rw [List.length_cons, Nat.add_comm _ 1, ← Nat.add_assoc]
      refine ih hl.2 hl'.2 (hs.step hy hy' ?_)
      have e := fix_binary hl.1
      have e' := fix_binary hl'.1
      have q := hs _ w w' j hj hjn hw hw'
      have q' := hs _ x x' k hk hkn hx hx'
      unfold Same at q q' ⊢
      rw [e, e', TRef.ofBuf_toBuf, TRef.ofBuf_toBuf, q, q']

/-- The first of two lines in step is a line that writes buffer after buffer. -/
theorem Sim.ssa {d lo n : ℕ} {l : List (HloOp τ sig Val)} {l' : List (HloOp τ' sig' Val)} (h : Sim d lo n l l') : Ssa n l := by
  induction h with
  | nil n l hl => exact hl
  | nullary y y' v hy hy' _ ih => exact ⟨good_nullary hy, ih⟩
  | unary x x' y y' f k hk hkn hx hx' hy hy' _ ih => exact ⟨good_unary hy ⟨hx.1, by rw [hx.2]; exact hkn⟩, ih⟩
  | reshape x x' y y' he hn k hk hkn hx hx' hy hy' _ ih => exact ⟨good_reshape hy ⟨hx.1, by rw [hx.2]; exact hkn⟩, ih⟩
  | binary w w' x x' y y' f j hj hjn hw hw' k hk hkn hx hx' hy hy' _ ih =>
      exact ⟨good_binary hy ⟨hw.1, by rw [hw.2]; exact hjn⟩ ⟨hx.1, by rw [hx.2]; exact hkn⟩, ih⟩

end Cert.Hand

end
-- ==== Proof.RefRun.lean ====
module

public import proofs.«01_k».proof.Proof.RefOps
public import proofs.«01_k».proof.Proof.Ssa
public import Idealize.ShloMosaic.Lib.Quiescent

@[expose] public section

set_option maxRecDepth 16384
set_option maxHeartbeats 4000000

noncomputable section

/-! The reference's main program is its straight line of host operations, and what a run of it leaves in memory. -/

namespace Cert.ReferenceIdeal.Hand

open Idealize.ShloMosaic Idealize.ShloMosaic.TcCoe
open Idealize.SL Idealize.SL.Sem
open Facts₀ Facts

variable {F : FTy → Type} [FloatOps F]

/-- The programs of the reference. -/
abbrev RProg (F : FTy → Type) [FloatOps F] :=
  Prog (TpuEff nD τ sig (Elt F) (Pipeline.Sig Λ₀ (Fin 0) fun p => (pcfgs (F := F) p).Adm) .tc) PUnit

/-- A nonempty line of operations that ends in its last operation. -/
def seqE (op : HloOp τ sig (Elt F)) : List (HloOp τ sig (Elt F)) → RProg F
  | [] => hlo rfl op fun _ => .ret (⟨⟩ : PUnit)
  | op' :: ops => (hlo rfl op fun _ => .ret (⟨⟩ : PUnit)) >>= fun _ => seqE op' ops

/-- `seqE` on a list. -/
def seqL : List (HloOp τ sig (Elt F)) → RProg F
  | [] => pure ⟨⟩
  | op :: ops => seqE op ops

/-- Ending in the last operation or in a return after it is the same program. -/
theorem seqE_eq (ops : List (HloOp τ sig (Elt F))) : ∀ op, seqE op ops = (StableHlo.seq (op :: ops) : RProg F) := by
  induction ops with
  | nil => intro op; rfl
  | cons op' ops ih => intro op; rw [seqE, ih]; rfl

/-- `seqE_eq` on a list. -/
theorem seqL_eq (ops : List (HloOp τ sig (Elt F))) : seqL ops = (StableHlo.seq ops : RProg F) := by
  cases ops with
  | nil => rfl
  | cons op ops => exact seqE_eq ops op

section
variable [Facts]

/-- The one-hot function is its operations. -/
theorem oneHot_eq (arg0 φ) : fn_one_hot.body (F := F) arg0 φ = StableHlo.seq (oneHotOps arg0 φ) := by chain_rfl
/-- The one-hot function over places is its operations. -/
theorem oneHotPos_eq (arg0 φ) : fn_one_hot_1.body (F := F) arg0 φ = StableHlo.seq (oneHotPosOps arg0 φ) := by chain_rfl
/-- The running sum is its operations. -/
theorem cumsum_0_eq (arg0 φ) : fn_cumsum_0.body (F := F) arg0 φ = StableHlo.seq (cumsumOps arg0 φ) := by chain_rfl
/-- The running sum's caller is the same operations. -/
theorem cumsum_eq (arg0 φ) : fn_cumsum.body (F := F) arg0 φ = StableHlo.seq (cumsumOps arg0 φ.call0) := by
  rw [← cumsum_0_eq]; unfold fn_cumsum.body; simp only [bind_pure_unit]

/-- Part 1 of the word generator is its operations. -/
theorem threefry0_eq (a b c d φ) : fn_threefry2x32.body_part0 (F := F) a b c d φ = seqL (threefryOps0 a b c d φ) := by chain_rfl
/-- Part 2 of the word generator is its operations. -/
theorem threefry1_eq (a b c d φ) : fn_threefry2x32.body_part1 (F := F) a b c d φ = seqL (threefryOps1 a b c d φ) := by chain_rfl
/-- Part 3 of the word generator is its operations. -/
theorem threefry2_eq (a b c d φ) : fn_threefry2x32.body_part2 (F := F) a b c d φ = seqL (threefryOps2 a b c d φ) := by chain_rfl
/-- Part 4 of the word generator is its operations. -/
theorem threefry3_eq (a b c d φ) : fn_threefry2x32.body_part3 (F := F) a b c d φ = StableHlo.seq (threefryOps3 a b c d φ) := by chain_rfl

/-- The word generator's operations. -/
abbrev threefryOps (a b : StableHlo.TRef sig ⟨S_, .i32⟩) (c d : StableHlo.TRef sig ⟨S4x2048, .i32⟩) (φ : fn_threefry2x32.Bufs) : List (HloOp τ sig (Elt F)) :=
  threefryOps0 a b c d φ ++ (threefryOps1 a b c d φ ++ (threefryOps2 a b c d φ ++ threefryOps3 a b c d φ))

/-- The word generator is its operations. -/
theorem threefry_eq (a b c d φ) : fn_threefry2x32.body (F := F) a b c d φ = StableHlo.seq (threefryOps a b c d φ) := by
  unfold fn_threefry2x32.body
  rw [threefry0_eq, threefry1_eq, threefry2_eq, threefry3_eq]
  simp only [seqL_eq, StableHlo.seq_append]

/-- The operations of the uniform draw. -/
abbrev uniformOps (a : StableHlo.TRef sig ⟨S2, .i32⟩) (b c : StableHlo.TRef sig ⟨S_, .f32⟩) (φ : fn_uniform.Bufs) : List (HloOp τ sig (Elt F)) :=
  uniformPreOps a b c φ ++ (threefryOps φ.v5 φ.v7 φ.v18 φ.v17 φ.call0 ++ uniformPostOps a b c φ)

/-- The uniform draw is its operations around the word generator's. -/
theorem uniform_chain (a b c φ) : fn_uniform.body (F := F) a b c φ = Pipeline.chain
    [StableHlo.seq (uniformPreOps a b c φ), fn_threefry2x32.body φ.v5 φ.v7 φ.v18 φ.v17 φ.call0, StableHlo.seq (uniformPostOps a b c φ)] := by
  rewrite [StableHlo.chain_seq_cons, Pipeline.chain_cons, StableHlo.chain_seq_cons]
  chain_rfl

/-- The uniform draw is its operations. -/
theorem uniform_eq (a b c φ) : fn_uniform.body (F := F) a b c φ = StableHlo.seq (uniformOps a b c φ) := by
  rw [uniform_chain, threefry_eq]
  simp only [Pipeline.chain, StableHlo.seq_append, bind_assoc, bind_pure_unit]

/-- The first part of the main program. -/
theorem part0_eq (d) : main_part0 (F := F) d = Pipeline.chainK
    [StableHlo.seq (opsSoftmax ++ opsTop), fn_one_hot.body (.of main_v17) main_call0, fn_one_hot.body (.of main_v19) main_call1]
    (seqL (opsGates ++ opsKey)) := by
  rewrite [StableHlo.chainK_seq_cons, Pipeline.chainK_cons, Pipeline.chainK_cons]
  chain_rfl

/-- The second part of the main program. -/
theorem part1_eq (d) : main_part1 (F := F) d = Pipeline.chainK
    [StableHlo.seq opsBounds, fn_uniform.body (.of main_v43) (.of main_cst_12) (.of main_cst_13) main_call2,
     StableHlo.seq opsMask2, fn_cumsum.body (.of main_v20) main_call3,
     StableHlo.seq opsPos1, fn_cumsum.body (.of main_v51) main_call4,
     StableHlo.seq opsPos2, fn_one_hot.body (.of main_v17) main_call5, fn_one_hot.body (.of main_v19) main_call6,
     StableHlo.seq opsPlace1, fn_one_hot_1.body (.of main_v80) main_call7,
     StableHlo.seq opsPlace2, fn_one_hot_1.body (.of main_v82) main_call8]
    (seqL opsCombineA) := by
  rewrite [StableHlo.chainK_seq_cons, Pipeline.chainK_cons, StableHlo.chainK_seq_cons, Pipeline.chainK_cons,
    StableHlo.chainK_seq_cons, Pipeline.chainK_cons, StableHlo.chainK_seq_cons, Pipeline.chainK_cons, Pipeline.chainK_cons,
    StableHlo.chainK_seq_cons, Pipeline.chainK_cons, StableHlo.chainK_seq_cons, Pipeline.chainK_cons]
  chain_rfl

/-- The third part of the main program. -/
theorem part2_eq (d) : main_part2 (F := F) d = StableHlo.seq (opsCombineB ++ (opsRouter ++ opsResults)) := by
  chain_rfl

/-- The operations of the main program, in order. -/
abbrev mainOps : List (HloOp τ sig (Elt F)) :=
  opsSoftmax ++ (opsTop ++ (oneHotOps (.of main_v17) main_call0 ++ (oneHotOps (.of main_v19) main_call1 ++ (opsGates ++ (opsKey ++
  (opsBounds ++ (uniformOps (.of main_v43) (.of main_cst_12) (.of main_cst_13) main_call2 ++ (opsMask2 ++
  (cumsumOps (.of main_v20) main_call3.call0 ++ (opsPos1 ++ (cumsumOps (.of main_v51) main_call4.call0 ++ (opsPos2 ++
  (oneHotOps (.of main_v17) main_call5 ++ (oneHotOps (.of main_v19) main_call6 ++ (opsPlace1 ++
  (oneHotPosOps (.of main_v80) main_call7 ++ (opsPlace2 ++ (oneHotPosOps (.of main_v82) main_call8 ++ (opsCombineA ++
  (opsCombineB ++ (opsRouter ++ opsResults)))))))))))))))))))))

/-- The main program is its operations. -/
theorem main_eq (d) : main (F := F) d = StableHlo.seq mainOps := by
  unfold main
  rw [part0_eq, part1_eq, part2_eq]
  simp only [Pipeline.chainK, oneHot_eq, oneHotPos_eq, cumsum_eq, uniform_eq, seqL_eq, mainOps, StableHlo.seq_append, bind_assoc]

section Numbers

open Cert.Hand

/-- Each operation writes the next buffer, from buffers before it: up to the draw. -/
theorem head_ssa : Ssa 2 (opsSoftmax ++ (opsTop ++ (oneHotOps (.of main_v17) main_call0 ++ (oneHotOps (.of main_v19) main_call1 ++ (opsGates ++ (opsKey ++ opsBounds))))) : List (HloOp τ sig (Elt F))) := by
  repeat (first
    | exact trivial
    | refine ⟨by first
        | exact good_nullary ⟨rfl, rfl⟩
        | exact good_unary ⟨rfl, rfl⟩ ⟨rfl, by decide⟩
        | exact good_binary ⟨rfl, rfl⟩ ⟨rfl, by decide⟩ ⟨rfl, by decide⟩
        | exact good_reshape ⟨rfl, rfl⟩ ⟨rfl, by decide⟩, ?_⟩)

/-- Each operation writes the next buffer, from buffers before it: the draw up to the first part of the word generator. -/
theorem drawA_ssa : Ssa 74 (uniformPreOps (F := F) (.of main_v43) (.of main_cst_12) (.of main_cst_13) main_call2 ++ threefryOps0 (F := F) main_call2.v5 main_call2.v7 main_call2.v18 main_call2.v17 main_call2.call0) := by
  repeat (first
    | exact trivial
    | refine ⟨by first
        | exact good_nullary ⟨rfl, rfl⟩
        | exact good_unary ⟨rfl, rfl⟩ ⟨rfl, by decide⟩
        | exact good_binary ⟨rfl, rfl⟩ ⟨rfl, by decide⟩ ⟨rfl, by decide⟩
        | exact good_reshape ⟨rfl, rfl⟩ ⟨rfl, by decide⟩, ?_⟩)

/-- Each operation writes the next buffer, from buffers before it: the second part of the word generator. -/
theorem drawB_ssa : Ssa 156 (threefryOps1 (F := F) main_call2.v5 main_call2.v7 main_call2.v18 main_call2.v17 main_call2.call0) := by
  repeat (first
    | exact trivial
    | refine ⟨by first
        | exact good_nullary ⟨rfl, rfl⟩
        | exact good_unary ⟨rfl, rfl⟩ ⟨rfl, by decide⟩
        | exact good_binary ⟨rfl, rfl⟩ ⟨rfl, by decide⟩ ⟨rfl, by decide⟩
        | exact good_reshape ⟨rfl, rfl⟩ ⟨rfl, by decide⟩, ?_⟩)

/-- Each operation writes the next buffer, from buffers before it: the third part of the word generator. -/
theorem drawC_ssa : Ssa 216 (threefryOps2 (F := F) main_call2.v5 main_call2.v7 main_call2.v18 main_call2.v17 main_call2.call0) := by
  repeat (first
    | exact trivial
    | refine ⟨by first
        | exact good_nullary ⟨rfl, rfl⟩
        | exact good_unary ⟨rfl, rfl⟩ ⟨rfl, by decide⟩
        | exact good_binary ⟨rfl, rfl⟩ ⟨rfl, by decide⟩ ⟨rfl, by decide⟩
        | exact good_reshape ⟨rfl, rfl⟩ ⟨rfl, by decide⟩, ?_⟩)

/-- Each operation writes the next buffer, from buffers before it: the rest of the draw. -/
theorem drawD_ssa : Ssa 276 (threefryOps3 (F := F) main_call2.v5 main_call2.v7 main_call2.v18 main_call2.v17 main_call2.call0 ++ uniformPostOps (F := F) (.of main_v43) (.of main_cst_12) (.of main_cst_13) main_call2) := by
  repeat (first
    | exact trivial
    | refine ⟨by first
        | exact good_nullary ⟨rfl, rfl⟩
        | exact good_unary ⟨rfl, rfl⟩ ⟨rfl, by decide⟩
        | exact good_binary ⟨rfl, rfl⟩ ⟨rfl, by decide⟩ ⟨rfl, by decide⟩
        | exact good_reshape ⟨rfl, rfl⟩ ⟨rfl, by decide⟩, ?_⟩)

/-- Each operation writes the next buffer, from buffers before it: the places. -/
theorem places_ssa : Ssa 336 (opsMask2 ++ (cumsumOps (.of main_v20) main_call3.call0 ++ (opsPos1 ++ (cumsumOps (.of main_v51) main_call4.call0 ++ opsPos2))) : List (HloOp τ sig (Elt F))) := by
  repeat (first
    | exact trivial
    | refine ⟨by first
        | exact good_nullary ⟨rfl, rfl⟩
        | exact good_unary ⟨rfl, rfl⟩ ⟨rfl, by decide⟩
        | exact good_binary ⟨rfl, rfl⟩ ⟨rfl, by decide⟩ ⟨rfl, by decide⟩
        | exact good_reshape ⟨rfl, rfl⟩ ⟨rfl, by decide⟩, ?_⟩)

/-- Each operation writes the next buffer, from buffers before it: the results. -/
theorem tail_ssa : Ssa 382 (oneHotOps (.of main_v17) main_call5 ++ (oneHotOps (.of main_v19) main_call6 ++ (opsPlace1 ++ (oneHotPosOps (.of main_v80) main_call7 ++ (opsPlace2 ++ (oneHotPosOps (.of main_v82) main_call8 ++ (opsCombineA ++ (opsCombineB ++ (opsRouter ++ opsResults)))))))) : List (HloOp τ sig (Elt F))) := by
  repeat (first
    | exact trivial
    | refine ⟨by first
        | exact good_nullary ⟨rfl, rfl⟩
        | exact good_unary ⟨rfl, rfl⟩ ⟨rfl, by decide⟩
        | exact good_binary ⟨rfl, rfl⟩ ⟨rfl, by decide⟩ ⟨rfl, by decide⟩
        | exact good_reshape ⟨rfl, rfl⟩ ⟨rfl, by decide⟩, ?_⟩)

/-- Each operation of the main program writes the next buffer, from buffers before it. -/
theorem main_ssa : Ssa 2 (mainOps (F := F)) := by
  have h := head_ssa.append (k := 74) rfl (drawA_ssa.append (k := 156) rfl (drawB_ssa.append (k := 216) rfl
    (drawC_ssa.append (k := 276) rfl (drawD_ssa.append (k := 336) rfl (places_ssa.append (k := 382) rfl
      (tail_ssa (F := F)))))))
  simp only [List.append_assoc] at h
  simp only [mainOps, uniformOps, threefryOps, List.append_assoc]
  exact h

/-- What the main program leaves in a device's buffers. -/
def W (m : (ℓ : Loc nD τ sig) → Buf (Elt F) ℓ) (c : Dev nD) : Valuation τ sig (Elt F) :=
  StableHlo.after mainOps (StableHlo.launchContents m c)

/-- The main program runs and leaves `W`. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = W m d (Proc.devRef .tc b) :=
  StableHlo.run_seq (by decide) (by decide) _ _ (fun _ => mainOps) (fun d => main_eq d) (fun _ => main_ssa.sub) m ρ
    (fun _ => main_ssa.fresh)

/-- The first argument is kept. -/
theorem fin_arg0 (m : (ℓ : Loc nD τ sig) → Buf (Elt F) ℓ) (c : Dev nD) :
    W m c (Proc.devRef .tc main_arg0) = m ((c.tc : Thread nD τ).loc main_arg0) := main_ssa.keep _ (r := main_arg0) ⟨rfl, by decide⟩

/-- The second argument is kept. -/
theorem fin_arg1 (m : (ℓ : Loc nD τ sig) → Buf (Elt F) ℓ) (c : Dev nD) :
    W m c (Proc.devRef .tc main_arg1) = m ((c.tc : Thread nD τ).loc main_arg1) := main_ssa.keep _ (r := main_arg1) ⟨rfl, by decide⟩

/-- The main program runs, keeps its arguments and leaves every counter at zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run _ _ _).mono (fun r h => ⟨fun c => ⟨(h c main_arg0).trans (fin_arg0 m c), (h c main_arg1).trans (fin_arg1 m c)⟩,
    sem_eq_zero_of_no_sems rfl _⟩) (run m ρ)

end Numbers

end

end Cert.ReferenceIdeal.Hand

end
-- ==== Proof.Spec.lean ====
module

public import Idealize.ShloMosaic.PureOps.Ideal
public import Idealize.ShloMosaic.PureOps.Ideal.Laws
public import Idealize.ShloMosaic.Lib.IdealHost
public import Idealize.ShloMosaic.Lib.SortNet.Extract
public import Mathlib.Data.Nat.Count

@[expose] public section

noncomputable section

open Idealize.ShloMosaic

/-! The function both programs compute, over the extended reals, and the facts about it that the two sides share. -/

namespace Cert.Hand

/-- One where `p` holds, zero elsewhere. -/
def ind (p : Prop) : EReal := open Classical in if p then 1 else 0

theorem ind_true {p : Prop} (h : p) : ind p = 1 := if_pos h
theorem ind_false {p : Prop} (h : ¬p) : ind p = 0 := if_neg h

theorem ind_and (p q : Prop) : ind p * ind q = ind (p ∧ q) := by
  by_cases h : p <;> by_cases k : q <;> simp [ind, h, k]

theorem ind_congr {p q : Prop} (h : p ↔ q) : ind p = ind q := by rw [propext h]

/-- A sum against the indicator of one place. -/
theorem sum_mul_ind {n : ℕ} (f : Fin n → EReal) (a : Fin n) (k : Prop) : ∑ e, f e * ind (e = a ∧ k) = f a * ind k := by
  rw [Finset.sum_eq_single a]
  · rw [ind_congr (p := a = a ∧ k) (q := k) (by simp)]
  · intro b _ h; rw [ind_false (fun q => h q.1), mul_zero]
  · intro h; exact absurd (Finset.mem_univ _) h

/-- How many numbers below `n` satisfy `h`. -/
def cnt (h : ℕ → Prop) (n : ℕ) : ℕ := open Classical in Nat.count h n

theorem cnt_zero (h : ℕ → Prop) : cnt h 0 = 0 := by classical exact Nat.count_zero h

theorem cnt_add (h : ℕ → Prop) (a b : ℕ) : cnt h (a + b) = cnt h a + cnt (fun k => h (a + k)) b := by
  classical exact Nat.count_add h a b

theorem cnt_le (h : ℕ → Prop) (n : ℕ) : cnt h n ≤ n := by classical exact Nat.count_le (p := h)

theorem cnt_succ (h : ℕ → Prop) (n : ℕ) : ((cnt h (n + 1) : ℕ) : EReal) = (cnt h n : EReal) + ind (h n) := by
  classical
  unfold cnt
  rw [Nat.count_succ]
  by_cases k : h n <;> simp [ind, k]

theorem cnt_succ_of {h : ℕ → Prop} {n : ℕ} (k : h n) : cnt h (n + 1) = cnt h n + 1 := by
  classical
  unfold cnt
  rw [Nat.count_succ, if_pos k]

theorem cnt_mono (h : ℕ → Prop) {a b : ℕ} (k : a ≤ b) : cnt h a ≤ cnt h b := by classical exact Nat.count_monotone h k

/-- The indicators below `n` add up to the count. -/
theorem sum_ind (h : ℕ → Prop) (n : ℕ) : ∑ k : Fin n, ind (h k) = (cnt h n : EReal) := by
  rw [← Finset.sum_range fun k => ind (h k)]
  induction n with
  | zero => simp [cnt_zero]
  | succ n ih => rw [Finset.sum_range_succ, ih, cnt_succ]

/-- The indicators below `n`, kept only below `r`. -/
theorem sum_ind_lt (h : ℕ → Prop) {n r : ℕ} (hr : r ≤ n) : ∑ k : Fin n, ind (k.val < r) * ind (h k) = (cnt h r : EReal) := by
  rw [← Finset.sum_range fun k => ind (k < r) * ind (h k), ← sum_ind h r, ← Finset.sum_range fun k => ind (h k)]
  obtain ⟨m, rfl⟩ := Nat.exists_eq_add_of_le hr
  rw [Finset.sum_range_add]
  have e : ∑ x ∈ Finset.range m, ind (r + x < r) * ind (h (r + x)) = 0 :=
    Finset.sum_eq_zero fun x _ => by rw [ind_false (by omega), zero_mul]
  rw [e, add_zero]
  exact Finset.sum_congr rfl fun x hx => by rw [ind_true (Finset.mem_range.1 hx), one_mul]

/-- A row's largest entry. -/
def top (r : Fin 16 → EReal) : EReal := Finset.univ.fold max ⊥ r

theorem le_top' (r : Fin 16 → EReal) (e : Fin 16) : r e ≤ top r :=
  (Finset.le_fold_max _).2 (.inr ⟨e, Finset.mem_univ _, le_rfl⟩)

theorem top_le {r : Fin 16 → EReal} {c : EReal} (h : ∀ e, r e ≤ c) : top r ≤ c :=
  (Finset.fold_max_le _).2 ⟨bot_le, fun e _ => h e⟩

theorem exists_top (r : Fin 16 → EReal) : ∃ e, r e = top r := by
  rcases (Finset.le_fold_max (f := r) (b := ⊥) (s := Finset.univ) (top r)).1 le_rfl with h | ⟨e, _, h⟩
  · exact ⟨0, le_antisymm (le_top' r 0) (h.trans bot_le)⟩
  · exact ⟨e, le_antisymm (le_top' r e) h⟩

/-- The first place where a row attains its largest entry. -/
def arg (r : Fin 16 → EReal) : Fin 16 :=
  open Classical in (Finset.univ.filter fun e => r e = top r).min' (let ⟨e, h⟩ := exists_top r; ⟨e, by simp [h]⟩)

theorem arg_eq (r : Fin 16 → EReal) : r (arg r) = top r := by
  classical
  have h := Finset.min'_mem (Finset.univ.filter fun e => r e = top r) (let ⟨e, h⟩ := exists_top r; ⟨e, by simp [h]⟩)
  exact (Finset.mem_filter.1 h).2

theorem arg_le {r : Fin 16 → EReal} {e : Fin 16} (h : r e = top r) : arg r ≤ e := by
  classical
  exact Finset.min'_le _ _ (by simp [h])

theorem arg_unique {r : Fin 16 → EReal} {a : Fin 16} (h : r a = top r) (k : ∀ e, r e = top r → a ≤ e) : a = arg r :=
  le_antisymm (k _ (arg_eq r)) (arg_le h)

/-- The row with its first largest entry replaced by the least value. -/
def rest (r : Fin 16 → EReal) : Fin 16 → EReal := fun e => open Classical in if e = arg r then ⊥ else r e

/-- A row's softmax. -/
def sm (l : Fin 16 → EReal) : Fin 16 → EReal := fun e =>
  Ideal.div (Ideal.exp (l e - top l)) (∑ k, Ideal.exp (l k - top l))

/-- A row's log-sum-exp. -/
def lse (l : Fin 16 → EReal) : EReal := top l + Ideal.log (∑ k, Ideal.exp (l k - top l))

/-- The sum the two gates are divided by. -/
def den (r : Fin 16 → EReal) : EReal := top r + top (rest r) + Ideal.ofBits .f32 0x3089705F#32

/-- The first gate. -/
def gate1 (r : Fin 16 → EReal) : EReal := Ideal.div (top r) (den r)

/-- The second gate. -/
def gate2 (r : Fin 16 → EReal) : EReal := Ideal.div (top (rest r)) (den r)

/-- Whether the second choice is kept against the drawn value `u`. -/
def keep (r : Fin 16 → EReal) (u : EReal) : Prop := u < Ideal.div (gate2 r) (Ideal.ofBits .f32 0x3E4CCCCD#32)

section Batch

variable (l : ℕ → Fin 16 → EReal) (u : ℕ → EReal)

/-- The first expert of token `n`. -/
def ex1 (n : ℕ) : Fin 16 := arg (sm (l n))
/-- The second expert of token `n`. -/
def ex2 (n : ℕ) : Fin 16 := arg (rest (sm (l n)))
/-- Whether token `n` keeps its second expert. -/
def kp (n : ℕ) : Prop := keep (sm (l n)) (u n)
/-- How many tokens before `n` have `e` for first expert. -/
def num1 (e : Fin 16) (n : ℕ) : ℕ := cnt (fun k => e = ex1 l k) n
/-- How many tokens before `n` keep `e` for second expert. -/
def num2 (e : Fin 16) (n : ℕ) : ℕ := cnt (fun k => e = ex2 l k ∧ kp l u k) n

/-- The combining weight of token `n` at slot `c` (expert and place). -/
def comb (n c : ℕ) : EReal :=
  gate1 (sm (l n)) * ind (c = (ex1 l n).val * 160 + num1 l (ex1 l n) n ∧ num1 l (ex1 l n) n < 160)
    + gate2 (sm (l n)) * ind (c = (ex2 l n).val * 160 + num2 l u (ex2 l n) n ∧ kp l u n ∧ num2 l u (ex2 l n) n < 160)

/-- The dispatch mask. -/
def disp (n c : ℕ) : EReal := ind (comb l u n c ≠ 0)

/-- A batch's share of the balance loss, unscaled. -/
def share (N : ℕ) : EReal := ∑ e : Fin 16, (∑ n ∈ Finset.range N, sm (l n) e) * (num1 l e N : EReal)

end Batch

/-! ### Words -/

/-- The host's and the kernel's reading of a one-bit word as a float. -/
theorem sitofp_bit (b : BitVec 1) : FloatOps.sitofp (F := Ideal) .f32 (BitVec.setWidth 32 b) = ind (b = 1#1) := by
  rcases BitVec.eq_zero_or_eq_one b with rfl | rfl
  · rw [ind_false (by decide)]
    show ((((BitVec.setWidth 32 (0#1 : BitVec 1)).toInt : ℝ)) : EReal) = 0
    simp
  · rw [ind_true rfl]
    show ((((BitVec.setWidth 32 (1#1 : BitVec 1)).toInt : ℝ)) : EReal) = 1
    simp

theorem uitofp_bit (b : BitVec 1) : FloatOps.uitofp (F := Ideal) .f32 b = ind (b = 1#1) := by
  rcases BitVec.eq_zero_or_eq_one b with rfl | rfl
  · rw [ind_false (by decide)]
    show ((((0#1 : BitVec 1).toNat : ℝ)) : EReal) = 0
    simp
  · rw [ind_true rfl]
    show ((((1#1 : BitVec 1).toNat : ℝ)) : EReal) = 1
    simp

theorem ofBool_eq_one (b : Bool) : BitVec.ofBool b = 1#1 ↔ b = true := by cases b <;> decide

theorem cmpi_eq_one {w : ℕ} (x y : BitVec w) : IntOp.cmpi .eq x y = 1#1 ↔ x = y := by
  unfold IntOp.cmpi
  rw [ofBool_eq_one]
  simp

theorem ofNat_inj {a b : ℕ} (ha : a < 2 ^ 32) (hb : b < 2 ^ 32) : BitVec.ofNat 32 a = BitVec.ofNat 32 b ↔ a = b := by
  constructor
  · intro h
    have q := congrArg BitVec.toNat h
    rw [BitVec.toNat_ofNat, BitVec.toNat_ofNat, Nat.mod_eq_of_lt ha, Nat.mod_eq_of_lt hb] at q
    exact q
  · rintro rfl; rfl

theorem andi_one (a b : BitVec 1) : a &&& b = 1#1 ↔ a = 1#1 ∧ b = 1#1 := by
  rcases BitVec.eq_zero_or_eq_one a with rfl | rfl <;> rcases BitVec.eq_zero_or_eq_one b with rfl | rfl <;> decide

theorem ofBits_neg_inf : Ideal.ofBits .f32 0xFF800000#32 = ⊥ := by simp [Ideal.ofBits, Ideal.ieee]

theorem ofBits_160 : Ideal.ofBits .f32 0x43200000#32 = ((160 : ℕ) : EReal) := by
  rw [show ((160 : ℕ) : EReal) = ((160 : ℝ) : EReal) by norm_cast]
  simp [Ideal.ofBits, Ideal.ieee, -EReal.coe_mul]; norm_num

/-- The word of a small natural number. -/
theorem fptosi_nat {n : ℕ} (h : n < 2 ^ 31) : Ideal.fptosi 32 (n : EReal) = BitVec.ofNat 32 n := by
  rw [show ((n : ℕ) : EReal) = ((n : ℝ) : EReal) by norm_cast]
  unfold Ideal.fptosi
  have e : Ideal.toIntClamped (-(2 ^ (32 - 1) : Nat)) ((2 ^ (32 - 1) : Nat) - 1) ((n : ℝ) : EReal) = (n : ℤ) := by
    show max _ (min _ (if (0 : ℝ) ≤ n then ⌊(n : ℝ)⌋ else ⌈(n : ℝ)⌉)) = _
    rw [if_pos (Nat.cast_nonneg n), Int.floor_natCast]
    omega
  rw [e, BitVec.ofInt_natCast]

/-- The place of a row in an expert's list: the earlier rows of the block with the same expert, and those before the block. -/
theorem place (A : ℕ → Fin 16) (K : ℕ → Prop) (o : ℕ) {n : ℕ} (r : Fin n) :
    ∑ e, (∑ k : Fin n, ind (k.val < r.val) * ind (e = A (o + k) ∧ K (o + k)) + (cnt (fun k => e = A k ∧ K k) o : EReal)) *
        ind (e = A (o + r) ∧ K (o + r))
      = (cnt (fun k => A (o + r) = A k ∧ K k) (o + r) : EReal) * ind (K (o + r)) := by
  rw [← sum_mul_ind (fun e => (cnt (fun k => e = A k ∧ K k) (o + r) : EReal))]
  refine Finset.sum_congr rfl fun e _ => ?_
  rw [sum_ind_lt (fun k => e = A (o + k) ∧ K (o + k)) r.isLt.le, cnt_add, Nat.cast_add, add_comm]

/-- The counts after a block. -/
theorem place_next (h : ℕ → Prop) (o n : ℕ) :
    (cnt h o : EReal) + ∑ k : Fin n, ind (h (o + k)) = (cnt h (o + n) : EReal) := by
  rw [sum_ind (fun k => h (o + k)), cnt_add, Nat.cast_add]

/-- One choice's weight at slot `c`, as the kernel selects it. -/
theorem choice (g : EReal) (i : Fin 16) {n c : ℕ} (K : Prop) (hn : n < 4096) (hc : c < 2560) :
    Scalar.select (IntOp.cmpi .eq (BitVec.ofNat 32 c)
        (IntOp.addi (IntOp.muli (BitVec.ofNat 32 i.val) 160#32) (Ideal.fptosi 32 ((n : EReal) * ind K))))
      (g * ind (K ∧ (n : EReal) * ind K < ((160 : ℕ) : EReal))) (0 : EReal)
      = g * ind (c = i.val * 160 + n ∧ K ∧ n < 160) := by
  have hi := i.isLt
  by_cases k : K
  · rw [ind_true k, mul_one, fptosi_nat (by omega)]
    have e : IntOp.addi (IntOp.muli (BitVec.ofNat 32 i.val) 160#32) (BitVec.ofNat 32 n) = BitVec.ofNat 32 (i.val * 160 + n) := by
      apply BitVec.eq_of_toNat_eq
      show (BitVec.ofNat 32 i.val * 160#32 + BitVec.ofNat 32 n).toNat = _
      simp only [BitVec.toNat_add, BitVec.toNat_mul, BitVec.toNat_ofNat]
      omega
    rw [e]
    have q : IntOp.cmpi .eq (BitVec.ofNat 32 c) (BitVec.ofNat 32 (i.val * 160 + n)) = 1 ↔ c = i.val * 160 + n := by
      rw [← ofNat_inj (a := c) (b := i.val * 160 + n) (by omega) (by omega)]
      exact cmpi_eq_one _ _
    unfold Scalar.select
    by_cases h : c = i.val * 160 + n
    · rw [if_pos (q.2 h)]
      refine congrArg _ (ind_congr ?_)
      rw [Nat.cast_lt]
      exact ⟨fun z => ⟨h, z⟩, fun z => z.2⟩
    · rw [if_neg (fun z => h (q.1 z)), ind_false (fun z => h z.1), mul_zero]
  · rw [ind_false (p := K ∧ _) (fun z => k z.1), ind_false (p := _ ∧ K ∧ _) (fun z => k z.2.1), mul_zero]
    unfold Scalar.select
    split <;> rfl

theorem num1_eq (l : ℕ → Fin 16 → EReal) (e : Fin 16) (n : ℕ) : num1 l e n = cnt (fun k => e = ex1 l k ∧ True) n := by
  unfold num1
  simp only [and_true]

/-- The least of the places where a row attains its largest entry, as the kernel takes it. -/
theorem fold_minsi (r : Fin 16 → EReal) (f : Fin 16 → BitVec 32) (hf : ∀ e, r e = top r → f e = BitVec.ofNat 32 e)
    (hg : ∀ e, r e ≠ top r → f e = 16#32) :
    Finset.univ.fold IntOp.minsi 2147483647#32 f = BitVec.ofNat 32 (arg r) := by
  apply BitVec.eq_of_toInt_eq
  rw [← Finset.fold_hom (op := IntOp.minsi) (op' := min) (m := BitVec.toInt) (fun x y => by rw [SortNet.toInt_minsi])]
  have small : ∀ e : Fin 16, (BitVec.ofNat 32 e.val).toInt = (e.val : ℤ) := by decide
  rw [small]
  apply le_antisymm
  · refine (Finset.fold_min_le _).2 (.inr ⟨arg r, Finset.mem_univ _, ?_⟩)
    rw [hf _ (arg_eq r), small]
  · refine (Finset.le_fold_min _).2 ⟨?_, fun e _ => ?_⟩
    · have := (arg r).isLt
      have h : (2147483647#32 : BitVec 32).toInt = 2147483647 := by decide
      rw [h]; omega
    · by_cases h : r e = top r
      · rw [hf e h, small]; exact_mod_cast arg_le h
      · rw [hg e h]
        have := (arg r).isLt
        have h : (16#32 : BitVec 32).toInt = 16 := by decide
        rw [h]; omega

section Batches

variable (x : Fin 4 → Fin 2048 → Fin 4096 → EReal) (w : Fin 4096 → Fin 16 → EReal) (u : Fin 4 → Fin 2048 → EReal)

/-- The logits of token `n` of batch `b`. -/
def lg (b n : ℕ) : Fin 16 → EReal := fun e =>
  ∑ d : Fin 4096, x ⟨b % 4, Nat.mod_lt _ (by decide)⟩ ⟨n % 2048, Nat.mod_lt _ (by decide)⟩ d * w d e

theorem lg_skip (b b' n : ℕ) : lg x w b (2048 * b' + n) = lg x w b n := by
  unfold lg
  simp only [Nat.mul_add_mod]

/-- The random value of token `n` of batch `b`. -/
def un (b n : ℕ) : EReal := u ⟨b % 4, Nat.mod_lt _ (by decide)⟩ ⟨n % 2048, Nat.mod_lt _ (by decide)⟩

/-- The balance loss, before its scaling: what the finished batches add up to. -/
def balSum (B : ℕ) : EReal := ∑ b ∈ Finset.range B, share (lg x w b) 2048

/-- The router's loss, before its scaling: what the first `N` tokens, batch after batch, add up to. -/
def zSum (N : ℕ) : EReal := ∑ k ∈ Finset.range N, lse (lg x w (k / 2048) k)

end Batches

end Cert.Hand

end
-- ==== Proof.Rows.lean ====
module

public import proofs.«01_k».proof.Proof.Gen.KernelIdeal.Skeleton
public import proofs.«01_k».proof.Proof.Spec
public import Idealize.ShloMosaic.Lib.Pointwise

@[expose] public section

set_option maxRecDepth 16384
set_option maxHeartbeats 4000000
noncomputable section

open Idealize.ShloMosaic Idealize.ShloMosaic.TcCoe Idealize.SL.Sem

/-! What the kernel's body computes on one block of tokens, entry by entry. -/

namespace Cert.KernelIdeal.Hand
open Cert.KernelIdeal Cert.KernelIdeal.Gen Cert.Hand

section Block

variable (x0 : Vec Ideal S1x512x4096 .f32) (x1 : Vec Ideal S4096x16 .f32)

/-- The logits of a block's row. -/
def logit (r : Fin 512) : Fin 16 → EReal := fun e => ∑ d : Fin 4096, x0 (ix3 0 r d) * x1 (ix2 d e)

theorem pay8_apply (r : Fin 512) (e : Fin 16) : k0_pay8 x0 x1 (ix2 r e) = logit x0 x1 r e := by
  pointwise [k0_pay8]
  rfl

theorem pay9_apply (r : Fin 512) : k0_pay9 x0 x1 (ix2 r 0) = top (logit x0 x1 r) := by
  pointwise [k0_pay9, pay8_apply]
  rw [ofBits_neg_inf]
  rfl

theorem pay12_apply (r : Fin 512) (e : Fin 16) : k0_pay12 x0 x1 (ix2 r e) = sm (logit x0 x1 r) e := by
  pointwise [k0_pay12, k0_pay11, k0_pay10, pay9_apply, pay8_apply]
  rfl

theorem pay13_apply (a : Vec Ideal S1x1 .f32) : k0_pay13 x0 x1 a (ix2 0 0) = a (ix2 0 0) + ∑ r : Fin 512, lse (logit x0 x1 r) := by
  pointwise [k0_pay13, k0_pay11, k0_pay10, pay9_apply, pay8_apply]
  refine congrArg _ (Finset.sum_congr rfl fun r _ => ?_)
  rw [Fin.sum_univ_one]
  rfl

end Block

section Rows

variable (S : FVec Ideal S512x16 .f32) (l : ℕ → Fin 16 → EReal) (u : ℕ → EReal) (o : ℕ)
variable (hS : ∀ (r : Fin 512) (e : Fin 16), S (ix2 r e) = sm (l (o + r)) e)
variable (x2 : Vec Ideal S1x1x512x1 .f32) (hx : ∀ r : Fin 512, x2 (ix4 0 0 r 0) = u (o + r))
include hS

theorem pay14_apply (w : Vec Ideal S1x16 .f32) (e : Fin 16) :
    k0_pay14 S w (ix2 0 e) = w (ix2 0 e) + ∑ r : Fin 512, sm (l (o + r)) e := by
  pointwise [k0_pay14, hS]

theorem pay15_apply (r : Fin 512) : k0_pay15 S (ix2 r 0) = top (sm (l (o + r))) := by
  pointwise [k0_pay15, hS]
  rw [ofBits_neg_inf]
  rfl

theorem pay16_apply (r : Fin 512) : k0_pay16 S (ix2 r 0) = BitVec.ofNat 32 (ex1 l (o + r)).val := by
  pointwise [k0_pay16, pay15_apply S l o hS, hS]
  refine fold_minsi _ _ ?_ ?_
  · intro e h; rw [if_pos h]
  · intro e h; rw [if_neg h]

theorem pay17_apply (r : Fin 512) (e : Fin 16) : k0_pay17 S (ix2 r e) = rest (sm (l (o + r))) e := by
  pointwise [k0_pay17, pay16_apply S l o hS, hS]
  rw [ofBits_neg_inf]
  unfold rest Scalar.select
  have := e.isLt
  have := (ex1 l (o + r)).isLt
  have k : IntOp.cmpi .eq (BitVec.ofNat 32 e.val) (BitVec.ofNat 32 (ex1 l (o + r)).val) = 1 ↔ e = arg (sm (l (o + r))) := by
    refine (cmpi_eq_one _ _).trans ?_
    rw [ofNat_inj (by omega) (by omega)]
    exact Fin.val_inj
  by_cases h : e = arg (sm (l (o + r)))
  · rw [if_pos (k.2 h), if_pos h]
  · rw [if_neg (fun q => h (k.1 q)), if_neg h]

theorem pay18_apply (r : Fin 512) : k0_pay18 S (ix2 r 0) = top (rest (sm (l (o + r)))) := by
  pointwise [k0_pay18, pay17_apply S l o hS]
  rw [ofBits_neg_inf]
  rfl

theorem pay19_apply (r : Fin 512) : k0_pay19 S (ix2 r 0) = BitVec.ofNat 32 (ex2 l (o + r)).val := by
  pointwise [k0_pay19, pay18_apply S l o hS, pay17_apply S l o hS]
  refine fold_minsi _ _ ?_ ?_
  · intro e h; rw [if_pos h]
  · intro e h; rw [if_neg h]

theorem pay20_apply (r : Fin 512) : k0_pay20 S (ix2 r 0) = den (sm (l (o + r))) := by
  pointwise [k0_pay20, pay18_apply S l o hS, pay15_apply S l o hS]
  rfl

theorem pay21_apply (r : Fin 512) : k0_pay21 S (ix2 r 0) = gate1 (sm (l (o + r))) := by
  pointwise [k0_pay21, pay20_apply S l o hS, pay15_apply S l o hS]
  rfl

theorem pay22_apply (r : Fin 512) : k0_pay22 S (ix2 r 0) = gate2 (sm (l (o + r))) := by
  pointwise [k0_pay22, pay20_apply S l o hS, pay18_apply S l o hS]
  rfl

include hx in
theorem pay23_apply (r : Fin 512) : k0_pay23 S x2 (ix2 r 0) = 1#1 ↔ kp l u (o + r) := by
  pointwise [k0_pay23, pay22_apply S l o hS, hx]
  rw [ofBool_eq_one, decide_eq_true_iff]
  rfl

theorem pay24_apply (r : Fin 512) (e : Fin 16) : k0_pay24 (F := Ideal) S (ix2 r e) = ind (e = ex1 l (o + r) ∧ True) := by
  pointwise [k0_pay24, pay16_apply S l o hS, sitofp_bit]
  have := e.isLt
  have := (ex1 l (o + r)).isLt
  apply ind_congr
  rw [cmpi_eq_one, ofNat_inj (by omega) (by omega), Fin.val_inj]

theorem pay25_apply (r : Fin 512) (e : Fin 16) : k0_pay25 S (ix2 r e) = 1#1 ↔ e = ex2 l (o + r) := by
  pointwise [k0_pay25, pay19_apply S l o hS]
  have := e.isLt
  have := (ex2 l (o + r)).isLt
  rw [cmpi_eq_one, ofNat_inj (by omega) (by omega), Fin.val_inj]

include hx in
theorem pay26_apply (r : Fin 512) (e : Fin 16) :
    k0_pay26 (F := Ideal) (k0_pay23 S x2) (k0_pay25 S) (ix2 r e) = ind (e = ex2 l (o + r) ∧ kp l u (o + r)) := by
  pointwise [k0_pay26, sitofp_bit]
  apply ind_congr
  refine (andi_one _ _).trans ?_
  rw [pay25_apply S l o hS, pay23_apply S l u o hS x2 hx]

end Rows

section Masks

variable (A : ℕ → Fin 16) (K : ℕ → Prop) (o : ℕ) (t : FVec Ideal S512x512 .bf16) (w : Vec Ideal S1x16 .f32)
variable (ht : ∀ r k : Fin 512, t (ix2 r k) = ind (k.val < r.val))
variable (hw : ∀ e, w (ix2 0 e) = (cnt (fun k => e = A k ∧ K k) o : EReal))

/-- The strict lower triangle. -/
theorem pay5_apply (r k : Fin 512) : k0_pay5 (F := Ideal) (ix2 r k) = ind (k.val < r.val) := by
  pointwise [k0_pay5, sitofp_bit]
  apply ind_congr
  have h : ∀ n : ℕ, n < 512 → (BitVec.ofNat 32 n).toInt = n := fun n hn => by
    rw [BitVec.toInt_eq_toNat_of_lt (by rw [BitVec.toNat_ofNat]; omega), BitVec.toNat_ofNat]; omega
  unfold IntOp.cmpi
  rw [ofBool_eq_one]
  show (BitVec.ofNat 32 k.val).slt (BitVec.ofNat 32 r.val) = true ↔ _
  rw [BitVec.slt_iff_toInt_lt, h _ k.isLt, h _ r.isLt, Nat.cast_lt]

include ht hw in
theorem pay29_apply (q : FVec Ideal S512x16 .bf16) (hq : ∀ (r : Fin 512) (e : Fin 16), q (ix2 r e) = ind (e = A (o + r) ∧ K (o + r)))
    (r : Fin 512) : k0_pay29 q t w (ix2 r 0) = (cnt (fun k => A (o + r) = A k ∧ K k) (o + r) : EReal) * ind (K (o + r)) := by
  pointwise [k0_pay29, k0_pay27, ht, hw, hq]
  exact place A K o r

include ht hw in
theorem pay30_apply (b : IVec S512x1 1) (c : IVec S512x16 1)
    (hq : ∀ (r : Fin 512) (e : Fin 16), k0_pay26 (F := Ideal) b c (ix2 r e) = ind (e = A (o + r) ∧ K (o + r)))
    (r : Fin 512) : k0_pay30 b c t w (ix2 r 0) = (cnt (fun k => A (o + r) = A k ∧ K k) (o + r) : EReal) * ind (K (o + r)) := by
  pointwise [k0_pay30, k0_pay28, ht, hw, hq]
  exact place A K o r

include hw in
theorem pay31_apply (q : FVec Ideal S512x16 .bf16) (hq : ∀ (r : Fin 512) (e : Fin 16), q (ix2 r e) = ind (e = A (o + r) ∧ K (o + r)))
    (e : Fin 16) : k0_pay31 q w (ix2 0 e) = (cnt (fun k => e = A k ∧ K k) (o + 512) : EReal) := by
  pointwise [k0_pay31, k0_pay27, hw, hq]
  exact place_next (fun k => e = A k ∧ K k) o 512

include hw in
theorem pay32_apply (b : IVec S512x1 1) (c : IVec S512x16 1)
    (hq : ∀ (r : Fin 512) (e : Fin 16), k0_pay26 (F := Ideal) b c (ix2 r e) = ind (e = A (o + r) ∧ K (o + r)))
    (e : Fin 16) : k0_pay32 b c w (ix2 0 e) = (cnt (fun k => e = A k ∧ K k) (o + 512) : EReal) := by
  pointwise [k0_pay32, k0_pay28, hw, hq]
  exact place_next (fun k => e = A k ∧ K k) o 512

end Masks

theorem pay33_apply (q : FVec Ideal S512x16 .bf16) (t : FVec Ideal S512x512 .bf16) (w : Vec Ideal S1x16 .f32) (r : Fin 512) :
    k0_pay33 q t w (ix2 r 0) = ind (k0_pay29 q t w (ix2 r 0) < ((160 : ℕ) : EReal)) := by
  pointwise [k0_pay33, sitofp_bit, ofBits_160]
  apply ind_congr
  rw [ofBool_eq_one, decide_eq_true_iff]

theorem pay37_apply (a : Vec Ideal S1x1 .f32) (p w : Vec Ideal S1x16 .f32) :
    k0_pay37 a p w (ix2 0 0) = a (ix2 0 0) + ∑ e : Fin 16, p (ix2 0 e) * w (ix2 0 e) := by
  pointwise [k0_pay37]
  rw [Fin.sum_univ_one]

theorem pay1_apply (a : Vec Ideal S1x1 .f32) : k0_pay1 a (ix2 0 0) = a (ix2 0 0) * Idealize.ShloMosaic.Ideal.ofBits .f32 0x35800000#32 := by
  pointwise [k0_pay1]

theorem pay2_apply (a : Vec Ideal S1x1 .f32) : k0_pay2 a (ix2 0 0) = a (ix2 0 0) * Idealize.ShloMosaic.Ideal.ofBits .f32 0x3E800000#32 := by
  pointwise [k0_pay2]

section Combine

variable (S : FVec Ideal S512x16 .f32) (l : ℕ → Fin 16 → EReal) (u : ℕ → EReal) (o : ℕ) (ho : o + 512 ≤ 2048)
variable (hS : ∀ (r : Fin 512) (e : Fin 16), S (ix2 r e) = sm (l (o + r)) e)
variable (x2 : Vec Ideal S1x1x512x1 .f32) (hx : ∀ r : Fin 512, x2 (ix4 0 0 r 0) = u (o + r))
variable (t : FVec Ideal S512x512 .bf16) (ht : ∀ r k : Fin 512, t (ix2 r k) = ind (k.val < r.val))
variable (w0 w1 : Vec Ideal S1x16 .f32) (hw0 : ∀ e, w0 (ix2 0 e) = (num1 l e o : EReal)) (hw1 : ∀ e, w1 (ix2 0 e) = (num2 l u e o : EReal))
include ho hS hx ht hw0 hw1

/-- The block's combining weights, from the counts before it. -/
theorem pay34_apply (r : Fin 512) (c : Fin 2560) :
    k0_pay34 (k0_pay16 S) (k0_pay19 S) (k0_pay21 S) (k0_pay22 S) (k0_pay23 S x2) (k0_pay29 (k0_pay24 S) t w0)
      (k0_pay30 (k0_pay23 S x2) (k0_pay25 S) t w1) (k0_pay33 (k0_pay24 S) t w0) (ix2 r c) = comb l u (o + r) c := by
  have hw0' : ∀ e, w0 (ix2 0 e) = (cnt (fun k => e = ex1 l k ∧ True) o : EReal) := fun e => by rw [hw0, num1_eq]
  have p1 := pay29_apply (ex1 l) (fun _ => True) o t w0 ht hw0' (k0_pay24 S) (pay24_apply S l o hS) r
  have p2 := pay30_apply (ex2 l) (kp l u) o t w1 ht hw1 _ _ (pay26_apply S l u o hS x2 hx) r
  have hk := pay23_apply S l u o hS x2 hx r
  have hr := r.isLt
  pointwise [k0_pay34, sitofp_bit, ofBits_160, pay33_apply, p1, p2, pay16_apply S l o hS, pay19_apply S l o hS,
    pay21_apply S l o hS, pay22_apply S l o hS]
  have e1 := choice (gate1 (sm (l (o + r)))) (ex1 l (o + r)) (n := num1 l (ex1 l (o + r)) (o + r)) (c := c) True
    (lt_of_le_of_lt (cnt_le _ _) (by omega)) c.isLt
  have e2 := choice (gate2 (sm (l (o + r)))) (ex2 l (o + r)) (n := num2 l u (ex2 l (o + r)) (o + r)) (c := c) (kp l u (o + r))
    (lt_of_le_of_lt (cnt_le _ _) (by omega)) c.isLt
  unfold comb
  refine congrArg₂ _ ?_ ?_
  · simp only [true_and] at e1
    exact e1
  · refine Eq.trans ?_ e2
    rw [ind_congr (p := IntOp.andi _ _ = 1#1) (q := kp l u (o + r) ∧ _ < _)
      ((andi_one _ _).trans (and_congr hk ((ofBool_eq_one _).trans decide_eq_true_iff)))]
    rfl

/-- The block's combining weights as stored. -/
theorem pay35_apply (r : Fin 512) (c : Fin 2560) :
    k0_pay35 (k0_pay16 S) (k0_pay19 S) (k0_pay21 S) (k0_pay22 S) (k0_pay23 S x2) (k0_pay29 (k0_pay24 S) t w0)
      (k0_pay30 (k0_pay23 S x2) (k0_pay25 S) t w1) (k0_pay33 (k0_pay24 S) t w0) (ix3 0 r c) = comb l u (o + r) c := by
  pointwise [k0_pay35, pay34_apply S l u o ho hS x2 hx t ht w0 w1 hw0 hw1]

/-- The block's dispatch mask as stored. -/
theorem pay36_apply (r : Fin 512) (c : Fin 2560) :
    k0_pay36 (k0_pay16 S) (k0_pay19 S) (k0_pay21 S) (k0_pay22 S) (k0_pay23 S x2) (k0_pay29 (k0_pay24 S) t w0)
      (k0_pay30 (k0_pay23 S x2) (k0_pay25 S) t w1) (k0_pay33 (k0_pay24 S) t w0) (ix3 0 r c) = disp l u (o + r) c := by
  pointwise [k0_pay36, sitofp_bit, pay34_apply S l u o ho hS x2 hx t ht w0 w1 hw0 hw1]
  apply ind_congr
  rw [ofBool_eq_one, decide_eq_true_iff]

end Combine

end Cert.KernelIdeal.Hand

end
-- ==== Proof.Step.lean ====
module

public import proofs.«01_k».proof.Proof.Gen.KernelIdeal.Value
public import proofs.«01_k».proof.Proof.Rows
public import Idealize.ShloMosaic.Lib.Pipeline.ValueKit

@[expose] public section

set_option maxRecDepth 16384
set_option maxHeartbeats 4000000
noncomputable section

open Idealize.ShloMosaic Idealize.ShloMosaic.TcCoe Idealize.SL.Sem

/-! What one run of the kernel's body leaves in its outputs and scratches, in each of its four cases. -/

namespace Cert.KernelIdeal.Hand
open Cert.KernelIdeal Cert.KernelIdeal.Gen Cert.KernelIdeal.Value Cert.Hand

/-- The body's state: the four output blocks, the two rows of counts, the sums of probabilities, the two running
    totals and the triangle of ones. -/
abbrev St : Type := Vec Ideal S1x512x2560 .f32 × Vec Ideal S1x512x2560 .f32 × Vec Ideal S1x1 .f32 × Vec Ideal S1x1 .f32 × Vec Ideal S2x16 .f32 × Vec Ideal S1x16 .f32 × Vec Ideal S1x1 .f32 × Vec Ideal S1x1 .f32 × Vec Ideal S512x512 .bf16

/-- The first row of the counts, as loaded. -/
abbrev row0 (X : Vec Ideal S2x16 .f32) : Vec Ideal S1x16 .f32 := View.ld X (Rect.unit ![0, 0] ![1, 16] inb_S2x16_S1x16_0_0)
/-- The second row of the counts, as loaded. -/
abbrev row1 (X : Vec Ideal S2x16 .f32) : Vec Ideal S1x16 .f32 := View.ld X (Rect.unit ![1, 0] ![1, 16] inb_S2x16_S1x16_1_0)

theorem row0_apply (X : Vec Ideal S2x16 .f32) (e : Fin 16) : row0 X (ix2 0 e) = X (ix2 0 e) :=
  View.ld_unit_apply_of X _ _ _ _ _ fun a => by fin_cases a <;> simp
theorem row1_apply (X : Vec Ideal S2x16 .f32) (e : Fin 16) : row1 X (ix2 0 e) = X (ix2 1 e) :=
  View.ld_unit_apply_of X _ _ _ _ _ fun a => by fin_cases a <;> simp

/-- Storing the second row then reads it in the second row; -/
theorem canon_row1 (b : Vec Ideal S1x16 .f32) (L : List (View.Piece (Elt Ideal) S2x16 .f32)) (e : Fin 16) :
    View.canon ((⟨Rect.unit ![1, 0] ![1, 16] inb_S2x16_S1x16_1_0, b⟩ : View.Piece (Elt Ideal) S2x16 .f32) :: L) (ix2 1 e) = b (ix2 0 e) := by
  have h : (ix2 1 e : S2x16.Idx) = (Rect.unit (s := S2x16) ![1, 0] ![1, 16] inb_S2x16_S1x16_1_0).emb (ix2 0 e) := by
    funext a; apply Fin.ext; fin_cases a <;> simp [Rect.emb, Rect.unit]
  rw [h]
  exact View.canon_cons_emb _ _ _ _

/-- and leaves the first row alone; -/
theorem canon_row1_skip (b : Vec Ideal S1x16 .f32) (L : List (View.Piece (Elt Ideal) S2x16 .f32)) (e : Fin 16) :
    View.canon ((⟨Rect.unit ![1, 0] ![1, 16] inb_S2x16_S1x16_1_0, b⟩ : View.Piece (Elt Ideal) S2x16 .f32) :: L) (ix2 0 e) = View.canon L (ix2 0 e) := by
  refine View.canon_cons_of_not_mem _ _ fun h => ?_
  obtain ⟨x, hx⟩ := (Rect.unit (s := S2x16) ![1, 0] ![1, 16] inb_S2x16_S1x16_1_0).exists_idx_of_mem h
  have := congrArg Fin.val (congrFun hx 0)
  simp [Rect.emb, Rect.unit] at this

/-- storing the first row reads it in the first row. -/
theorem canon_row0 (b : Vec Ideal S1x16 .f32) (L : List (View.Piece (Elt Ideal) S2x16 .f32)) (e : Fin 16) :
    View.canon ((⟨Rect.unit ![0, 0] ![1, 16] inb_S2x16_S1x16_0_0, b⟩ : View.Piece (Elt Ideal) S2x16 .f32) :: L) (ix2 0 e) = b (ix2 0 e) := by
  have h : (ix2 0 e : S2x16.Idx) = (Rect.unit (s := S2x16) ![0, 0] ![1, 16] inb_S2x16_S1x16_0_0).emb (ix2 0 e) := by
    funext a; apply Fin.ext; fin_cases a <;> simp [Rect.emb, Rect.unit]
  rw [h]
  exact View.canon_cons_emb _ _ _ _

theorem canon_zero (i : S2x16.Idx) :
    View.canon [(⟨Rect.unit ![0, 0] ![2, 16] inb_S2x16_S2x16_0_0, k0_pay6 (F := Ideal)⟩ : View.Piece (Elt Ideal) S2x16 .f32)] i = 0 := by
  obtain ⟨a, b, rfl⟩ : ∃ a b, i = ix2 a b := ⟨_, _, eq_ix2 i⟩
  have h : (ix2 a b : S2x16.Idx) = (Rect.unit (s := S2x16) ![0, 0] ![2, 16] inb_S2x16_S2x16_0_0).emb (ix2 a b) := by
    funext a; apply Fin.ext; fin_cases a <;> simp [Rect.emb, Rect.unit]
  rw [h]
  refine (View.canon_cons_emb _ _ _ _).trans ?_
  pointwise [k0_pay6]

/-- The state the body leaves in its outputs and scratches, from the blocks it is given, the two rows of counts
    `w0 w1`, the sums of probabilities `pr`, the running total `az` and the triangle `tr`. -/
structure Body (x0 : Vec Ideal S1x512x4096 .f32) (x1 : Vec Ideal S4096x16 .f32) (x2 : Vec Ideal S1x1x512x1 .f32)
    (w0 w1 pr : Vec Ideal S1x16 .f32) (az : Vec Ideal S1x1 .f32) (tr : Vec Ideal S512x512 .bf16) (s : St) : Prop where
  disp : s.1 = k0_pay36 (k0_pay16 (k0_pay12 x0 x1)) (k0_pay19 (k0_pay12 x0 x1)) (k0_pay21 (k0_pay12 x0 x1)) (k0_pay22 (k0_pay12 x0 x1)) (k0_pay23 (k0_pay12 x0 x1) x2) (k0_pay29 (k0_pay24 (k0_pay12 x0 x1)) tr w0) (k0_pay30 (k0_pay23 (k0_pay12 x0 x1) x2) (k0_pay25 (k0_pay12 x0 x1)) tr w1) (k0_pay33 (k0_pay24 (k0_pay12 x0 x1)) tr w0)
  comb : s.2.1 = k0_pay35 (k0_pay16 (k0_pay12 x0 x1)) (k0_pay19 (k0_pay12 x0 x1)) (k0_pay21 (k0_pay12 x0 x1)) (k0_pay22 (k0_pay12 x0 x1)) (k0_pay23 (k0_pay12 x0 x1) x2) (k0_pay29 (k0_pay24 (k0_pay12 x0 x1)) tr w0) (k0_pay30 (k0_pay23 (k0_pay12 x0 x1) x2) (k0_pay25 (k0_pay12 x0 x1)) tr w1) (k0_pay33 (k0_pay24 (k0_pay12 x0 x1)) tr w0)
  carry0 : ∀ e : Fin 16, s.2.2.2.2.1 (ix2 0 e) = k0_pay31 (k0_pay24 (k0_pay12 x0 x1)) w0 (ix2 0 e)
  carry1 : ∀ e : Fin 16, s.2.2.2.2.1 (ix2 1 e) = k0_pay32 (k0_pay23 (k0_pay12 x0 x1) x2) (k0_pay25 (k0_pay12 x0 x1)) w1 (ix2 0 e)
  proxy : s.2.2.2.2.2.1 = k0_pay14 (k0_pay12 x0 x1) pr
  accz : s.2.2.2.2.2.2.2.1 = k0_pay13 x0 x1 az
  tri : s.2.2.2.2.2.2.2.2 = tr

/-- A row of the counts just cleared, as loaded. -/
abbrev zero0 (v : View sig .tc .vmem S2x16 .f32) : Vec Ideal S1x16 .f32 :=
  v.readCov [(⟨Rect.unit ![0, 0] ![2, 16] inb_S2x16_S2x16_0_0, k0_pay6 (F := Ideal)⟩ : View.Piece (Elt Ideal) S2x16 .f32)] (Rect.unit (s := S2x16) ![0, 0] ![1, 16] inb_S2x16_S1x16_0_0).toLoadRect

theorem zero0_apply (v : View sig .tc .vmem S2x16 .f32) (e : Fin 16) : zero0 v (ix2 0 e) = 0 := by
  unfold zero0
  rw [View.readCov_eq_canon']
  exact canon_zero _

/-- A row of the counts just cleared, as loaded. -/
abbrev zero1 (v : View sig .tc .vmem S2x16 .f32) : Vec Ideal S1x16 .f32 :=
  v.readCov [(⟨Rect.unit ![0, 0] ![2, 16] inb_S2x16_S2x16_0_0, k0_pay6 (F := Ideal)⟩ : View.Piece (Elt Ideal) S2x16 .f32)] (Rect.unit (s := S2x16) ![1, 0] ![1, 16] inb_S2x16_S1x16_1_0).toLoadRect

theorem zero1_apply (v : View sig .tc .vmem S2x16 .f32) (e : Fin 16) : zero1 v (ix2 0 e) = 0 := by
  unfold zero1
  rw [View.readCov_eq_canon']
  exact canon_zero _

/-- The first row, loaded after both rows were stored, is what was stored there. -/
theorem read_row0 (v : View sig .tc .vmem S2x16 .f32) (a b : Vec Ideal S1x16 .f32) (L : List (View.Piece (Elt Ideal) S2x16 .f32)) :
    v.readCov ((⟨Rect.unit ![1, 0] ![1, 16] inb_S2x16_S1x16_1_0, b⟩ : View.Piece (Elt Ideal) S2x16 .f32) :: ⟨Rect.unit ![0, 0] ![1, 16] inb_S2x16_S1x16_0_0, a⟩ :: L) (Rect.unit (s := S2x16) ![0, 0] ![1, 16] inb_S2x16_S1x16_0_0).toLoadRect = a := by
  rw [View.readCov_eq_canon']
  funext j
  obtain ⟨r, e, rfl⟩ : ∃ (r : Fin 1) (e : Fin 16), j = ix2 r e := ⟨_, _, eq_ix2 (n0 := 1) (n1 := 16) j⟩
  obtain rfl : r = 0 := Subsingleton.elim _ _
  have h : (Rect.unit (s := S2x16) ![0, 0] ![1, 16] inb_S2x16_S1x16_0_0).toLoadRect.idx (ix2 0 e) = (ix2 0 e : S2x16.Idx) := by
    funext a; apply Fin.ext; fin_cases a <;> simp [Rect.unit, LoadRect.idx, Rect.toLoadRect]
  refine (congrArg _ h).trans ?_
  rw [canon_row1_skip, canon_row0]

section Cases

variable (c : Dev nD) (i : grid0.Coords) (arg2 : Memref sig .tc .vmem S1x512x4096 .f32) (harg2 : arg2.IsWhole) (arg3 : Memref sig .tc .vmem S4096x16 .f32) (harg3 : arg3.IsWhole) (arg4 : Memref sig .tc .vmem S1x1x512x1 .f32) (harg4 : arg4.IsWhole) (arg5 : Memref sig .tc .vmem S1x512x2560 .f32) (harg5 : arg5.IsWhole) (arg6 : Memref sig .tc .vmem S1x512x2560 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S2x16 .f32) (harg9 : arg9.IsWhole) (arg10 : Memref sig .tc .vmem S1x16 .f32) (harg10 : arg10.IsWhole) (arg11 : Memref sig .tc .vmem S1x1 .f32) (harg11 : arg11.IsWhole) (arg12 : Memref sig .tc .vmem S1x1 .f32) (harg12 : arg12.IsWhole) (arg13 : Memref sig .tc .vmem S512x512 .bf16) (harg13 : arg13.IsWhole)
  (x0 : Vec Ideal S1x512x4096 .f32) (x1 : Vec Ideal S4096x16 .f32) (x2 : Vec Ideal S1x1x512x1 .f32)
  (xs0 : Vec Ideal S2x16 .f32) (xs1 : Vec Ideal S1x16 .f32) (xs2 : Vec Ideal S1x1 .f32) (xs3 : Vec Ideal S1x1 .f32) (xs4 : Vec Ideal S512x512 .bf16)

/-- At the first block the body starts everything from nothing. -/
theorem body_A (hc0 : cond0_0 i) (hc1 : cond0_1 i) (hc2 : ¬cond0_2 i) :
    Body x0 x1 x2 (zero0 arg9.view) (zero1 arg9.view) (k0_pay7 (F := Ideal)) (k0_pay4 (F := Ideal)) (k0_pay5 (F := Ideal))
      (out0_A_3 c i arg2 harg2 arg3 harg3 arg4 harg4 arg5 harg5 arg6 harg6 arg7 harg7 arg8 harg8 arg9 harg9 arg10 harg10 arg11 harg11 arg12 harg12 arg13 harg13 hc0 hc1 hc2 x0 x1 x2,
       out0_A_4 c i arg2 harg2 arg3 harg3 arg4 harg4 arg5 harg5 arg6 harg6 arg7 harg7 arg8 harg8 arg9 harg9 arg10 harg10 arg11 harg11 arg12 harg12 arg13 harg13 hc0 hc1 hc2 x0 x1 x2,
       out0_A_5 c i arg2 harg2 arg3 harg3 arg4 harg4 arg5 harg5 arg6 harg6 arg7 harg7 arg8 harg8 arg9 harg9 arg10 harg10 arg11 harg11 arg12 harg12 arg13 harg13 hc0 hc1 hc2 x0 x1 x2,
       out0_A_6 c i arg2 harg2 arg3 harg3 arg4 harg4 arg5 harg5 arg6 harg6 arg7 harg7 arg8 harg8 arg9 harg9 arg10 harg10 arg11 harg11 arg12 harg12 arg13 harg13 hc0 hc1 hc2 x0 x1 x2,
       sout0_A_0 c i arg2 harg2 arg3 harg3 arg4 harg4 arg5 harg5 arg6 harg6 arg7 harg7 arg8 harg8 arg9 harg9 arg10 harg10 arg11 harg11 arg12 harg12 arg13 harg13 hc0 hc1 hc2 x0 x1 x2,
       sout0_A_1 c i arg2 harg2 arg3 harg3 arg4 harg4 arg5 harg5 arg6 harg6 arg7 harg7 arg8 harg8 arg9 harg9 arg10 harg10 arg11 harg11 arg12 harg12 arg13 harg13 hc0 hc1 hc2 x0 x1 x2,
       sout0_A_2 c i arg2 harg2 arg3 harg3 arg4 harg4 arg5 harg5 arg6 harg6 arg7 harg7 arg8 harg8 arg9 harg9 arg10 harg10 arg11 harg11 arg12 harg12 arg13 harg13 hc0 hc1 hc2 x0 x1 x2,
       sout0_A_3 c i arg2 harg2 arg3 harg3 arg4 harg4 arg5 harg5 arg6 harg6 arg7 harg7 arg8 harg8 arg9 harg9 arg10 harg10 arg11 harg11 arg12 harg12 arg13 harg13 hc0 hc1 hc2 x0 x1 x2,
       sout0_A_4 c i arg2 harg2 arg3 harg3 arg4 harg4 arg5 harg5 arg6 harg6 arg7 harg7 arg8 harg8 arg9 harg9 arg10 harg10 arg11 harg11 arg12 harg12 arg13 harg13 hc0 hc1 hc2 x0 x1 x2)
    ∧ sout0_A_2 c i arg2 harg2 arg3 harg3 arg4 harg4 arg5 harg5 arg6 harg6 arg7 harg7 arg8 harg8 arg9 harg9 arg10 harg10 arg11 harg11 arg12 harg12 arg13 harg13 hc0 hc1 hc2 x0 x1 x2 = k0_pay3 (F := Ideal) := by
  refine ⟨⟨?_, ?_, fun e => ?_, fun e => ?_, ?_, ?_, ?_⟩, ?_⟩
  · frame_out
  · frame_out
  · dsimp only
    frame_out
    rw [canon_row1_skip, canon_row0]
  · dsimp only
    frame_out
    rw [canon_row1]
  · frame_out
  · frame_out
  · frame_out
  · frame_out

/-- Inside a batch the body goes on from what the block before left. -/
theorem body_B (hc0 : ¬cond0_0 i) (hc1 : ¬cond0_1 i) (hc2 : ¬cond0_2 i) :
    Body x0 x1 x2 (row0 xs0) (row1 xs0) xs1 xs3 xs4
      (out0_B_3 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       out0_B_4 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       out0_B_5 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       out0_B_6 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_B_0 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_B_1 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_B_2 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_B_3 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_B_4 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4)
    ∧ sout0_B_2 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4 = xs2 := by
  refine ⟨⟨?_, ?_, fun e => ?_, fun e => ?_, ?_, ?_, ?_⟩, ?_⟩
  · frame_out
  · frame_out
  · dsimp only
    frame_out
    rw [canon_row1_skip, canon_row0]
  · dsimp only
    frame_out
    rw [canon_row1]
  · frame_out
  · frame_out
  · rfl
  · rfl

/-- At the last block of a batch the body also adds the batch's share, and stores the two totals. -/
theorem body_C (hc0 : ¬cond0_0 i) (hc1 : ¬cond0_1 i) (hc2 : cond0_2 i) :
    Body x0 x1 x2 (row0 xs0) (row1 xs0) xs1 xs3 xs4
      (out0_C_3 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       out0_C_4 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       out0_C_5 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       out0_C_6 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_C_0 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_C_1 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_C_2 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_C_3 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4,
       sout0_C_4 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4)
    ∧ (sout0_C_2 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4 (ix2 0 0) = xs2 (ix2 0 0) + ∑ e : Fin 16, k0_pay14 (k0_pay12 x0 x1) xs1 (ix2 0 e) * k0_pay31 (k0_pay24 (k0_pay12 x0 x1)) (row0 xs0) (ix2 0 e)
     ∧ out0_C_5 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4 (ix2 0 0) = sout0_C_2 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4 (ix2 0 0) * Idealize.ShloMosaic.Ideal.ofBits .f32 0x35800000#32
     ∧ out0_C_6 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4 (ix2 0 0) = sout0_C_3 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4 (ix2 0 0) * Idealize.ShloMosaic.Ideal.ofBits .f32 0x3E800000#32) := by
  refine ⟨⟨?_, ?_, fun e => ?_, fun e => ?_, ?_, ?_, ?_⟩, ?_⟩
  · frame_out
  · frame_out
  · dsimp only
    frame_out
    rw [canon_row1_skip, canon_row0]
  · dsimp only
    frame_out
    rw [canon_row1]
  · frame_out
  · frame_out
  · rfl
  · have h : sout0_C_2 c i arg2 harg2 arg3 harg3 arg4 harg4 arg5 harg5 arg6 harg6 arg7 harg7 arg8 harg8 arg9 harg9 arg10 harg10 arg11 harg11 arg12 harg12 arg13 harg13 hc0 hc1 hc2 x0 x1 x2 xs0 xs1 xs2 xs3 xs4 = k0_pay37 xs2 (k0_pay14 (k0_pay12 x0 x1) xs1) (k0_pay31 (k0_pay24 (k0_pay12 x0 x1)) (row0 xs0)) := by
      frame_out
      rw [read_row0]
    refine ⟨?_, ?_, ?_⟩
    · rw [h, pay37_apply]
    · rw [← pay1_apply]
      frame_out
    · rw [← pay2_apply]
      frame_out

/-- At the first block of a later batch the body empties the counts and the sums. -/
theorem body_D (hc0 : ¬cond0_0 i) (hc1 : cond0_1 i) (hc2 : ¬cond0_2 i) :
    Body x0 x1 x2 (zero0 arg9.view) (zero1 arg9.view) (k0_pay7 (F := Ideal)) xs3 xs4
      (out0_D_3 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       out0_D_4 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       out0_D_5 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       out0_D_6 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       sout0_D_0 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       sout0_D_1 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       sout0_D_2 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       sout0_D_3 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4,
       sout0_D_4 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4)
    ∧ sout0_D_2 c i arg2 harg2 arg3 harg3 arg4 harg4 arg5 harg5 arg6 harg6 arg7 harg7 arg8 harg8 arg9 harg9 arg10 harg10 arg11 harg11 arg12 harg12 arg13 harg13 hc0 hc1 hc2 x0 x1 x2 xs2 xs3 xs4 = xs2 := by
  refine ⟨⟨?_, ?_, fun e => ?_, fun e => ?_, ?_, ?_, ?_⟩, ?_⟩
  · frame_out
  · frame_out
  · dsimp only
    frame_out
    rw [canon_row1_skip, canon_row0]
  · dsimp only
    frame_out
    rw [canon_row1]
  · frame_out
  · frame_out
  · rfl
  · rfl

end Cases

end Cert.KernelIdeal.Hand
end
-- ==== Proof.Fold.lean ====
module

public import proofs.«01_k».proof.Proof.Step

@[expose] public section

set_option maxRecDepth 16384
set_option maxHeartbeats 4000000
noncomputable section

open Idealize.ShloMosaic Idealize.ShloMosaic.TcCoe Idealize.SL.Sem

/-! What the kernel's outputs and scratches hold after each point of its grid, and so what its four results are. -/

namespace Cert.KernelIdeal.Hand
open Cert.KernelIdeal Cert.KernelIdeal.Gen Cert.KernelIdeal.Value Cert.Hand

section Reads

variable (m : (ℓ : Loc nD τ sig) → Buf (Elt Ideal) ℓ) (c : Dev nD)

/-- The tokens the kernel is launched on. -/
def argX : Fin 4 → Fin 2048 → Fin 4096 → EReal := fun b n d => (m ((c : Thread nD τ).loc main_arg0) : S4x2048x4096.Idx → EReal) (ix3 b n d)
/-- The weights the kernel is launched on. -/
def argW : Fin 4096 → Fin 16 → EReal := fun d e => (m ((c : Thread nD τ).loc main_arg1) : S4096x16.Idx → EReal) (ix2 d e)

theorem idx_in0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
theorem idx_in1 : ∀ t : Fin cfg0.N, win0_1.index t (0 : Fin 2) = 0 ∧ win0_1.index t (1 : Fin 2) = 0 :=
  (by decide +kernel : ∀ t : Fin grid0.N, _)
theorem idx_in2 : ∀ t : Fin cfg0.N, win0_2.index t (0 : Fin 4) = t.val / 4 ∧ win0_2.index t (1 : Fin 4) = t.val % 4 ∧ win0_2.index t (2 : Fin 4) = 0 ∧ win0_2.index t (3 : Fin 4) = 0 :=
  (by decide +kernel : ∀ t : Fin grid0.N, _)

theorem lt16 (t : Fin cfg0.N) : t.val < 16 := lt_of_lt_of_eq t.isLt N_0

/-- A point's block of tokens. -/
theorem iblk0_apply (t : Fin cfg0.N) (r : Fin 512) (d : Fin 4096) :
    (iblk m c 0 t : S1x512x4096.Idx → EReal) (ix3 0 r d)
      = argX m c ⟨t.val / 4, by have := lt16 t; omega⟩ ⟨512 * (t.val % 4) + r.val, by omega⟩ d := by
  obtain ⟨e0, e1, e2⟩ := idx_in0 t
  show V m c main_arg0 (((cfg0.win 0).blk t).view.emb (ix3 0 r d)) = _
  rw [V_main_arg0]
  refine congrArg (m ((c : Thread nD τ).loc main_arg0) : S4x2048x4096.Idx → EReal) ?_
  funext a; apply Fin.ext
  match a with
  | ⟨0, _⟩ => show win0_0.index t (0 : Fin 3) * 1 + 1 * 0 = t.val / 4; omega
  | ⟨1, _⟩ => show win0_0.index t (1 : Fin 3) * 512 + 1 * r.val = 512 * (t.val % 4) + r.val; omega
  | ⟨2, _⟩ => show win0_0.index t (2 : Fin 3) * 4096 + 1 * d.val = d.val; omega

/-- A point's block of weights: all of them. -/
theorem iblk1_apply (t : Fin cfg0.N) (d : Fin 4096) (e : Fin 16) :
    (iblk m c 1 t : S4096x16.Idx → EReal) (ix2 d e) = argW m c d e := by
  obtain ⟨e0, e1⟩ := idx_in1 t
  show V m c main_arg1 (((cfg0.win 1).blk t).view.emb (ix2 d e)) = _
  rw [V_main_arg1]
  refine congrArg (m ((c : Thread nD τ).loc main_arg1) : S4096x16.Idx → EReal) ?_
  funext a; apply Fin.ext
  match a with
  | ⟨0, _⟩ => show win0_1.index t (0 : Fin 2) * 4096 + 1 * d.val = d.val; omega
  | ⟨1, _⟩ => show win0_1.index t (1 : Fin 2) * 16 + 1 * e.val = e.val; omega

/-- The random values as the kernel's call finds them. -/
def argU : Fin 4 → Fin 2048 → EReal := fun b n =>
  (V m c main_call0_v8 : S4x4x512x1.Idx → EReal) (ix4 b ⟨n.val / 512, by omega⟩ ⟨n.val % 512, by omega⟩ 0)

/-- A point's block of an array of random values. -/
theorem read2 (t : Fin cfg0.N) (f : S4x4x512x1.Idx → EReal) (r : Fin 512) :
    (((cfg0.win 2).blk t).view.read (Elt Ideal) f : S1x1x512x1.Idx → EReal) (ix4 0 0 r 0)
      = f (ix4 ⟨t.val / 4, by have := lt16 t; omega⟩ ⟨t.val % 4, by omega⟩ r 0) := by
  obtain ⟨e0, e1, e2, e3⟩ := idx_in2 t
  show f (((cfg0.win 2).blk t).view.emb (ix4 0 0 r 0)) = _
  refine congrArg f ?_
  funext a; apply Fin.ext
  match a with
  | ⟨0, _⟩ => show win0_2.index t (0 : Fin 4) * 1 + 1 * 0 = t.val / 4; omega
  | ⟨1, _⟩ => show win0_2.index t (1 : Fin 4) * 1 + 1 * 0 = t.val % 4; omega
  | ⟨2, _⟩ => show win0_2.index t (2 : Fin 4) * 512 + 1 * r.val = r.val; omega
  | ⟨3, _⟩ => show win0_2.index t (3 : Fin 4) * 1 + 1 * 0 = 0; omega

/-- A point's block of random values. -/
theorem iblk2_apply (t : Fin cfg0.N) (r : Fin 512) :
    (iblk m c 2 t : S1x1x512x1.Idx → EReal) (ix4 0 0 r 0)
      = argU m c ⟨t.val / 4, by have := lt16 t; omega⟩ ⟨512 * (t.val % 4) + r.val, by omega⟩ := by
  have e : ∀ (f : S4x4x512x1.Idx → EReal), f (ix4 ⟨t.val / 4, by have := lt16 t; omega⟩ ⟨t.val % 4, by omega⟩ r 0)
      = f (ix4 ⟨t.val / 4, by have := lt16 t; omega⟩ ⟨(512 * (t.val % 4) + r.val) / 512, by omega⟩ ⟨(512 * (t.val % 4) + r.val) % 512, by omega⟩ 0) := fun f => by
    congr 2 <;> apply Fin.ext <;> simp only <;> omega
  exact (read2 t (V m c main_call0_v8) r).trans (e _)

/-- The logits of batch `b`. -/
abbrev L (b : ℕ) : ℕ → Fin 16 → EReal := lg (argX m c) (argW m c) b
/-- The random values of batch `b`. -/
abbrev U (b : ℕ) : ℕ → EReal := un (argU m c) b

theorem logit_eq (t : Fin cfg0.N) (r : Fin 512) :
    logit (iblk m c 0 t) (iblk m c 1 t) r = L m c (t.val / 4) (512 * (t.val % 4) + r.val) := by
  have := lt16 t
  funext e
  unfold logit L lg
  refine Finset.sum_congr rfl fun d _ => congrArg₂ (· * ·) ?_ (iblk1_apply m c t d e)
  refine (iblk0_apply m c t r d).trans ?_
  congr 1 <;> apply Fin.ext <;> simp only <;> omega

theorem rand_eq (t : Fin cfg0.N) (r : Fin 512) :
    (iblk m c 2 t : S1x1x512x1.Idx → EReal) (ix4 0 0 r 0) = U m c (t.val / 4) (512 * (t.val % 4) + r.val) := by
  have := lt16 t
  refine (iblk2_apply m c t r).trans ?_
  unfold U un
  congr 1 <;> apply Fin.ext <;> simp only <;> omega

end Reads

section Body

variable (l : ℕ → Fin 16 → EReal) (u : ℕ → EReal)

/-- What the scratches hold before a block of tokens that starts `o` tokens into its batch, `z` the running total of
    the router's loss. -/
structure Before (o : ℕ) (z : EReal) (w0 w1 pr : Vec Ideal S1x16 .f32) (az : Vec Ideal S1x1 .f32) (tr : Vec Ideal S512x512 .bf16) : Prop where
  count1 : ∀ e : Fin 16, w0 (ix2 0 e) = (num1 l e o : EReal)
  count2 : ∀ e : Fin 16, w1 (ix2 0 e) = (num2 l u e o : EReal)
  proxy : ∀ e : Fin 16, pr (ix2 0 e) = ∑ n ∈ Finset.range o, sm (l n) e
  accz : az (ix2 0 0) = z
  tri : ∀ r k : Fin 512, tr (ix2 r k) = ind (k.val < r.val)

/-- What the state holds after it. -/
structure After (o : ℕ) (z : EReal) (s : St) : Prop where
  disp : ∀ (r : Fin 512) (k : Fin 2560), s.1 (ix3 0 r k) = Cert.Hand.disp l u (o + r) k
  comb : ∀ (r : Fin 512) (k : Fin 2560), s.2.1 (ix3 0 r k) = Cert.Hand.comb l u (o + r) k
  count1 : ∀ e : Fin 16, s.2.2.2.2.1 (ix2 0 e) = (num1 l e (o + 512) : EReal)
  count2 : ∀ e : Fin 16, s.2.2.2.2.1 (ix2 1 e) = (num2 l u e (o + 512) : EReal)
  proxy : ∀ e : Fin 16, s.2.2.2.2.2.1 (ix2 0 e) = ∑ n ∈ Finset.range (o + 512), sm (l n) e
  accz : s.2.2.2.2.2.2.2.1 (ix2 0 0) = z + ∑ r : Fin 512, lse (l (o + r))
  tri : ∀ r k : Fin 512, s.2.2.2.2.2.2.2.2 (ix2 r k) = ind (k.val < r.val)

/-- The body takes the one to the other. -/
theorem after_of_body (x0 : Vec Ideal S1x512x4096 .f32) (x1 : Vec Ideal S4096x16 .f32) (x2 : Vec Ideal S1x1x512x1 .f32)
    (o : ℕ) (ho : o + 512 ≤ 2048) (z : EReal) (w0 w1 pr : Vec Ideal S1x16 .f32) (az : Vec Ideal S1x1 .f32) (tr : Vec Ideal S512x512 .bf16) (s : St)
    (hl : ∀ r : Fin 512, logit x0 x1 r = l (o + r)) (hx : ∀ r : Fin 512, x2 (ix4 0 0 r 0) = u (o + r))
    (hb : Body x0 x1 x2 w0 w1 pr az tr s) (h : Before l u o z w0 w1 pr az tr) : After l u o z s := by
  have hS : ∀ (r : Fin 512) (e : Fin 16), k0_pay12 (F := Ideal) x0 x1 (ix2 r e) = sm (l (o + r)) e :=
    fun r e => by rw [pay12_apply, hl]
  refine ⟨fun r k => ?_, fun r k => ?_, fun e => ?_, fun e => ?_, fun e => ?_, ?_, fun r k => ?_⟩
  · rw [hb.disp]
    exact pay36_apply _ l u o ho hS x2 hx tr h.tri w0 w1 h.count1 h.count2 r k
  · rw [hb.comb]
    exact pay35_apply _ l u o ho hS x2 hx tr h.tri w0 w1 h.count1 h.count2 r k
  · rw [hb.carry0, num1_eq]
    exact pay31_apply (ex1 l) (fun _ => True) o w0 (fun e => by rw [h.count1, num1_eq]) _ (pay24_apply _ l o hS) e
  · rw [hb.carry1]
    exact pay32_apply (ex2 l) (kp l u) o w1 h.count2 _ _ (pay26_apply _ l u o hS x2 hx) e
  · rw [hb.proxy, pay14_apply _ l o hS, h.proxy, Finset.sum_range_add, Finset.sum_range (n := 512)]
  · rw [hb.accz, pay13_apply, h.accz]
    simp only [hl]
  · rw [hb.tri, h.tri]

end Body

section Points

variable (m : (ℓ : Loc nD τ sig) → Buf (Elt Ideal) ℓ) (c : Dev nD)

theorem step_A (t : Fin cfg0.N) (acc : St) (h0 : t.val % 16 = 0) (h1 : t.val % 4 = 0) (h2 : ¬t.val % 4 = 3) :
    (∃ v, Body (iblk m c 0 t) (iblk m c 1 t) (iblk m c 2 t) (zero0 v) (zero1 v) (k0_pay7 (F := Ideal)) (k0_pay4 (F := Ideal)) (k0_pay5 (F := Ideal))
      (stAt0 m c t.val t.isLt acc)) ∧ (stAt0 m c t.val t.isLt acc).2.2.2.2.2.2.1 = k0_pay3 (F := Ideal) := by
  rw [stAt0_A m c t acc h0 h1 h2]
  have h := body_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) ((hcond0_0 t).mpr h0) ((hcond0_1 t).mpr h1) (fun h => h2 ((hcond0_2 t).mp h))
  exact ⟨⟨_, h.1⟩, h.2⟩

theorem step_B (t : Fin cfg0.N) (acc : St) (h0 : ¬t.val % 16 = 0) (h1 : ¬t.val % 4 = 0) (h2 : ¬t.val % 4 = 3) :
    Body (iblk m c 0 t) (iblk m c 1 t) (iblk m c 2 t) (row0 acc.2.2.2.2.1) (row1 acc.2.2.2.2.1) acc.2.2.2.2.2.1
      acc.2.2.2.2.2.2.2.1 acc.2.2.2.2.2.2.2.2 (stAt0 m c t.val t.isLt acc)
    ∧ (stAt0 m c t.val t.isLt acc).2.2.2.2.2.2.1 = acc.2.2.2.2.2.2.1 := by
  rw [stAt0_B m c t acc h0 h1 h2]
  exact body_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) _ _ _ _ _ (fun h => h0 ((hcond0_0 t).mp h)) (fun h => h1 ((hcond0_1 t).mp h)) (fun h => h2 ((hcond0_2 t).mp h))

/-- At a batch's last point the body also adds the batch's share of the balance loss and stores both losses. -/
theorem step_C (t : Fin cfg0.N) (acc : St) (h0 : ¬t.val % 16 = 0) (h1 : ¬t.val % 4 = 0) (h2 : t.val % 4 = 3) :
    Body (iblk m c 0 t) (iblk m c 1 t) (iblk m c 2 t) (row0 acc.2.2.2.2.1) (row1 acc.2.2.2.2.1) acc.2.2.2.2.2.1
      acc.2.2.2.2.2.2.2.1 acc.2.2.2.2.2.2.2.2 (stAt0 m c t.val t.isLt acc)
    ∧ ((stAt0 m c t.val t.isLt acc).2.2.2.2.2.2.1 (ix2 0 0) = acc.2.2.2.2.2.2.1 (ix2 0 0)
        + ∑ e : Fin 16, k0_pay14 (k0_pay12 (F := Ideal) (iblk m c 0 t) (iblk m c 1 t)) acc.2.2.2.2.2.1 (ix2 0 e) * k0_pay31 (k0_pay24 (k0_pay12 (F := Ideal) (iblk m c 0 t) (iblk m c 1 t))) (row0 acc.2.2.2.2.1) (ix2 0 e)
      ∧ (stAt0 m c t.val t.isLt acc).2.2.1 (ix2 0 0) = (stAt0 m c t.val t.isLt acc).2.2.2.2.2.2.1 (ix2 0 0) * Idealize.ShloMosaic.Ideal.ofBits .f32 0x35800000#32
      ∧ (stAt0 m c t.val t.isLt acc).2.2.2.1 (ix2 0 0) = (stAt0 m c t.val t.isLt acc).2.2.2.2.2.2.2.1 (ix2 0 0) * Idealize.ShloMosaic.Ideal.ofBits .f32 0x3E800000#32) := by
  rw [stAt0_C m c t acc h0 h1 h2]
  exact body_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) _ _ _ _ _ (fun h => h0 ((hcond0_0 t).mp h)) (fun h => h1 ((hcond0_1 t).mp h)) ((hcond0_2 t).mpr h2)

theorem step_D (t : Fin cfg0.N) (acc : St) (h0 : ¬t.val % 16 = 0) (h1 : t.val % 4 = 0) (h2 : ¬t.val % 4 = 3) :
    (∃ v, Body (iblk m c 0 t) (iblk m c 1 t) (iblk m c 2 t) (zero0 v) (zero1 v) (k0_pay7 (F := Ideal)) acc.2.2.2.2.2.2.2.1 acc.2.2.2.2.2.2.2.2
      (stAt0 m c t.val t.isLt acc)) ∧ (stAt0 m c t.val t.isLt acc).2.2.2.2.2.2.1 = acc.2.2.2.2.2.2.1 := by
  rw [stAt0_D m c t acc h0 h1 h2]
  have h := body_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _)
    (iblk m c 0 t) (iblk m c 1 t) (iblk m c 2 t) acc.2.2.2.2.2.2.1 acc.2.2.2.2.2.2.2.1 acc.2.2.2.2.2.2.2.2 (fun h => h0 ((hcond0_0 t).mp h)) ((hcond0_1 t).mpr h1) (fun h => h2 ((hcond0_2 t).mp h))
  exact ⟨⟨_, h.1⟩, h.2⟩

/-- The running total of the router's loss before a point. -/
abbrev Z (t : ℕ) : EReal := zSum (argX m c) (argW m c) (512 * t)

theorem Z_succ (t : Fin cfg0.N) : Z m c t.val + ∑ r : Fin 512, lse (L m c (t.val / 4) (512 * (t.val % 4) + r)) = Z m c (t.val + 1) := by
  unfold Z zSum
  rw [Nat.mul_add, Finset.sum_range_add, mul_one, Finset.sum_range (n := 512)]
  refine congrArg _ (Finset.sum_congr rfl fun r _ => ?_)
  have e : 512 * t.val + r.val = 2048 * (t.val / 4) + (512 * (t.val % 4) + r.val) := by omega
  rw [show (512 * t.val + r.val) / 2048 = t.val / 4 by omega, e, lg_skip]

/-- What the state holds after point `t`. -/
structure Inv (t : Fin cfg0.N) (s : St) : Prop where
  after : After (L m c (t.val / 4)) (U m c (t.val / 4)) (512 * (t.val % 4)) (Z m c t.val) s
  accb : s.2.2.2.2.2.2.1 (ix2 0 0) = balSum (argX m c) (argW m c) ((t.val + 1) / 4)
  bal : t.val % 4 = 3 → s.2.2.1 (ix2 0 0) = balSum (argX m c) (argW m c) ((t.val + 1) / 4) * Idealize.ShloMosaic.Ideal.ofBits .f32 0x35800000#32
  z : t.val % 4 = 3 → s.2.2.2.1 (ix2 0 0) = Z m c (t.val + 1) * Idealize.ShloMosaic.Ideal.ofBits .f32 0x3E800000#32

theorem after_step (t : Fin cfg0.N) (w0 w1 pr : Vec Ideal S1x16 .f32) (az : Vec Ideal S1x1 .f32) (tr : Vec Ideal S512x512 .bf16) (s : St)
    (hb : Body (iblk m c 0 t) (iblk m c 1 t) (iblk m c 2 t) w0 w1 pr az tr s)
    (h : Before (L m c (t.val / 4)) (U m c (t.val / 4)) (512 * (t.val % 4)) (Z m c t.val) w0 w1 pr az tr) :
    After (L m c (t.val / 4)) (U m c (t.val / 4)) (512 * (t.val % 4)) (Z m c t.val) s :=
  after_of_body _ _ (iblk m c 0 t) (iblk m c 1 t) (iblk m c 2 t) _ (by omega) _ w0 w1 pr az tr s (logit_eq m c t) (rand_eq m c t) hb h

/-- Before the first point of a batch. -/
theorem before_first (l : ℕ → Fin 16 → EReal) (u : ℕ → EReal) (z : EReal) (v : View sig .tc .vmem S2x16 .f32)
    (az : Vec Ideal S1x1 .f32) (tr : Vec Ideal S512x512 .bf16) (hz : az (ix2 0 0) = z) (ht : ∀ r k : Fin 512, tr (ix2 r k) = ind (k.val < r.val)) :
    Before l u 0 z (zero0 v) (zero1 v) (k0_pay7 (F := Ideal)) az tr := by
  refine ⟨fun e => ?_, fun e => ?_, fun e => ?_, hz, ht⟩
  · rw [zero0_apply, num1, cnt_zero, Nat.cast_zero]
  · rw [zero1_apply, num2, cnt_zero, Nat.cast_zero]
  · rw [Finset.range_zero, Finset.sum_empty]
    pointwise [k0_pay7]

/-- Between two points of a batch. -/
theorem before_next (l : ℕ → Fin 16 → EReal) (u : ℕ → EReal) (o o' : ℕ) (z z' : EReal) (s : St) (ho : o + 512 = o')
    (hz : z + ∑ r : Fin 512, lse (l (o + r)) = z') (h : After l u o z s) :
    Before l u o' z' (row0 s.2.2.2.2.1) (row1 s.2.2.2.2.1) s.2.2.2.2.2.1 s.2.2.2.2.2.2.2.1 s.2.2.2.2.2.2.2.2 := by
  subst ho
  exact ⟨fun e => (row0_apply _ e).trans (h.count1 e), fun e => (row1_apply _ e).trans (h.count2 e), h.proxy, h.accz.trans hz, h.tri⟩

theorem inv_first (t : Fin cfg0.N) (acc : St) (h0 : t.val = 0) : Inv m c t (stAt0 m c t.val t.isLt acc) := by
  obtain ⟨⟨v, hb⟩, ha⟩ := step_A m c t acc (by omega) (by omega) (by omega)
  generalize stAt0 m c t.val t.isLt acc = s at *
  refine ⟨after_step m c t _ _ _ _ _ s hb ?_, ?_, fun h => absurd h (by omega), fun h => absurd h (by omega)⟩
  · rw [show 512 * (t.val % 4) = 0 by omega]
    refine before_first _ _ _ v _ _ ?_ pay5_apply
    rw [Z, zSum, show 512 * t.val = 0 by omega, Finset.range_zero, Finset.sum_empty]
    pointwise [k0_pay4]
  · rw [ha, balSum, show (t.val + 1) / 4 = 0 by omega, Finset.range_zero, Finset.sum_empty]
    pointwise [k0_pay3]

theorem inv_next (t p : Fin cfg0.N) (acc : St) (hp : p.val + 1 = t.val) (h : Inv m c p acc) : Inv m c t (stAt0 m c t.val t.isLt acc) := by
  have h16 := lt16 t
  have hz : acc.2.2.2.2.2.2.2.1 (ix2 0 0) = Z m c t.val := by rw [h.after.accz, Z_succ, hp]
  by_cases h1 : t.val % 4 = 0
  · obtain ⟨⟨v, hb⟩, ha⟩ := step_D m c t acc (by omega) h1 (by omega)
    generalize stAt0 m c t.val t.isLt acc = s at *
    refine ⟨after_step m c t _ _ _ _ _ s hb ?_, ?_, fun h => absurd h (by omega), fun h => absurd h (by omega)⟩
    · rw [show 512 * (t.val % 4) = 0 by omega]
      exact before_first _ _ _ v _ _ hz h.after.tri
    · rw [ha, h.accb, show (t.val + 1) / 4 = (p.val + 1) / 4 by omega]
  · have hB : Before (L m c (t.val / 4)) (U m c (t.val / 4)) (512 * (t.val % 4)) (Z m c t.val) (row0 acc.2.2.2.2.1) (row1 acc.2.2.2.2.1) acc.2.2.2.2.2.1 acc.2.2.2.2.2.2.2.1 acc.2.2.2.2.2.2.2.2 := by
      have hd : p.val / 4 = t.val / 4 := by omega
      have ha := h.after
      rw [hd] at ha
      refine before_next _ _ (512 * (p.val % 4)) _ (Z m c p.val) _ acc (by omega) ?_ ha
      rw [← hd, Z_succ, hp]
    by_cases h2 : t.val % 4 = 3
    · obtain ⟨hb, ha, h5, h6⟩ := step_C m c t acc (by omega) h1 h2
      generalize stAt0 m c t.val t.isLt acc = s at *
      have A := after_step m c t _ _ _ _ _ s hb hB
      have e : s.2.2.2.2.2.2.1 (ix2 0 0) = balSum (argX m c) (argW m c) ((t.val + 1) / 4) := by
        rw [ha, h.accb, show (p.val + 1) / 4 = t.val / 4 by omega, show (t.val + 1) / 4 = t.val / 4 + 1 by omega, balSum, balSum,
          Finset.sum_range_succ]
        refine congrArg _ (Finset.sum_congr rfl fun e _ => congrArg₂ (· * ·) ?_ ?_)
        · have := A.proxy e
          rw [hb.proxy, show 512 * (t.val % 4) + 512 = 2048 by omega] at this
          exact this
        · have := A.count1 e
          rw [hb.carry0, show 512 * (t.val % 4) + 512 = 2048 by omega] at this
          exact this
      refine ⟨A, e, fun _ => by rw [h5, e], fun _ => ?_⟩
      rw [h6, A.accz, Z_succ]
    · obtain ⟨hb, ha⟩ := step_B m c t acc (by omega) h1 h2
      generalize stAt0 m c t.val t.isLt acc = s at *
      refine ⟨after_step m c t _ _ _ _ _ s hb hB, ?_, fun h => absurd h h2, fun h => absurd h h2⟩
      rw [ha, h.accb, show (t.val + 1) / 4 = (p.val + 1) / 4 by omega]

/-- What the outputs and scratches hold after every point. -/
theorem inv : ∀ (n : ℕ) (hn : n < cfg0.N), Inv m c ⟨n, hn⟩ (outsAt0 m c n hn)
  | 0, hn => by rw [outsAt0_zero]; exact inv_first m c ⟨0, hn⟩ _ rfl
  | n + 1, hn => by rw [outsAt0_succ]; exact inv_next m c ⟨n + 1, hn⟩ ⟨n, Nat.lt_of_succ_lt hn⟩ _ rfl (inv n _)

/-- The kernel's first result: the dispatch mask. -/
theorem G3_apply (b : Fin 4) (n : Fin 2048) (k : Fin 2560) :
    (G3 m c : S4x2048x2560.Idx → EReal) (ix3 b n k) = Cert.Hand.disp (L m c b) (U m c b) n k := by
  have hN : pt3Of (ix3 b n k) = 4 * b.val + n.val / 512 := by
    show 4 * (b.val / 1 - 0) + 1 * (n.val / 512 - 0) + 1 * (k.val / 2560 - 0) = _
    have := k.isLt; omega
  have h : pt3Of (ix3 b n k) < cfg0.N := by rw [hN]; exact lt_of_lt_of_eq (by omega) N_0.symm
  refine (dif_pos h).trans ?_
  have e := inv m c _ h
  rw [← outsAt0_sweep m c _ h]
  have hl : loc3Of (ix3 b n k) = ix3 0 ⟨n.val % 512, by omega⟩ k := by
    funext a; apply Fin.ext
    match a with
    | ⟨0, _⟩ => show b.val % 1 = 0; omega
    | ⟨1, _⟩ => rfl
    | ⟨2, _⟩ => show k.val % 2560 = k.val; have := k.isLt; omega
  rw [hl]
  refine (e.after.disp _ _).trans ?_
  simp only [hN]
  rw [show (4 * b.val + n.val / 512) / 4 = b.val by omega, show 512 * ((4 * b.val + n.val / 512) % 4) + n.val % 512 = n.val by omega]

/-- The kernel's second result: the combine weights. -/
theorem G4_apply (b : Fin 4) (n : Fin 2048) (k : Fin 2560) :
    (G4 m c : S4x2048x2560.Idx → EReal) (ix3 b n k) = Cert.Hand.comb (L m c b) (U m c b) n k := by
  have hN : pt4Of (ix3 b n k) = 4 * b.val + n.val / 512 := by
    show 4 * (b.val / 1 - 0) + 1 * (n.val / 512 - 0) + 1 * (k.val / 2560 - 0) = _
    have := k.isLt; omega
  have h : pt4Of (ix3 b n k) < cfg0.N := by rw [hN]; exact lt_of_lt_of_eq (by omega) N_0.symm
  refine (dif_pos h).trans ?_
  have e := inv m c _ h
  rw [← outsAt0_sweep m c _ h]
  have hl : loc4Of (ix3 b n k) = ix3 0 ⟨n.val % 512, by omega⟩ k := by
    funext a; apply Fin.ext
    match a with
    | ⟨0, _⟩ => show b.val % 1 = 0; omega
    | ⟨1, _⟩ => rfl
    | ⟨2, _⟩ => show k.val % 2560 = k.val; have := k.isLt; omega
  rw [hl]
  refine (e.after.comb _ _).trans ?_
  simp only [hN]
  rw [show (4 * b.val + n.val / 512) / 4 = b.val by omega, show 512 * ((4 * b.val + n.val / 512) % 4) + n.val % 512 = n.val by omega]

/-- The kernel's third result: the balance loss. -/
theorem G5_apply : (G5 m c : S1x1.Idx → EReal) (ix2 0 0) = balSum (argX m c) (argW m c) 4 * Idealize.ShloMosaic.Ideal.ofBits .f32 0x35800000#32 := by
  have h : pt5Of (ix2 0 0) < cfg0.N := lt_of_lt_of_eq (by decide) N_0.symm
  refine (dif_pos h).trans ?_
  rw [← outsAt0_sweep m c _ h]
  have e := (inv m c 15 h).bal (show 15 % 4 = 3 by norm_num)
  rw [show ((⟨15, h⟩ : Fin cfg0.N).val + 1) / 4 = 4 from show (15 + 1) / 4 = 4 by norm_num] at e
  exact e

/-- The kernel's fourth result: the router's loss. -/
theorem G6_apply : (G6 m c : S1x1.Idx → EReal) (ix2 0 0) = zSum (argX m c) (argW m c) 8192 * Idealize.ShloMosaic.Ideal.ofBits .f32 0x3E800000#32 := by
  have h : pt6Of (ix2 0 0) < cfg0.N := lt_of_lt_of_eq (by decide) N_0.symm
  refine (dif_pos h).trans ?_
  rw [← outsAt0_sweep m c _ h]
  exact (inv m c 15 h).z (show 15 % 4 = 3 by norm_num)

end Points

end Cert.KernelIdeal.Hand
end
-- ==== Proof.Draw.lean ====
module

public import proofs.«01_k».proof.Proof.RefRun
public import proofs.«01_k».proof.Proof.Gen.KernelIdeal.Value
public import Idealize.ShloMosaic.PureOps.Ideal
public import Idealize.ShloMosaic.PureOps.Ideal.Laws
public import Idealize.ShloMosaic.Lib.IdealHost

@[expose] public section

set_option maxRecDepth 16384
set_option maxHeartbeats 4000000

noncomputable section

/-! The kernel's program and the reference draw the same random values: the two lines of host operations that draw them are
in step, operation by operation. -/

namespace Cert.Hand

open Idealize.ShloMosaic Idealize.ShloMosaic.TcCoe
open Idealize.ShloMosaic.StableHlo
open Idealize.SL Idealize.SL.Sem

section Reference
open Cert.ReferenceIdeal Cert.ReferenceIdeal.Hand Cert.ReferenceIdeal.Facts₀

variable {F : FTy → Type} [FloatOps F] [Cert.ReferenceIdeal.Facts]

/-- The reference's key and bounds of the draw, on typed references. -/
def keyOps : List (HloOp τ sig (Elt F)) :=
  [ TRef.nullary (.of main_c : TRef sig ⟨S_, .i32⟩) (constantI S_ 32 42#32),
    TRef.nullary (.of main_c_10 : TRef sig ⟨S_, .i32⟩) (constantI S_ 32 32#32),
    TRef.binary (.of main_c : TRef sig ⟨S_, .i32⟩) (.of main_c_10 : TRef sig ⟨S_, .i32⟩) (.of main_v37 : TRef sig ⟨S_, .i32⟩) Host.shrui,
    TRef.unary (.of main_v37 : TRef sig ⟨S_, .i32⟩) (.of main_v38 : TRef sig ⟨S_, .i32⟩) id,
    TRef.unary (.of main_v38 : TRef sig ⟨S_, .i32⟩) (.of main_v39 : TRef sig ⟨S1, .i32⟩) (broadcastInDim S1 ![] bcast_S_S1),
    TRef.nullary (.of main_c_11 : TRef sig ⟨S_, .i32⟩) (constantI S_ 32 4294967295#32),
    TRef.binary (.of main_c : TRef sig ⟨S_, .i32⟩) (.of main_c_11 : TRef sig ⟨S_, .i32⟩) (.of main_v40 : TRef sig ⟨S_, .i32⟩) andi,
    TRef.unary (.of main_v40 : TRef sig ⟨S_, .i32⟩) (.of main_v41 : TRef sig ⟨S_, .i32⟩) id,
    TRef.unary (.of main_v41 : TRef sig ⟨S_, .i32⟩) (.of main_v42 : TRef sig ⟨S1, .i32⟩) (broadcastInDim S1 ![] bcast_S_S1),
    TRef.binary (.of main_v39 : TRef sig ⟨S1, .i32⟩) (.of main_v42 : TRef sig ⟨S1, .i32⟩) (.of main_v43 : TRef sig ⟨S2, .i32⟩)
      (fun a b => concatenate S2 0 [⟨S1, a⟩, ⟨S1, b⟩] concatenates_S1_S1_S2_d0),
    TRef.nullary (.of main_cst_12 : TRef sig ⟨S_, .f32⟩) (constant S_ .f32 0x00000000#32),
    TRef.nullary (.of main_cst_13 : TRef sig ⟨S_, .f32⟩) (constant S_ .f32 0x3F800000#32) ]

/-- They are the operations of the main program. -/
theorem keyOps_eq : (keyOps : List (HloOp τ sig (Elt F))) = opsKey ++ opsBounds := rfl

/-- The reference's operations that draw, in order. -/
abbrev drawOps : List (HloOp τ sig (Elt F)) :=
  keyOps ++ uniformOps (.of main_v43) (.of main_cst_12) (.of main_cst_13) main_call2

end Reference

/-- The kernel's draw and the reference's are in step: buffer `k` of the one is buffer `k + 60` of the other. -/
theorem draw_sim : Sim 60 2 2 (Cert.KernelIdeal.Gen.hostOps0 : List (HloOp _ _ (Elt Ideal))) (drawOps : List (HloOp _ _ (Elt Ideal))) := by
  unfold drawOps keyOps
  repeat (first
    | exact Sim.nil _ _ ⟨good_reshape ⟨rfl, rfl⟩ ⟨rfl, by decide⟩, trivial⟩
    | refine Sim.nullary _ _ _ ⟨rfl, rfl⟩ ⟨rfl, rfl⟩ ?_
    | refine Sim.unary _ _ _ _ _ _ (by decide) (by decide) ⟨rfl, rfl⟩ ⟨rfl, rfl⟩ ⟨rfl, rfl⟩ ⟨rfl, rfl⟩ ?_
    | refine Sim.binary _ _ _ _ _ _ _ _ (by decide) (by decide) ⟨rfl, rfl⟩ ⟨rfl, rfl⟩ _ (by decide) (by decide) ⟨rfl, rfl⟩ ⟨rfl, rfl⟩
        ⟨rfl, rfl⟩ ⟨rfl, rfl⟩ ?_
    | refine Sim.reshape _ _ _ _ _ _ _ (by decide) (by decide) ⟨rfl, rfl⟩ ⟨rfl, rfl⟩ ⟨rfl, rfl⟩ ⟨rfl, rfl⟩ ?_)

/-- After the kernel's host operations the contents satisfy their equations. -/
theorem host_fix (m : (ℓ : Loc Cert.KernelIdeal.nD Cert.KernelIdeal.τ Cert.KernelIdeal.sig) → Buf (Elt Ideal) ℓ) (c : Dev Cert.KernelIdeal.nD) :
    (Cert.KernelIdeal.Gen.hostOps0 : List (HloOp _ _ (Elt Ideal))).Forall
      (Fix (after Cert.KernelIdeal.Gen.hostOps0 (fun b => m (c, b)))) := draw_sim.ssa.fix _

/-- The reference's equations of the draw. -/
theorem draw_fix (m : (ℓ : Loc Cert.ReferenceIdeal.nD Cert.ReferenceIdeal.τ Cert.ReferenceIdeal.sig) → Buf (Elt Ideal) ℓ)
    (c : Dev Cert.ReferenceIdeal.nD) :
    (drawOps : List (HloOp _ _ (Elt Ideal))).Forall (Fix (Cert.ReferenceIdeal.Hand.W m c)) := by
  have h := (Cert.ReferenceIdeal.Hand.main_ssa (F := Ideal)).fix (launchContents m c)
  have h := (List.forall_append.1 h).2
  have h := (List.forall_append.1 h).2
  have h := (List.forall_append.1 h).2
  have h := (List.forall_append.1 h).2
  have h := (List.forall_append.1 h).2
  have k := (List.forall_append.1 h).1
  have h := (List.forall_append.1 h).2
  have b := (List.forall_append.1 h).1
  have h := (List.forall_append.1 h).2
  have u := (List.forall_append.1 h).1
  unfold drawOps
  rw [keyOps_eq]
  exact List.forall_append.2 ⟨List.forall_append.2 ⟨k, b⟩, u⟩

/-- The two programs draw the same values. -/
theorem draw_same (m : (ℓ : Loc Cert.KernelIdeal.nD Cert.KernelIdeal.τ Cert.KernelIdeal.sig) → Buf (Elt Ideal) ℓ)
    (c : Dev Cert.KernelIdeal.nD)
    (m' : (ℓ : Loc Cert.ReferenceIdeal.nD Cert.ReferenceIdeal.τ Cert.ReferenceIdeal.sig) → Buf (Elt Ideal) ℓ)
    (c' : Dev Cert.ReferenceIdeal.nD) :
    Shifted 60 2 (2 + (drawOps : List (HloOp Cert.ReferenceIdeal.τ Cert.ReferenceIdeal.sig (Elt Ideal))).length)
      (after Cert.KernelIdeal.Gen.hostOps0 (fun b => m (c, b))) (Cert.ReferenceIdeal.Hand.W m' c') :=
  draw_sim.shifted (host_fix m c) (draw_fix m' c') (fun T x x' k h1 h2 _ _ => absurd h1 (by omega))

theorem draw_v7 (m : (ℓ : Loc Cert.KernelIdeal.nD Cert.KernelIdeal.τ Cert.KernelIdeal.sig) → Buf (Elt Ideal) ℓ)
    (c : Dev Cert.KernelIdeal.nD)
    (m' : (ℓ : Loc Cert.ReferenceIdeal.nD Cert.ReferenceIdeal.τ Cert.ReferenceIdeal.sig) → Buf (Elt Ideal) ℓ)
    (c' : Dev Cert.ReferenceIdeal.nD) :
    (after Cert.KernelIdeal.Gen.hostOps0 (fun b => m (c, b)) (Proc.devRef .tc Cert.KernelIdeal.main_call0_v7) : Cert.ReferenceIdeal.S4x2048.Idx → EReal)
      = Cert.ReferenceIdeal.Hand.W m' c' (Proc.devRef .tc Cert.ReferenceIdeal.main_v44) :=
  draw_same m c m' c' ⟨Cert.ReferenceIdeal.S4x2048, .f32⟩ (.of Cert.KernelIdeal.main_call0_v7) (.of Cert.ReferenceIdeal.main_v44) 275
    (by decide) (by decide) ⟨rfl, rfl⟩ ⟨rfl, rfl⟩

/-- The kernel reads the draw, four blocks of 512 to a row. -/
theorem draw_v8 (m : (ℓ : Loc Cert.KernelIdeal.nD Cert.KernelIdeal.τ Cert.KernelIdeal.sig) → Buf (Elt Ideal) ℓ)
    (c : Dev Cert.KernelIdeal.nD) :
    (after Cert.KernelIdeal.Gen.hostOps0 (fun b => m (c, b)) (Proc.devRef .tc Cert.KernelIdeal.main_call0_v8) : Cert.KernelIdeal.S4x4x512x1.Idx → EReal)
      = shapeCast Cert.KernelIdeal.S4x4x512x1 (after Cert.KernelIdeal.Gen.hostOps0 (fun b => m (c, b)) (Proc.devRef .tc Cert.KernelIdeal.main_call0_v7) : Cert.KernelIdeal.S4x2048.Idx → EReal) Cert.KernelIdeal.Facts₀.shapeCasts_S4x2048_S4x4x512x1 := by
  have h := host_fix m c
  have l : (TRef.reshape Cert.KernelIdeal.main_call0_call0.v34 (.of Cert.KernelIdeal.main_call0_v8 : TRef Cert.KernelIdeal.sig ⟨Cert.KernelIdeal.S4x4x512x1, .f32⟩) (rfl : (.f32 : EltTy) = .f32) Cert.KernelIdeal.Facts₀.shapeCasts_S4x2048_S4x4x512x1 : HloOp Cert.KernelIdeal.τ _ (Elt Ideal)) ∈ (Cert.KernelIdeal.Gen.hostOps0 : List (HloOp _ _ (Elt Ideal))) := by
    exact List.mem_of_getLast? rfl
  exact fix_reshape (List.forall_iff_forall_mem.1 h _ l)

/-- The values the reference draws. -/
def draw (m : (ℓ : Loc Cert.ReferenceIdeal.nD Cert.ReferenceIdeal.τ Cert.ReferenceIdeal.sig) → Buf (Elt Ideal) ℓ)
    (c : Dev Cert.ReferenceIdeal.nD) : Cert.ReferenceIdeal.S4x2048.Idx → EReal :=
  Cert.ReferenceIdeal.Hand.W m c (Proc.devRef .tc Cert.ReferenceIdeal.main_v44)

section Nonneg
open Cert.ReferenceIdeal Cert.ReferenceIdeal.Hand Cert.ReferenceIdeal.Facts₀

/-- The drawn values among contents. -/
def drawOf (w : Valuation τ sig (Elt Ideal)) : S4x2048.Idx → EReal := w (Proc.devRef .tc main_v44)

/-- Contents that satisfy the equations of the draw hold values that are at least zero. -/
theorem nonneg_of (w : Valuation τ sig (Elt Ideal)) (h : (drawOps : List (HloOp _ _ (Elt Ideal))).Forall (Fix w)) (i : S4x2048.Idx) :
    0 ≤ drawOf w i := by
  unfold drawOps at h
  obtain ⟨k, u⟩ := List.forall_append.1 h
  unfold uniformOps at u
  obtain ⟨a, u⟩ := List.forall_append.1 u
  obtain ⟨-, z⟩ := List.forall_append.1 u
  obtain ⟨-, -, -, -, -, -, -, -, -, -, k, -⟩ := k
  obtain ⟨a0, -, a2, -⟩ := a
  obtain ⟨-, -, -, -, -, -, -, -, -, -, -, -, -, -, -, -, z3, z4⟩ := z
  have e0 := fix_nullary k
  have e1 := fix_unary a0
  have e2 := fix_unary a2
  have e3 := fix_unary z3
  have e4 := fix_binary z4
  rw [e3, e2, e1, e0] at e4
  have e5 : ∃ b : EReal, drawOf w i = max (Idealize.ShloMosaic.Ideal.ofBits .f32 0x00000000#32) b := ⟨_, congrFun e4 i⟩
  obtain ⟨b, e5⟩ := e5
  rw [e5]
  refine le_of_eq_of_le ?_ (le_max_left _ _)
  exact Idealize.ShloMosaic.Ideal.ofBits_zero_f32.symm

/-- The drawn values are at least zero. -/
theorem draw_nonneg (m : (ℓ : Loc nD τ sig) → Buf (Elt Ideal) ℓ) (c : Dev nD) (i : S4x2048.Idx) : 0 ≤ draw m c i :=
  nonneg_of (W m c) (draw_fix m c) i

end Nonneg

end Cert.Hand

end
-- ==== Proof.Top.lean ====
module

public import proofs.«01_k».proof.Proof.Spec
public import Idealize.ShloMosaic.Lib.Pointwise
public import Idealize.ShloMosaic.Lib.SortFacts

@[expose] public section

set_option maxRecDepth 16384
set_option maxHeartbeats 4000000

noncomputable section

/-! The two largest entries of a row, as the stable descending sort brings them to the front. -/

namespace Cert.Hand

open Idealize.ShloMosaic

/-- Descending order, the earlier place first among equals. -/
def lexBefore (r : Fin 16 → EReal) (a b : Fin 16) : Bool := open Classical in decide (r b < r a ∨ (r a = r b ∧ a < b))

theorem lexBefore_iff (r : Fin 16 → EReal) (a b : Fin 16) : lexBefore r a b = true ↔ (r b < r a ∨ (r a = r b ∧ a < b)) := by
  unfold lexBefore; rw [decide_eq_true_iff]

theorem lexBefore_false (r : Fin 16 → EReal) (a b : Fin 16) : lexBefore r a b = false ↔ (r a < r b ∨ (r a = r b ∧ b ≤ a)) := by
  rw [← Bool.not_eq_true, lexBefore_iff]
  rcases lt_trichotomy (r a) (r b) with h | h | h
  · exact ⟨fun _ => .inl h, fun _ q => q.elim (fun z => absurd (z.trans h) (lt_irrefl _)) fun z => absurd h (z.1 ▸ lt_irrefl _)⟩
  · simp [h]
  · exact ⟨fun q => absurd (.inl h) q, fun q => q.elim (fun z => absurd (z.trans h) (lt_irrefl _)) fun z => absurd h (z.1 ▸ lt_irrefl _)⟩

/-- A stable sort of an increasing list breaks ties by place. -/
theorem stableSort_lex (r : Fin 16 → EReal) (B : Fin 16 → Fin 16 → Bool) (hB : ∀ a b, B a b = true ↔ r b < r a)
    (l : List (Fin 16)) (hl : l.Pairwise (· < ·)) : stableSort B l = stableSort (lexBefore r) l := by
  induction l with
  | nil => rfl
  | cons a l ih =>
    rw [List.pairwise_cons] at hl
    unfold stableSort
    rw [ih hl.2]
    refine insertBefore_congr _ _ a _ fun b hb => ?_
    have q := hl.1 b ((perm_stableSort _ l).mem_iff.mp hb)
    rw [Bool.eq_iff_iff, hB, lexBefore_iff]
    exact ⟨.inl, fun z => z.elim id fun z => absurd (z.2.trans q) (lt_irrefl _)⟩

theorem sortedFrom_lex (r : Fin 16 → EReal) (B : Fin 16 → Fin 16 → Bool) (hB : ∀ a b, B a b = true ↔ r b < r a) :
    sortedFrom B = sortedFrom (lexBefore r) := by
  funext k
  unfold sortedFrom
  have e : sortPositions 16 B = sortPositions 16 (lexBefore r) := stableSort_lex r B hB _ (List.pairwise_lt_finRange 16)
  rw [List.get_of_eq e]
  rfl

/-- An earlier place of the sorted order holds a larger entry, or an equal one at an earlier place. -/
theorem sorted_lex (r : Fin 16 → EReal) {i j : Fin 16} (h : i < j) :
    r (sortedFrom (lexBefore r) j) < r (sortedFrom (lexBefore r) i)
      ∨ (r (sortedFrom (lexBefore r) j) = r (sortedFrom (lexBefore r) i) ∧ sortedFrom (lexBefore r) i ≤ sortedFrom (lexBefore r) j) := by
  rw [← lexBefore_false]
  refine sortedFrom_noInversion (lexBefore r) (lexBefore r) ?_ (fun _ _ h => h) ?_ i j h
  · intro a b h
    rw [lexBefore_iff] at h
    rw [lexBefore_false]
    exact h.elim .inl fun z => .inr ⟨z.1.symm, z.2.le⟩
  · intro a b c h k
    rw [lexBefore_false] at *
    rcases h with h | ⟨h, h'⟩ <;> rcases k with k | ⟨k, k'⟩
    · exact .inl (h.trans k)
    · exact .inl (k ▸ h)
    · exact .inl (h ▸ k)
    · exact .inr ⟨h.trans k, k'.trans h'⟩

theorem rest_arg (r : Fin 16 → EReal) : rest r (arg r) = ⊥ := if_pos rfl
theorem rest_ne {r : Fin 16 → EReal} {e : Fin 16} (h : e ≠ arg r) : rest r e = r e := if_neg h

/-- The two front places of the stable descending sort of a row: the first largest entry, and the first largest of the rest
    unless the rest is all the least value. -/
theorem sorted_front (r : Fin 16 → EReal) (B : Fin 16 → Fin 16 → Bool) (hB : ∀ a b, B a b = true ↔ r b < r a) :
    sortedFrom B 0 = arg r ∧ r (sortedFrom B 1) = top (rest r) ∧ (top (rest r) ≠ ⊥ → sortedFrom B 1 = arg (rest r)) := by
  rw [sortedFrom_lex r B hB]
  have h0 : sortedFrom (lexBefore r) 0 = arg r := by
    have key : ∀ e, r e < r (sortedFrom (lexBefore r) 0) ∨ (r e = r (sortedFrom (lexBefore r) 0) ∧ sortedFrom (lexBefore r) 0 ≤ e) := by
      intro e
      obtain ⟨j, rfl⟩ := sortedFrom_surjective (lexBefore r) e
      rcases eq_or_lt_of_le (Fin.zero_le j) with h | h
      · subst h; exact .inr ⟨rfl, le_rfl⟩
      · exact sorted_lex r h
    have t : r (sortedFrom (lexBefore r) 0) = top r :=
      le_antisymm (le_top' _ _) (top_le fun e => (key e).elim le_of_lt fun z => z.1.le)
    refine arg_unique t fun e he => ?_
    rcases key e with h | h
    · exact absurd h (by rw [he, t]; exact lt_irrefl _)
    · exact h.2
  have ne : sortedFrom (lexBefore r) 1 ≠ arg r := by
    rw [← h0]
    exact fun h => absurd (sortedFrom_injective (lexBefore r) h) (by decide)
  have key : ∀ e, e ≠ arg r → r e < r (sortedFrom (lexBefore r) 1) ∨ (r e = r (sortedFrom (lexBefore r) 1) ∧ sortedFrom (lexBefore r) 1 ≤ e) := by
    intro e he
    obtain ⟨j, rfl⟩ := sortedFrom_surjective (lexBefore r) e
    have hj : j ≠ 0 := by rintro rfl; exact he h0
    have h1 : (1 : Fin 16) ≤ j := by omega
    rcases eq_or_lt_of_le h1 with h | h
    · subst h; exact .inr ⟨rfl, le_rfl⟩
    · exact sorted_lex r h
  have t : r (sortedFrom (lexBefore r) 1) = top (rest r) := by
    apply le_antisymm
    · rw [← rest_ne ne]; exact le_top' _ _
    · refine top_le fun e => ?_
      by_cases he : e = arg r
      · rw [he, rest_arg]; exact bot_le
      · rw [rest_ne he]; exact (key e he).elim le_of_lt fun z => z.1.le
  refine ⟨h0, t, fun hb => arg_unique (by rw [rest_ne ne]; exact t) fun e he => ?_⟩
  have he' : e ≠ arg r := by rintro rfl; rw [rest_arg] at he; exact hb he.symm
  rw [rest_ne he'] at he
  rcases key e he' with h | h
  · exact absurd h (by rw [he, t]; exact lt_irrefl _)
  · exact h.2

theorem gt_eq_one (a b : EReal) : (FloatOps.cmpfTotal (F := Ideal) (φ := .f32) .gt a b == 1#1) = true ↔ b < a := by
  rw [beq_iff_eq]
  rw [Ideal.cmpfTotal_def]
  simp [Ideal.cmp, CmpDirection.ordered, ofBool_eq_one]

/-- The place a row's stable descending sort brings to position `j`. -/
def srt (r : Fin 16 → EReal) (j : Fin 2) : Fin 16 :=
  sortedFrom (fun k k' => FloatOps.cmpfTotal (F := Ideal) (φ := .f32) .gt (r k) (r k') == 1#1) ⟨j.val, by omega⟩

theorem srt_zero (r : Fin 16 → EReal) : srt r 0 = arg r := (sorted_front r _ fun a b => gt_eq_one _ _).1
theorem srt_one (r : Fin 16 → EReal) : r (srt r 1) = top (rest r) := (sorted_front r _ fun a b => gt_eq_one _ _).2.1
theorem srt_one_of {r : Fin 16 → EReal} (h : top (rest r) ≠ ⊥) : srt r 1 = arg (rest r) := (sorted_front r _ fun a b => gt_eq_one _ _).2.2 h

section

variable (A : (⟨3, ![4, 2048, 16]⟩ : Shape).Idx → EReal)
    (hs : (⟨3, ![4, 2048, 16]⟩ : Shape).Slices (fun _ => 0) ⟨3, ![4, 2048, 2]⟩) (r : Fin 16 → EReal) (b : Fin 4) (n : Fin 2048)

theorem along_ix3 (i k : Fin 16) : (ix3 b n i : (⟨3, ![4, 2048, 16]⟩ : Shape).Idx).along 2 k = ix3 b n k := by
  funext d
  fin_cases d <;> rfl

theorem cmp_along (hr : ∀ e, A (ix3 b n e) = r e) (i : Fin 16) :
    (fun k k' : Fin 16 => FloatOps.cmpfTotal (F := Ideal) (φ := .f32) .gt
      (A ((ix3 b n i : (⟨3, ![4, 2048, 16]⟩ : Shape).Idx).along 2 k)) (A ((ix3 b n i : (⟨3, ![4, 2048, 16]⟩ : Shape).Idx).along 2 k')) == 1#1)
      = fun k k' : Fin 16 => FloatOps.cmpfTotal (F := Ideal) (φ := .f32) .gt (r k) (r k') == 1#1 := by
  funext k k'
  rw [along_ix3, along_ix3, hr, hr]

theorem slice_ix3 (j : Fin 2) (q : (⟨3, ![4, 2048, 16]⟩ : Shape).Idx)
    (h : ∀ a, (q a).val = 0 + ((ix3 b n j : (⟨3, ![4, 2048, 2]⟩ : Shape).Idx) a).val) : q = ix3 b n ⟨j.val, by omega⟩ := by
  funext d
  fin_cases d <;> exact Fin.ext ((h _).trans (Nat.zero_add _))

theorem slice_at {α : Type} (X : (⟨3, ![4, 2048, 16]⟩ : Shape).Idx → α) (j : Fin 2) :
    extractStridedSlice ⟨3, ![4, 2048, 2]⟩ (fun _ => 0) X hs (ix3 b n j) = X (ix3 b n ⟨j.val, by omega⟩) :=
  congrArg X (slice_ix3 b n j _ fun _ => rfl)

/-- The values the top-2 operation returns. -/
theorem topK_values (hr : ∀ e, A (ix3 b n e) = r e) (j : Fin 2) :
    (Host.topK ⟨3, ![4, 2048, 2]⟩ 2 (FloatOps.cmpfTotal (F := Ideal) (φ := .f32) .gt) A hs).1 (ix3 b n j) = r (srt r j) := by
  unfold Host.topK
  dsimp only
  refine (slice_at hs b n _ j).trans ?_
  unfold Host.sort2
  rw [dif_pos (by decide)]
  refine (congrArg A (along_ix3 b n _ _)).trans ((hr _).trans ?_)
  exact congrArg (fun f => r (sortedFrom f _)) (cmp_along A r b n hr _)

/-- The places the top-2 operation returns. -/
theorem topK_places (hr : ∀ e, A (ix3 b n e) = r e) (j : Fin 2) :
    (Host.topK ⟨3, ![4, 2048, 2]⟩ 2 (FloatOps.cmpfTotal (F := Ideal) (φ := .f32) .gt) A hs).2 (ix3 b n j) = BitVec.ofNat 32 (srt r j) := by
  unfold Host.topK
  dsimp only
  refine (slice_at hs b n _ j).trans ?_
  unfold Host.sort2
  rw [dif_pos (by decide)]
  refine congrArg (BitVec.ofNat 32) ?_
  refine (congrArg (fun q : (⟨3, ![4, 2048, 16]⟩ : Shape).Idx => (q 2).val) (along_ix3 b n _ _)).trans ?_
  exact congrArg (fun f => (sortedFrom f _).val) (cmp_along A r b n hr _)

end

end Cert.Hand
end
-- ==== Proof.RefGates.lean ====
module

public import proofs.«01_k».proof.Proof.RefRun
public import proofs.«01_k».proof.Proof.Spec
public import proofs.«01_k».proof.Proof.Top

@[expose] public section

set_option maxRecDepth 16384
set_option maxHeartbeats 4000000

noncomputable section

/-! What the reference's operations compute, entry by entry: the softmax, the two largest entries of a row, the gates. -/

namespace Cert.ReferenceIdeal.Hand

open Idealize.ShloMosaic Idealize.ShloMosaic.TcCoe
open Idealize.ShloMosaic.StableHlo
open Idealize.SL Idealize.SL.Sem
open Cert.ReferenceIdeal Cert.ReferenceIdeal.Facts₀ Cert.Hand

theorem div_real (a : EReal) {c : ℝ} (hc : 0 < c) : Ideal.div a (c : EReal) = a * ((c⁻¹ : ℝ) : EReal) := by
  unfold Ideal.div
  rw [if_neg (by exact_mod_cast hc.ne'), EReal.coe_inv]

/-- A nonnegative real factor comes out of a sum. -/
theorem sum_mul_real {ι : Type} (s : Finset ι) (f : ι → EReal) {c : ℝ} (hc : 0 ≤ c) : (∑ i ∈ s, f i) * (c : EReal) = ∑ i ∈ s, f i * (c : EReal) := by
  classical
  induction s using Finset.induction_on with
  | empty => simp
  | insert a s ha ih => rw [Finset.sum_insert ha, Finset.sum_insert ha, ← ih, EReal.right_distrib_of_nonneg_of_ne_top (by exact_mod_cast hc) (EReal.coe_ne_top c)]

theorem ofBits_2048 : Ideal.ofBits .f32 0x45000000#32 = ((2048 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_m20 : Ideal.ofBits .f32 0x35800000#32 = (((2 : ℝ) ^ (-20 : ℤ) : ℝ) : EReal) := by
  simp [Ideal.ofBits, Ideal.ieee, -EReal.coe_mul]; norm_num
theorem ofBits_4 : Ideal.ofBits .f32 0x40800000#32 = ((4 : ℝ) : EReal) := by
  simp [Ideal.ofBits, Ideal.ieee, -EReal.coe_mul]; norm_num
theorem ofBits_quarter : Ideal.ofBits .f32 0x3E800000#32 = ((4⁻¹ : ℝ) : EReal) := by
  simp [Ideal.ofBits, Ideal.ieee, -EReal.coe_mul]; norm_num

theorem zSum_batches (x : Fin 4 → Fin 2048 → Fin 4096 → EReal) (k : Fin 4096 → Fin 16 → EReal) (B : ℕ) :
    zSum x k (2048 * B) = ∑ b ∈ Finset.range B, ∑ n ∈ Finset.range 2048, lse (lg x k b n) := by
  induction B with
  | zero => rfl
  | succ B ih =>
    unfold zSum at *
    rw [Nat.mul_succ, Finset.sum_range_add, ih, Finset.sum_range_succ (fun b => ∑ n ∈ Finset.range 2048, lse (lg x k b n)) B]
    refine congrArg (fun q : EReal => (∑ b ∈ Finset.range B, ∑ n ∈ Finset.range 2048, lse (lg x k b n)) + q) (Finset.sum_congr rfl fun n hn => ?_)
    rw [lg_skip]
    have := Finset.mem_range.1 hn
    rw [show (2048 * B + n) / 2048 = B by omega]

/-- A buffer among contents. -/
abbrev at_ (w : Valuation τ sig (Elt Ideal)) (r : Ref sig .tc) : r.ty.Contents (Elt Ideal) := w (Proc.devRef .tc r)

section Values

variable (w : Valuation τ sig (Elt Ideal))
variable (x : Fin 4 → Fin 2048 → Fin 4096 → EReal) (k : Fin 4096 → Fin 16 → EReal)

/-- The contents hold the logits. -/
def HasLogits : Prop := ∀ (b : Fin 4) (n : Fin 2048) (e : Fin 16), (at_ w main_v0 : S4x2048x16.Idx → EReal) (ix3 b n e) = lg x k b n e
/-- The contents hold the softmax. -/
def HasSoftmax : Prop := ∀ (b : Fin 4) (n : Fin 2048) (e : Fin 16), (at_ w main_v11 : S4x2048x16.Idx → EReal) (ix3 b n e) = sm (lg x k b n) e

theorem lg_fin (b : Fin 4) (n : Fin 2048) (e : Fin 16) : lg x k b n e = ∑ d : Fin 4096, x b n d * k d e := by
  unfold lg
  refine Finset.sum_congr rfl fun d _ => ?_
  congr 2 <;> apply Fin.ext <;> simp only <;> omega

theorem has_logits (h : (opsSoftmax : List (HloOp _ _ (Elt Ideal))).Forall (Fix w))
    (hx : ∀ (b : Fin 4) (n : Fin 2048) (d : Fin 4096), (at_ w main_arg0 : S4x2048x4096.Idx → EReal) (ix3 b n d) = x b n d)
    (hk : ∀ (d : Fin 4096) (e : Fin 16), (at_ w main_arg1 : S4096x16.Idx → EReal) (ix2 d e) = k d e) : HasLogits w x k := by
  intro b n e
  obtain ⟨h0, -⟩ := h
  refine (congrFun (fix_binary h0) (ix3 b n e)).trans ?_
  rw [lg_fin]
  unfold at_ at hx hk
  generalize w (Proc.devRef .tc main_arg0) = A at hx ⊢
  generalize w (Proc.devRef .tc main_arg1) = B at hk ⊢
  change S4x2048x4096.Idx → EReal at A
  change S4096x16.Idx → EReal at B
  pointwise [hx, hk]

theorem has_softmax (h : (opsSoftmax : List (HloOp _ _ (Elt Ideal))).Forall (Fix w)) (hl : HasLogits w x k) : HasSoftmax w x k := by
  intro b n e
  obtain ⟨-, h1, h2, h3, h4, h5, h6, h7, h8, h9, h10, h11, h12, h13, h14⟩ := h
  have e2 := fix_binary h2
  have e5 := fix_binary h5
  have e7 := fix_unary h7
  have e8 := fix_binary h8
  have e9 := fix_unary h9
  have e11 := fix_binary h11
  have e13 := fix_unary h13
  have e14 := fix_binary h14
  rw [fix_nullary h1] at e2
  rw [fix_unary h4, fix_nullary h3, e2] at e5
  rw [fix_unary h6, e5] at e7
  rw [e7] at e8
  rw [e8] at e9
  rw [fix_nullary h10] at e11
  rw [fix_unary h12, e11] at e13
  rw [e13, e9] at e14
  refine (congrFun e14 (ix3 b n e)).trans ?_
  generalize hA : w (Proc.devRef .tc main_v0) = A
  replace hl : ∀ (b : Fin 4) (n : Fin 2048) (e : Fin 16), (A : S4x2048x16.Idx → EReal) (ix3 b n e) = lg x k b n e := fun b n e => by rw [← hA]; exact hl b n e
  clear hA
  change S4x2048x16.Idx → EReal at A
  pointwise [hl, ofBits_neg_inf]
  rw [max_eq_right bot_le]
  rfl

/-- The four values read off a row's two largest entries. -/
theorem has_top (h : (opsTop : List (HloOp _ _ (Elt Ideal))).Forall (Fix w)) (hs : HasSoftmax w x k) (b : Fin 4) (n : Fin 2048) :
    (at_ w main_v13 : S4x2048.Idx → EReal) (ix2 b n) = top (sm (lg x k b n))
      ∧ (at_ w main_v15 : S4x2048.Idx → EReal) (ix2 b n) = top (rest (sm (lg x k b n)))
      ∧ (at_ w main_v17 : S4x2048.Idx → BitVec 32) (ix2 b n) = BitVec.ofNat 32 (arg (sm (lg x k b n)))
      ∧ (at_ w main_v19 : S4x2048.Idx → BitVec 32) (ix2 b n) = BitVec.ofNat 32 (srt (sm (lg x k b n)) 1) := by
  obtain ⟨h0, h1, h2, h3, h4, h5, h6, h7, h8, h9⟩ := h
  have hv : ∀ j : Fin 2, (at_ w main_values : S4x2048x2.Idx → EReal) (ix3 b n j) = sm (lg x k b n) (srt (sm (lg x k b n)) j) := fun j =>
    (congrFun (fix_unary h0) (ix3 b n j)).trans (topK_values _ _ _ b n (hs b n) j)
  have hi : ∀ j : Fin 2, (at_ w main_indices : S4x2048x2.Idx → BitVec 32) (ix3 b n j) = BitVec.ofNat 32 (srt (sm (lg x k b n)) j) := fun j =>
    (congrFun (fix_unary h1) (ix3 b n j)).trans (topK_places _ _ _ b n (hs b n) j)
  have v0 := (hv 0).trans ((congrArg _ (srt_zero _)).trans (arg_eq _))
  have v1 := (hv 1).trans (srt_one _)
  have i0 := (hi 0).trans (congrArg (fun q : Fin 16 => BitVec.ofNat 32 q.val) (srt_zero _))
  have i1 := hi 1
  have e3 := fix_reshape h3
  have e5 := fix_reshape h5
  have e7 := fix_reshape h7
  have e9 := fix_reshape (List.forall_cons _ _ _ |>.1 h9).1
  rw [fix_unary h2] at e3
  rw [fix_unary h4] at e5
  rw [fix_unary h6] at e7
  rw [fix_unary h8] at e9
  unfold at_ at v0 v1 i0 i1
  generalize w (Proc.devRef .tc main_values) = A at v0 v1 e3 e5
  generalize w (Proc.devRef .tc main_indices) = B at i0 i1 e7 e9
  change S4x2048x2.Idx → EReal at A
  change S4x2048x2.Idx → BitVec 32 at B
  refine ⟨(congrFun e3 (ix2 b n)).trans ?_, (congrFun e5 (ix2 b n)).trans ?_, (congrFun e7 (ix2 b n)).trans ?_, (congrFun e9 (ix2 b n)).trans ?_⟩
  · show shapeCast S4x2048 _ _ (ix2 b n) = _
    pointwise [v0]
  · show shapeCast S4x2048 _ _ (ix2 b n) = _
    pointwise [v1]
  · show shapeCast S4x2048 _ _ (ix2 b n) = _
    pointwise [i0]
  · show shapeCast S4x2048 _ _ (ix2 b n) = _
    pointwise [i1]

/-- The one-hot functions, entry by entry. -/
theorem oneHot_read (V : S4x2048.Idx → BitVec 32) (b : Fin 4) (n : Fin 2048) (e : Fin 16) :
    (uitofp (F := Ideal) .f32 (cmpi .eq (broadcastInDim S4x2048x16 ![0, 1, 2] bcast_S4x2048x1_S4x2048x16_0_1_2 (broadcastInDim S4x2048x1 ![0, 1] bcast_S4x2048_S4x2048x1_0_1 V))
      (broadcastInDim S4x2048x16 ![0, 1, 2] bcast_S1x1x16_S4x2048x16_0_1_2 (iotaInDim S1x1x16 32 2))) : S4x2048x16.Idx → EReal) (ix3 b n e)
      = ind (V (ix2 b n) = BitVec.ofNat 32 e) := by
  rw [← ind_congr (cmpi_eq_one _ _), ← uitofp_bit]
  pointwise

theorem oneHotPos_read (V : S4x2048.Idx → BitVec 32) (b : Fin 4) (n : Fin 2048) (e : Fin 160) :
    (uitofp (F := Ideal) .f32 (cmpi .eq (broadcastInDim S4x2048x160 ![0, 1, 2] bcast_S4x2048x1_S4x2048x160_0_1_2 (broadcastInDim S4x2048x1 ![0, 1] bcast_S4x2048_S4x2048x1_0_1 V))
      (broadcastInDim S4x2048x160 ![0, 1, 2] bcast_S1x1x160_S4x2048x160_0_1_2 (iotaInDim S1x1x160 32 2))) : S4x2048x160.Idx → EReal) (ix3 b n e)
      = ind (V (ix2 b n) = BitVec.ofNat 32 e) := by
  rw [← ind_congr (cmpi_eq_one _ _), ← uitofp_bit]
  pointwise

theorem mask_v20 (h : (oneHotOps (.of main_v17) main_call0 : List (HloOp _ _ (Elt Ideal))).Forall (Fix w)) (b : Fin 4) (n : Fin 2048) (e : Fin 16) :
    (at_ w main_v20 : S4x2048x16.Idx → EReal) (ix3 b n e) = ind ((at_ w main_v17 : S4x2048.Idx → BitVec 32) (ix2 b n) = BitVec.ofNat 32 e) := by
  obtain ⟨h0, h1, h2, h3, h4, h5⟩ := h
  have e4 := fix_binary h4
  have e5 := fix_unary (List.forall_cons _ _ _ |>.1 h5).1
  rw [fix_unary h2, fix_unary h0, fix_unary h3, fix_nullary h1] at e4
  rw [e4] at e5
  exact (congrFun e5 (ix3 b n e)).trans (oneHot_read _ b n e)

theorem mask_v21 (h : (oneHotOps (.of main_v19) main_call1 : List (HloOp _ _ (Elt Ideal))).Forall (Fix w)) (b : Fin 4) (n : Fin 2048) (e : Fin 16) :
    (at_ w main_v21 : S4x2048x16.Idx → EReal) (ix3 b n e) = ind ((at_ w main_v19 : S4x2048.Idx → BitVec 32) (ix2 b n) = BitVec.ofNat 32 e) := by
  obtain ⟨h0, h1, h2, h3, h4, h5⟩ := h
  have e4 := fix_binary h4
  have e5 := fix_unary (List.forall_cons _ _ _ |>.1 h5).1
  rw [fix_unary h2, fix_unary h0, fix_unary h3, fix_nullary h1] at e4
  rw [e4] at e5
  exact (congrFun e5 (ix3 b n e)).trans (oneHot_read _ b n e)

/-- The two gates. -/
theorem has_gates (h : (opsGates : List (HloOp _ _ (Elt Ideal))).Forall (Fix w)) (b : Fin 4) (n : Fin 2048) (r : Fin 16 → EReal)
    (h13 : (at_ w main_v13 : S4x2048.Idx → EReal) (ix2 b n) = top r) (h15 : (at_ w main_v15 : S4x2048.Idx → EReal) (ix2 b n) = top (rest r)) :
    (at_ w main_v25 : S4x2048.Idx → EReal) (ix2 b n) = gate1 r ∧ (at_ w main_v26 : S4x2048.Idx → EReal) (ix2 b n) = gate2 r := by
  obtain ⟨h0, h1, h2, h3, h4, h5, -⟩ := h
  have e3 := fix_binary h3
  have e4 := fix_binary h4
  have e5 := fix_binary h5
  rw [fix_binary h0, fix_unary h2, fix_nullary h1] at e3
  rw [e3] at e4 e5
  unfold at_ at h13 h15
  generalize w (Proc.devRef .tc main_v13) = A at h13 e4 e5
  generalize w (Proc.devRef .tc main_v15) = B at h15 e4 e5
  change S4x2048.Idx → EReal at A
  change S4x2048.Idx → EReal at B
  refine ⟨(congrFun e4 (ix2 b n)).trans ?_, (congrFun e5 (ix2 b n)).trans ?_⟩
  · pointwise [h13, h15]
    rfl
  · pointwise [h13, h15]
    rfl

/-- The balance loss. -/
theorem has_balance (h : (opsGates : List (HloOp _ _ (Elt Ideal))).Forall (Fix w)) (hs : HasSoftmax w x k)
    (hm : ∀ (b : Fin 4) (n : Fin 2048) (e : Fin 16), (at_ w main_v20 : S4x2048x16.Idx → EReal) (ix3 b n e) = ind (e = ex1 (lg x k b) n)) :
    (at_ w main_v36 : S_.Idx → EReal) ix0 = balSum x k 4 * Ideal.ofBits .f32 0x35800000#32 := by
  obtain ⟨-, -, -, -, -, -, h0, h1, h2, h3, h4, h5, h6, h7, h8, h9, h10, h11, h12, h13, h14, h15, h16⟩ := h
  have e1 := fix_binary h1
  have e4 := fix_binary h4
  have e6 := fix_binary h6
  have e9 := fix_binary h9
  have e10 := fix_binary h10
  have e12 := fix_binary h12
  have e14 := fix_binary h14
  have e16 := fix_binary (List.forall_cons _ _ _ |>.1 h16).1
  rw [fix_nullary h0] at e1
  rw [e1, fix_unary h3, fix_nullary h2] at e4
  rw [fix_nullary h5] at e6
  rw [e6, fix_unary h8, fix_nullary h7] at e9
  rw [e9, e4] at e10
  rw [e10, fix_nullary h11] at e12
  rw [e12, fix_nullary h13] at e14
  rw [e14, fix_nullary h15] at e16
  refine (congrFun e16 ix0).trans ?_
  unfold HasSoftmax at hs
  unfold at_ at hs hm
  generalize w (Proc.devRef .tc main_v11) = A at hs ⊢
  generalize w (Proc.devRef .tc main_v20) = B at hm ⊢
  change S4x2048x16.Idx → EReal at A
  change S4x2048x16.Idx → EReal at B
  pointwise [hs, hm]
  rw [ofBits_2048, ofBits_64, ofBits_256, ofBits_m20]
  simp only [div_real _ (show (0 : ℝ) < 2048 by norm_num), div_real _ (show (0 : ℝ) < 64 by norm_num)]
  unfold balSum share
  rw [Finset.sum_range fun b => ∑ e : Fin 16, (∑ n ∈ Finset.range 2048, sm (lg x k b n) e) * (num1 (lg x k b) e 2048 : EReal)]
  have e : ∀ (b : Fin 4) (e : Fin 16), (∑ n : Fin 2048, sm (lg x k b n) e) * ((2048⁻¹ : ℝ) : EReal)
        * ((∑ n : Fin 2048, ind (e = ex1 (lg x k b) n)) * ((2048⁻¹ : ℝ) : EReal))
      = ((∑ n ∈ Finset.range 2048, sm (lg x k b n) e) * (num1 (lg x k b) e 2048 : EReal)) * ((2048⁻¹ * 2048⁻¹ : ℝ) : EReal) := by
    intro b e
    rw [sum_ind (fun n => e = ex1 (lg x k b) n), mul_mul_mul_comm, ← EReal.coe_mul, Finset.sum_range]
    rfl
  simp only [e, ← sum_mul_real _ _ (show (0 : ℝ) ≤ 2048⁻¹ * 2048⁻¹ by norm_num)]
  rw [mul_assoc, mul_assoc, ← EReal.coe_mul, ← EReal.coe_mul]
  congr 2
  norm_num

/-- The router's loss. -/
theorem has_router (h : (opsRouter : List (HloOp _ _ (Elt Ideal))).Forall (Fix w)) (hl : HasLogits w x k) :
    (at_ w main_v118 : S_.Idx → EReal) ix0 = zSum x k 8192 * Ideal.ofBits .f32 0x3E800000#32 := by
  obtain ⟨h0, h1, h2, h3, h4, h5, h6, h7, h8, h9, h10, h11, h12, h13, h14, h15⟩ := h
  have e1 := fix_binary h1
  have e3 := fix_unary h3
  have e5 := fix_unary h5
  have e7 := fix_binary h7
  have e8 := fix_unary h8
  have e9 := fix_binary h9
  have e11 := fix_binary h11
  have e13 := fix_binary h13
  have e15 := fix_binary (List.forall_cons _ _ _ |>.1 h15).1
  rw [fix_nullary h0] at e1
  rw [fix_unary h2] at e3
  rw [fix_binary h4, e3] at e5
  rw [e5, fix_nullary h6] at e7
  rw [e7] at e8
  rw [e8] at e9
  rw [e9, fix_nullary h10] at e11
  rw [e11, fix_nullary h12] at e13
  rw [e13, fix_nullary h14, e1] at e15
  refine (congrFun e15 ix0).trans ?_
  unfold HasLogits at hl
  unfold at_ at hl
  generalize w (Proc.devRef .tc main_v0) = A at hl ⊢
  change S4x2048x16.Idx → EReal at A
  pointwise [hl, ofBits_neg_inf]
  rw [show 8192 = 2048 * 4 from rfl, zSum_batches, Finset.sum_range]
  simp only [Finset.sum_range]
  rw [ofBits_quarter, ofBits_4, div_real _ (by norm_num)]
  rfl

end Values

end Cert.ReferenceIdeal.Hand
end
-- ==== Proof.Running.lean ====
module

public import proofs.«01_k».proof.Proof.Spec
public import Idealize.ShloMosaic.Lib.Pointwise

@[expose] public section

set_option maxRecDepth 16384
set_option maxHeartbeats 4000000

noncomputable section

/-! The running sum over the tokens. -/

namespace Cert.Hand

open Idealize.ShloMosaic

theorem foldl_sum {n : ℕ} (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- A window of 2048 that ends at `n` sums what stands up to `n`. -/
theorem sum_window (f : ℕ → EReal) {n : ℕ} (hn : n < 2048) :
    ∑ t : Fin 2048, (if 2047 ≤ n + t.val then f (n + t.val - 2047) else 0) = ∑ k ∈ Finset.range (n + 1), f k := by
  rw [← Finset.sum_range fun t => if 2047 ≤ n + t then f (n + t - 2047) else 0]
  rw [show 2048 = (2047 - n) + (n + 1) by omega, Finset.sum_range_add, Finset.sum_eq_zero, zero_add]
  · refine Finset.sum_congr rfl fun k hk => ?_
    have := Finset.mem_range.1 hk
    rw [if_pos (by omega)]
    congr 1
    omega
  · intro t ht
    have := Finset.mem_range.1 ht
    rw [if_neg (by omega)]

/-- The running sum of an array, entry by entry. -/
theorem cumsum_read (A : (⟨3, ![4, 2048, 16]⟩ : Shape).Idx → EReal) (init : (⟨0, ![]⟩ : Shape).Idx → EReal) (hi : ∀ i, init i = 0)
    (h : (⟨3, ![4, 2048, 16]⟩ : Shape).ReduceWindows ![1, 2048, 1] ![1, 1, 1] ![0, 2047, 0] ![0, 0, 0] ⟨3, ![4, 2048, 16]⟩) (hu)
    (f : ℕ → EReal) (b : Fin 4) (n : Fin 2048) (e : Fin 16) (hf : ∀ k : Fin 2048, A (ix3 b k e) = f k) :
    (Host.reduceWindowAdd (F := Ideal) (φ := .f32) ![1, 2048, 1] ![1, 1, 1] ![0, 2047, 0] ![0, 0, 0] A init h hu : (⟨3, ![4, 2048, 16]⟩ : Shape).Idx → EReal) (ix3 b n e)
      = ∑ k ∈ Finset.range (n.val + 1), f k := by
  unfold Host.reduceWindowAdd
  rw [Ideal.hostReduceWindowAdd_def, hi]
  unfold Ideal.hostReduceWindowAdd Host.reduceWindow
  dsimp only
  rw [foldl_sum, zero_add, ← sum_window f n.isLt]
  refine (Finset.sum_congr rfl fun i _ => ?_).trans ((Equiv.sum_comp (Shape.rowMajor (⟨3, ![1, 2048, 1]⟩ : Shape)).symm
    (fun q : (⟨3, ![1, 2048, 1]⟩ : Shape).Idx => if 2047 ≤ n.val + (q 1).val then f (n + (q 1).val - 2047) else 0)).trans ?_)
  · have q0 : ((Shape.rowMajor (⟨3, ![1, 2048, 1]⟩ : Shape)).symm i 0).val < 1 := ((Shape.rowMajor (⟨3, ![1, 2048, 1]⟩ : Shape)).symm i 0).isLt
    have q1 : ((Shape.rowMajor (⟨3, ![1, 2048, 1]⟩ : Shape)).symm i 1).val < 2048 := ((Shape.rowMajor (⟨3, ![1, 2048, 1]⟩ : Shape)).symm i 1).isLt
    have q2 : ((Shape.rowMajor (⟨3, ![1, 2048, 1]⟩ : Shape)).symm i 2).val < 1 := ((Shape.rowMajor (⟨3, ![1, 2048, 1]⟩ : Shape)).symm i 2).isLt
    have hb := b.isLt
    have he := e.isLt
    have hn := n.isLt
    split_ifs with h1 h2 h2
    · refine (congrArg A (?_ : _ = ix3 b ⟨n.val + ((Shape.rowMajor (⟨3, ![1, 2048, 1]⟩ : Shape)).symm i 1).val - 2047, by omega⟩ e)).trans (hf _)
      funext d
      fin_cases d
      · exact Fin.ext (show b.val * 1 + ((Shape.rowMajor (⟨3, ![1, 2048, 1]⟩ : Shape)).symm i 0).val - 0 = b.val by omega)
      · exact Fin.ext (show n.val * 1 + ((Shape.rowMajor (⟨3, ![1, 2048, 1]⟩ : Shape)).symm i 1).val - 2047 = n.val + ((Shape.rowMajor (⟨3, ![1, 2048, 1]⟩ : Shape)).symm i 1).val - 2047 by omega)
      · exact Fin.ext (show e.val * 1 + ((Shape.rowMajor (⟨3, ![1, 2048, 1]⟩ : Shape)).symm i 2).val - 0 = e.val by omega)
    · exact absurd (show 2047 ≤ n.val + ((Shape.rowMajor (⟨3, ![1, 2048, 1]⟩ : Shape)).symm i 1).val by have := (h1 1).1; change 2047 ≤ n.val * 1 + ((Shape.rowMajor (⟨3, ![1, 2048, 1]⟩ : Shape)).symm i 1).val at this; omega) h2
    · refine absurd (fun d => ?_) h1
      change 2047 ≤ n.val + ((Shape.rowMajor (⟨3, ![1, 2048, 1]⟩ : Shape)).symm i 1).val at h2
      fin_cases d
      · show 0 ≤ b.val * 1 + ((Shape.rowMajor (⟨3, ![1, 2048, 1]⟩ : Shape)).symm i 0).val ∧ b.val * 1 + ((Shape.rowMajor (⟨3, ![1, 2048, 1]⟩ : Shape)).symm i 0).val - 0 < 4
        omega
      · show 2047 ≤ n.val * 1 + ((Shape.rowMajor (⟨3, ![1, 2048, 1]⟩ : Shape)).symm i 1).val ∧ n.val * 1 + ((Shape.rowMajor (⟨3, ![1, 2048, 1]⟩ : Shape)).symm i 1).val - 2047 < 2048
        omega
      · show 0 ≤ e.val * 1 + ((Shape.rowMajor (⟨3, ![1, 2048, 1]⟩ : Shape)).symm i 2).val ∧ e.val * 1 + ((Shape.rowMajor (⟨3, ![1, 2048, 1]⟩ : Shape)).symm i 2).val - 0 < 16
        omega
    · rfl
  · rw [sum_idx3, Fin.sum_univ_one]
    refine Finset.sum_congr rfl fun t _ => ?_
    rw [Fin.sum_univ_one]
    rfl

/-! ### Counts, places and fractions -/

theorem olt_ind (a b : EReal) : FloatOps.uitofp (F := Ideal) .f32 (Ideal.cmp .olt a b) = ind (a < b) := by
  rw [uitofp_bit]
  exact ind_congr (by simp [Ideal.cmp, ofBool_eq_one])

theorem olt_dec (a b : EReal) [Decidable (a < b)] : FloatOps.uitofp (F := Ideal) .f32 (BitVec.ofBool (decide (a < b))) = ind (a < b) := by
  rw [uitofp_bit]
  exact ind_congr (by simp [ofBool_eq_one])

theorem une_ind (a b : EReal) : FloatOps.uitofp (F := Ideal) .f32 (Ideal.cmp .une a b) = ind (a ≠ b) := by
  rw [uitofp_bit]
  exact ind_congr (by simp [Ideal.cmp, ofBool_eq_one])

theorem ne_dec (a b : EReal) [Decidable (a ≠ b)] : FloatOps.uitofp (F := Ideal) .f32 (BitVec.ofBool (decide (a ≠ b))) = ind (a ≠ b) := by
  rw [uitofp_bit]
  exact ind_congr (by simp [ofBool_eq_one])

theorem add_ind_sub (a : EReal) (p : Prop) : a + ind p - ind p = a := by
  by_cases h : p
  · rw [ind_true h]; exact EReal.add_sub_cancel_right (b := 1)
  · rw [ind_false h]; simp

theorem sum_mul_one {n : ℕ} (f : Fin n → EReal) (a : Fin n) : ∑ e, f e * ind (e = a) = f a := by
  have := sum_mul_ind f a True
  simp only [and_true] at this
  rw [this, ind_true trivial, mul_one]

theorem sum_range_ind (h : ℕ → Prop) (n : ℕ) : ∑ k ∈ Finset.range n, ind (h k) = (cnt h n : EReal) := by
  rw [Finset.sum_range fun k => ind (h k)]; exact sum_ind h n

/-- Of the numbers with `h`, at most `c` come before `c` others. -/
theorem cnt_first (h : ℕ → Prop) (c n : ℕ) : cnt (fun k => h k ∧ cnt h k < c) n ≤ min (cnt h n) c := by
  induction n with
  | zero => rw [cnt_zero]; exact Nat.zero_le _
  | succ n ih =>
    have succ_not : ∀ {g : ℕ → Prop}, ¬g n → cnt g (n + 1) = cnt g n := by
      intro g hg
      classical
      unfold cnt
      rw [Nat.count_succ, if_neg hg, add_zero]
    have mono : cnt h n ≤ cnt h (n + 1) := cnt_mono h (Nat.le_succ n)
    by_cases q : h n ∧ cnt h n < c
    · rw [cnt_succ_of (h := fun k => h k ∧ cnt h k < c) q, cnt_succ_of q.1]
      omega
    · rw [succ_not q]
      omega

theorem frac_lt {c m : ℕ} (hm : m < 2048) : (c : EReal) + (((m : ℝ) * 2048⁻¹ : ℝ) : EReal) < ((160 : ℕ) : EReal) ↔ c < 160 := by
  rw [show (c : EReal) = ((c : ℝ) : EReal) by norm_cast, show ((160 : ℕ) : EReal) = ((160 : ℝ) : EReal) by norm_cast, ← EReal.coe_add, EReal.coe_lt_coe_iff]
  have h : (m : ℝ) < 2048 := by exact_mod_cast hm
  have h0 : (0 : ℝ) ≤ m := Nat.cast_nonneg m
  constructor
  · intro k
    have : (c : ℝ) < 160 := by linarith
    exact_mod_cast this
  · intro k
    have : (c : ℝ) + 1 ≤ 160 := by exact_mod_cast k
    linarith

theorem fptosi_frac {c m : ℕ} (hm : m < 2048) (hc : c < 2 ^ 31) :
    Ideal.fptosi 32 ((c : EReal) + (((m : ℝ) * 2048⁻¹ : ℝ) : EReal)) = BitVec.ofNat 32 c := by
  have h : (m : ℝ) < 2048 := by exact_mod_cast hm
  have h0 : (0 : ℝ) ≤ m := Nat.cast_nonneg m
  rw [show (c : EReal) = ((c : ℝ) : EReal) by norm_cast, ← EReal.coe_add]
  unfold Ideal.fptosi
  have fl : ⌊(c : ℝ) + (m : ℝ) * 2048⁻¹⌋ = (c : ℤ) := by
    rw [Int.floor_eq_iff]
    constructor
    · push_cast; linarith
    · push_cast; linarith
  have e : Ideal.toIntClamped (-(2 ^ (32 - 1) : Nat)) ((2 ^ (32 - 1) : Nat) - 1) (((c : ℝ) + (m : ℝ) * 2048⁻¹ : ℝ) : EReal) = (c : ℤ) := by
    show max _ (min _ (if (0 : ℝ) ≤ (c : ℝ) + (m : ℝ) * 2048⁻¹ then ⌊(c : ℝ) + (m : ℝ) * 2048⁻¹⌋ else _)) = _
    rw [if_pos (by positivity), fl]
    omega
  rw [e, BitVec.ofInt_natCast]

/-- The first choice's weight, from its factors. -/
theorem weight (g : EReal) (i e : Fin 16) (c : ℕ) (p : Fin 160) (K : Prop) :
    g * ind (K ∧ c < 160) * ind (K ∧ c < 160) * ind (e = i) * ind (c = p.val)
      = g * ind (e.val * 160 + p.val = i.val * 160 + c ∧ K ∧ c < 160) := by
  have hp := p.isLt
  rw [mul_assoc g, ind_and, mul_assoc g, ind_and, mul_assoc g, ind_and]
  refine congrArg _ (ind_congr ⟨?_, ?_⟩)
  · rintro ⟨⟨⟨a, -⟩, rfl⟩, q⟩
    exact ⟨by omega, a⟩
  · rintro ⟨q, a⟩
    exact ⟨⟨⟨a, a⟩, Fin.ext (by omega)⟩, by omega⟩

/-- Where the second choice is kept the row has a second largest entry. -/
theorem keep_rest {r : Fin 16 → EReal} {u : EReal} (hu : 0 ≤ u) (h : keep r u) : top (rest r) ≠ ⊥ := by
  intro hb
  refine absurd h (not_lt.2 ?_)
  have g : gate2 r = 0 := by
    unfold gate2 den
    rw [hb, EReal.add_bot, EReal.bot_add]
    simp [Ideal.div]
  rw [g]
  refine le_trans (le_of_eq ?_) hu
  have q : Ideal.ofBits .f32 0x3E4CCCCD#32 ≠ 0 := by
    simp [Ideal.ofBits, Ideal.ieee, -EReal.coe_mul]
  unfold Ideal.div
  rw [if_neg q, zero_mul]

end Cert.Hand
end
-- ==== Proof.RefPlaces.lean ====
module

public import proofs.«01_k».proof.Proof.RefGates
public import proofs.«01_k».proof.Proof.Running

@[expose] public section

set_option maxRecDepth 16384
set_option maxHeartbeats 4000000

noncomputable section

/-! What the reference's operations compute, entry by entry: the masks, the places, the combining weights. -/

namespace Cert.ReferenceIdeal.Hand

open Idealize.ShloMosaic Idealize.ShloMosaic.TcCoe
open Idealize.ShloMosaic.StableHlo
open Idealize.SL Idealize.SL.Sem
open Cert.ReferenceIdeal Cert.ReferenceIdeal.Facts₀ Cert.Hand

section Values

variable (w : Valuation τ sig (Elt Ideal))
variable (l : Fin 4 → ℕ → Fin 16 → EReal) (u : Fin 4 → ℕ → EReal)

/-- The second choices that are kept. -/
theorem has_mask2 (h : (opsMask2 : List (HloOp _ _ (Elt Ideal))).Forall (Fix w)) (b : Fin 4) (n : Fin 2048) (e : Fin 16)
    (h26 : (at_ w main_v26 : S4x2048.Idx → EReal) (ix2 b n) = gate2 (sm (l b n)))
    (h44 : (at_ w main_v44 : S4x2048.Idx → EReal) (ix2 b n) = u b n) (h0 : 0 ≤ u b n)
    (h21 : (at_ w main_v21 : S4x2048x16.Idx → EReal) (ix3 b n e) = ind (e = srt (sm (l b n)) 1)) :
    (at_ w main_v51 : S4x2048x16.Idx → EReal) (ix3 b n e) = ind (e = ex2 (l b) n ∧ kp (l b) (u b) n) := by
  obtain ⟨q0, q1, q2, q3, q4, q5, q6, q7⟩ := h
  have e3 := fix_binary q3
  have e6 := fix_unary q6
  have e7 := fix_binary (List.forall_cons _ _ _ |>.1 q7).1
  rw [fix_binary q2, fix_unary q1, fix_nullary q0] at e3
  rw [fix_unary q5, fix_unary q4, e3] at e6
  rw [e6] at e7
  refine (congrFun e7 (ix3 b n e)).trans ?_
  unfold at_ at h26 h44 h21
  generalize w (Proc.devRef .tc main_v26) = A at h26 ⊢
  generalize w (Proc.devRef .tc main_v44) = B at h44 ⊢
  generalize w (Proc.devRef .tc main_v21) = C at h21 ⊢
  change S4x2048.Idx → EReal at A
  change S4x2048.Idx → EReal at B
  change S4x2048x16.Idx → EReal at C
  pointwise [h26, h44, h21, olt_ind]
  rw [olt_dec, ind_and]
  refine ind_congr ⟨fun z => ⟨z.1.trans (srt_one_of (keep_rest h0 z.2)), z.2⟩, fun z => ⟨z.1.trans (srt_one_of (keep_rest h0 z.2)).symm, z.2⟩⟩

theorem zero_read (i : S_.Idx) : (broadcastInDim S_ ![] bcast_S_S_ (constant (F := Ideal) S_ .f32 0x00000000#32) : S_.Idx → EReal) i = 0 := by
  rw [show i = ix0 from funext fun a => Fin.elim0 a]
  pointwise

/-- The running count of the first choices. -/
theorem has_v52 (h : (cumsumOps (.of main_v20) main_call3.call0 : List (HloOp _ _ (Elt Ideal))).Forall (Fix w)) (f : Fin 4 → Fin 16 → ℕ → Prop)
    (hm : ∀ (b : Fin 4) (n : Fin 2048) (e : Fin 16), (at_ w main_v20 : S4x2048x16.Idx → EReal) (ix3 b n e) = ind (f b e n))
    (b : Fin 4) (n : Fin 2048) (e : Fin 16) :
    (at_ w main_v52 : S4x2048x16.Idx → EReal) (ix3 b n e) = (cnt (f b e) n : EReal) + ind (f b e n) := by
  obtain ⟨q0, q1, q2⟩ := h
  have e2 := fix_binary (List.forall_cons _ _ _ |>.1 q2).1
  rw [fix_unary q1, fix_nullary q0] at e2
  refine (congrFun e2 (ix3 b n e)).trans ?_
  rw [← cnt_succ, ← sum_range_ind]
  exact cumsum_read (at_ w main_v20) (broadcastInDim S_ ![] bcast_S_S_ (constant (F := Ideal) S_ .f32 0x00000000#32)) zero_read
    reduceWindows_S4x2048x16_S4x2048x16_w1s1p0_0_w2048s1p2047_0_w1s1p0_0 h_S_ (fun k => ind (f b e k)) b n e fun k => hm b k e

/-- The running count of the kept second choices. -/
theorem has_v66 (h : (cumsumOps (.of main_v51) main_call4.call0 : List (HloOp _ _ (Elt Ideal))).Forall (Fix w)) (f : Fin 4 → Fin 16 → ℕ → Prop)
    (hm : ∀ (b : Fin 4) (n : Fin 2048) (e : Fin 16), (at_ w main_v51 : S4x2048x16.Idx → EReal) (ix3 b n e) = ind (f b e n))
    (b : Fin 4) (n : Fin 2048) (e : Fin 16) :
    (at_ w main_v66 : S4x2048x16.Idx → EReal) (ix3 b n e) = (cnt (f b e) n : EReal) + ind (f b e n) := by
  obtain ⟨q0, q1, q2⟩ := h
  have e2 := fix_binary (List.forall_cons _ _ _ |>.1 q2).1
  rw [fix_unary q1, fix_nullary q0] at e2
  refine (congrFun e2 (ix3 b n e)).trans ?_
  rw [← cnt_succ, ← sum_range_ind]
  exact cumsum_read (at_ w main_v51) (broadcastInDim S_ ![] bcast_S_S_ (constant (F := Ideal) S_ .f32 0x00000000#32)) zero_read
    reduceWindows_S4x2048x16_S4x2048x16_w1s1p0_0_w2048s1p2047_0_w1s1p0_0 h_S_ (fun k => ind (f b e k)) b n e fun k => hm b k e

/-- How many tokens of batch `b` find a place with `e` for first expert. -/
def kept (l : Fin 4 → ℕ → Fin 16 → EReal) (b : Fin 4) (e : Fin 16) : ℕ := cnt (fun n => e = ex1 (l b) n ∧ num1 (l b) e n < 160) 2048

theorem kept_lt (b : Fin 4) (e : Fin 16) : kept l b e < 2048 := by
  have := cnt_first (fun n => e = ex1 (l b) n) 160 2048
  unfold kept num1
  omega

theorem has_pos1 (h : (opsPos1 : List (HloOp _ _ (Elt Ideal))).Forall (Fix w))
    (h20 : ∀ (b : Fin 4) (n : Fin 2048) (e : Fin 16), (at_ w main_v20 : S4x2048x16.Idx → EReal) (ix3 b n e) = ind (e = ex1 (l b) n))
    (h52 : ∀ (b : Fin 4) (n : Fin 2048) (e : Fin 16), (at_ w main_v52 : S4x2048x16.Idx → EReal) (ix3 b n e) = (num1 (l b) e n : EReal) + ind (e = ex1 (l b) n))
    (h25 : ∀ (b : Fin 4) (n : Fin 2048), (at_ w main_v25 : S4x2048.Idx → EReal) (ix2 b n) = gate1 (sm (l b n))) (b : Fin 4) (n : Fin 2048) :
    (at_ w main_v64 : S4x2048.Idx → EReal) (ix2 b n) = (num1 (l b) (ex1 (l b) n) n : EReal)
      ∧ (at_ w main_v63 : S4x2048.Idx → EReal) (ix2 b n) = ind (True ∧ num1 (l b) (ex1 (l b) n) n < 160)
      ∧ (at_ w main_v65 : S4x2048.Idx → EReal) (ix2 b n) = gate1 (sm (l b n)) * ind (True ∧ num1 (l b) (ex1 (l b) n) n < 160)
      ∧ ∀ e : Fin 16, (at_ w main_v62 : S4x1x16.Idx → EReal) (ix3 b 0 e) = (((kept l b e : ℝ) * 2048⁻¹ : ℝ) : EReal) := by
  obtain ⟨q0, q1, q2, q3, q4, q5, q6, q7, q8, q9, q10, q11, q12, q13, q14, q15, q16, q17⟩ := h
  have e1 := fix_binary q1
  have e6 := fix_binary q6
  have e8 := fix_binary q8
  have e12 := fix_binary q12
  have e14 := fix_binary q14
  have e16 := fix_binary q16
  have e17 := fix_binary (List.forall_cons _ _ _ |>.1 q17).1
  rw [fix_binary q0] at e1
  rw [fix_unary q5, fix_binary q4, fix_unary q3, fix_nullary q2] at e6
  rw [fix_nullary q7] at e8
  rw [fix_unary q9, e8, fix_unary q11, fix_nullary q10] at e12
  rw [fix_nullary q13] at e14
  rw [fix_nullary q15] at e16
  have v54 : ∀ (b : Fin 4) (n : Fin 2048) (e : Fin 16), (at_ w main_v54 : S4x2048x16.Idx → EReal) (ix3 b n e) = (num1 (l b) e n : EReal) * ind (e = ex1 (l b) n) := by
    intro b n e
    refine (congrFun e1 (ix3 b n e)).trans ?_
    have h20' := h20 b n e
    have h52' := h52 b n e
    unfold at_ at h20' h52'
    generalize w (Proc.devRef .tc main_v20) = A at h20' ⊢
    generalize w (Proc.devRef .tc main_v52) = B at h52' ⊢
    change S4x2048x16.Idx → EReal at A
    change S4x2048x16.Idx → EReal at B
    pointwise [h20', h52']
    rw [add_ind_sub]
  have v58 : ∀ (b : Fin 4) (n : Fin 2048) (e : Fin 16), (at_ w main_v58 : S4x2048x16.Idx → EReal) (ix3 b n e) = ind (e = ex1 (l b) n ∧ num1 (l b) e n < 160) := by
    intro b n e
    refine (congrFun e6 (ix3 b n e)).trans ?_
    have h20' := h20 b n e
    have h54' := v54 b n e
    unfold at_ at h20' h54'
    generalize w (Proc.devRef .tc main_v20) = A at h20' ⊢
    generalize w (Proc.devRef .tc main_v54) = B at h54' ⊢
    change S4x2048x16.Idx → EReal at A
    change S4x2048x16.Idx → EReal at B
    pointwise [h20', h54', olt_ind, ofBits_160]
    rw [olt_dec, ind_and]
    refine ind_congr (and_congr_right fun z => ?_)
    rw [ind_true z, mul_one, Nat.cast_lt]
  have v64 : (at_ w main_v64 : S4x2048.Idx → EReal) (ix2 b n) = (num1 (l b) (ex1 (l b) n) n : EReal) := by
    refine (congrFun e16 (ix2 b n)).trans ?_
    unfold at_ at v54
    generalize w (Proc.devRef .tc main_v54) = B at v54 ⊢
    change S4x2048x16.Idx → EReal at B
    pointwise [v54]
    exact sum_mul_one (fun e => (num1 (l b) e n : EReal)) _
  have v63 : (at_ w main_v63 : S4x2048.Idx → EReal) (ix2 b n) = ind (True ∧ num1 (l b) (ex1 (l b) n) n < 160) := by
    refine (congrFun e14 (ix2 b n)).trans ?_
    unfold at_ at v58
    generalize w (Proc.devRef .tc main_v58) = B at v58 ⊢
    change S4x2048x16.Idx → EReal at B
    pointwise [v58]
    simp only [← ind_and, mul_comm (ind (_ = ex1 _ _))]
    rw [sum_mul_one (fun e => ind (num1 (l b) e n < 160))]
  refine ⟨v64, v63, ?_, fun e => ?_⟩
  · refine (congrFun e17 (ix2 b n)).trans ?_
    have h25' := h25 b n
    unfold at_ at h25' v63
    generalize w (Proc.devRef .tc main_v25) = A at h25' ⊢
    generalize w (Proc.devRef .tc main_v63) = B at v63 ⊢
    change S4x2048.Idx → EReal at A
    change S4x2048.Idx → EReal at B
    pointwise [h25', v63]
  · refine (congrFun e12 (ix3 b 0 e)).trans ?_
    unfold at_ at v58
    generalize w (Proc.devRef .tc main_v58) = B at v58 ⊢
    change S4x2048x16.Idx → EReal at B
    pointwise [v58, ofBits_2048]
    rw [div_real _ (by norm_num), sum_ind (fun n => e = ex1 (l b) n ∧ num1 (l b) e n < 160)]
    rw [EReal.coe_mul]
    rfl

theorem has_pos2 (h : (opsPos2 : List (HloOp _ _ (Elt Ideal))).Forall (Fix w))
    (h51 : ∀ (b : Fin 4) (n : Fin 2048) (e : Fin 16), (at_ w main_v51 : S4x2048x16.Idx → EReal) (ix3 b n e) = ind (e = ex2 (l b) n ∧ kp (l b) (u b) n))
    (h66 : ∀ (b : Fin 4) (n : Fin 2048) (e : Fin 16), (at_ w main_v66 : S4x2048x16.Idx → EReal) (ix3 b n e) = (num2 (l b) (u b) e n : EReal) + ind (e = ex2 (l b) n ∧ kp (l b) (u b) n))
    (h62 : ∀ (b : Fin 4) (e : Fin 16), (at_ w main_v62 : S4x1x16.Idx → EReal) (ix3 b 0 e) = (((kept l b e : ℝ) * 2048⁻¹ : ℝ) : EReal))
    (h26 : ∀ (b : Fin 4) (n : Fin 2048), (at_ w main_v26 : S4x2048.Idx → EReal) (ix2 b n) = gate2 (sm (l b n))) (b : Fin 4) (n : Fin 2048) :
    (at_ w main_v76 : S4x2048.Idx → EReal) (ix2 b n)
        = ((num2 (l b) (u b) (ex2 (l b) n) n : EReal) + (((kept l b (ex2 (l b) n) : ℝ) * 2048⁻¹ : ℝ) : EReal)) * ind (kp (l b) (u b) n)
      ∧ (at_ w main_v75 : S4x2048.Idx → EReal) (ix2 b n) = ind (kp (l b) (u b) n ∧ num2 (l b) (u b) (ex2 (l b) n) n < 160)
      ∧ (at_ w main_v77 : S4x2048.Idx → EReal) (ix2 b n) = gate2 (sm (l b n)) * ind (kp (l b) (u b) n ∧ num2 (l b) (u b) (ex2 (l b) n) n < 160) := by
  obtain ⟨q0, q1, q2, q3, q4, q5, q6, q7, q8, q9, q10, q11, q12, q13⟩ := h
  have e3 := fix_binary q3
  have e8 := fix_binary q8
  have e10 := fix_binary q10
  have e12 := fix_binary q12
  have e13 := fix_binary (List.forall_cons _ _ _ |>.1 q13).1
  rw [fix_binary q2, fix_binary q0, fix_unary q1] at e3
  rw [fix_unary q7, fix_binary q6, fix_unary q5, fix_nullary q4] at e8
  rw [fix_nullary q9] at e10
  rw [fix_nullary q11] at e12
  have v70 : ∀ (b : Fin 4) (n : Fin 2048) (e : Fin 16), (at_ w main_v70 : S4x2048x16.Idx → EReal) (ix3 b n e)
      = ((num2 (l b) (u b) e n : EReal) + (((kept l b e : ℝ) * 2048⁻¹ : ℝ) : EReal)) * ind (e = ex2 (l b) n ∧ kp (l b) (u b) n) := by
    intro b n e
    refine (congrFun e3 (ix3 b n e)).trans ?_
    have h51' := h51 b n e
    have h66' := h66 b n e
    have h62' := h62 b e
    unfold at_ at h51' h66' h62'
    generalize w (Proc.devRef .tc main_v51) = A at h51' ⊢
    generalize w (Proc.devRef .tc main_v66) = B at h66' ⊢
    generalize w (Proc.devRef .tc main_v62) = C at h62' ⊢
    change S4x2048x16.Idx → EReal at A
    change S4x2048x16.Idx → EReal at B
    change S4x1x16.Idx → EReal at C
    pointwise [h51', h66', h62']
    rw [add_ind_sub]
  have v74 : ∀ (b : Fin 4) (n : Fin 2048) (e : Fin 16), (at_ w main_v74 : S4x2048x16.Idx → EReal) (ix3 b n e)
      = ind (kp (l b) (u b) n ∧ num2 (l b) (u b) e n < 160) * ind (e = ex2 (l b) n) := by
    intro b n e
    refine (congrFun e8 (ix3 b n e)).trans ?_
    have h51' := h51 b n e
    have h70' := v70 b n e
    unfold at_ at h51' h70'
    generalize w (Proc.devRef .tc main_v51) = A at h51' ⊢
    generalize w (Proc.devRef .tc main_v70) = B at h70' ⊢
    change S4x2048x16.Idx → EReal at A
    change S4x2048x16.Idx → EReal at B
    pointwise [h51', h70', olt_ind, ofBits_160]
    rw [olt_dec, ind_and, ind_and]
    refine ind_congr ⟨fun z => ?_, fun z => ?_⟩
    · have := z.2
      rw [ind_true z.1, mul_one, frac_lt (kept_lt l b e)] at this
      exact ⟨⟨z.1.2, this⟩, z.1.1⟩
    · refine ⟨⟨z.2, z.1.1⟩, ?_⟩
      rw [ind_true ⟨z.2, z.1.1⟩, mul_one, frac_lt (kept_lt l b e)]
      exact z.1.2
  have v75 : (at_ w main_v75 : S4x2048.Idx → EReal) (ix2 b n) = ind (kp (l b) (u b) n ∧ num2 (l b) (u b) (ex2 (l b) n) n < 160) := by
    refine (congrFun e10 (ix2 b n)).trans ?_
    unfold at_ at v74
    generalize w (Proc.devRef .tc main_v74) = B at v74 ⊢
    change S4x2048x16.Idx → EReal at B
    pointwise [v74]
    exact sum_mul_one (fun e => ind (kp (l b) (u b) n ∧ num2 (l b) (u b) e n < 160)) _
  refine ⟨?_, v75, ?_⟩
  · refine (congrFun e12 (ix2 b n)).trans ?_
    unfold at_ at v70
    generalize w (Proc.devRef .tc main_v70) = B at v70 ⊢
    change S4x2048x16.Idx → EReal at B
    pointwise [v70]
    exact sum_mul_ind (fun e => (num2 (l b) (u b) e n : EReal) + (((kept l b e : ℝ) * 2048⁻¹ : ℝ) : EReal)) _ _
  · refine (congrFun e13 (ix2 b n)).trans ?_
    have h26' := h26 b n
    unfold at_ at h26' v75
    generalize w (Proc.devRef .tc main_v26) = A at h26' ⊢
    generalize w (Proc.devRef .tc main_v75) = B at v75 ⊢
    change S4x2048.Idx → EReal at A
    change S4x2048.Idx → EReal at B
    pointwise [h26', v75]

theorem mask_v78 (h : (oneHotOps (.of main_v17) main_call5 : List (HloOp _ _ (Elt Ideal))).Forall (Fix w)) (b : Fin 4) (n : Fin 2048) (e : Fin 16) :
    (at_ w main_v78 : S4x2048x16.Idx → EReal) (ix3 b n e) = ind ((at_ w main_v17 : S4x2048.Idx → BitVec 32) (ix2 b n) = BitVec.ofNat 32 e) := by
  obtain ⟨h0, h1, h2, h3, h4, h5⟩ := h
  have e4 := fix_binary h4
  have e5 := fix_unary (List.forall_cons _ _ _ |>.1 h5).1
  rw [fix_unary h2, fix_unary h0, fix_unary h3, fix_nullary h1] at e4
  rw [e4] at e5
  exact (congrFun e5 (ix3 b n e)).trans (oneHot_read _ b n e)

theorem mask_v79 (h : (oneHotOps (.of main_v19) main_call6 : List (HloOp _ _ (Elt Ideal))).Forall (Fix w)) (b : Fin 4) (n : Fin 2048) (e : Fin 16) :
    (at_ w main_v79 : S4x2048x16.Idx → EReal) (ix3 b n e) = ind ((at_ w main_v19 : S4x2048.Idx → BitVec 32) (ix2 b n) = BitVec.ofNat 32 e) := by
  obtain ⟨h0, h1, h2, h3, h4, h5⟩ := h
  have e4 := fix_binary h4
  have e5 := fix_unary (List.forall_cons _ _ _ |>.1 h5).1
  rw [fix_unary h2, fix_unary h0, fix_unary h3, fix_nullary h1] at e4
  rw [e4] at e5
  exact (congrFun e5 (ix3 b n e)).trans (oneHot_read _ b n e)

theorem mask_v81 (h : (oneHotPosOps (.of main_v80) main_call7 : List (HloOp _ _ (Elt Ideal))).Forall (Fix w))
    (h' : (opsPlace1 : List (HloOp _ _ (Elt Ideal))).Forall (Fix w)) (b : Fin 4) (n : Fin 2048) (p : Fin 160) :
    (at_ w main_v81 : S4x2048x160.Idx → EReal) (ix3 b n p) = ind (Ideal.fptosi 32 ((at_ w main_v64 : S4x2048.Idx → EReal) (ix2 b n)) = BitVec.ofNat 32 p) := by
  obtain ⟨h0, h1, h2, h3, h4, h5⟩ := h
  have e4 := fix_binary h4
  have e5 := fix_unary (List.forall_cons _ _ _ |>.1 h5).1
  rw [fix_unary h2, fix_unary h0, fix_unary h3, fix_nullary h1] at e4
  rw [e4] at e5
  refine (congrFun e5 (ix3 b n p)).trans ((oneHotPos_read _ b n p).trans (ind_congr ?_))
  exact iff_of_eq (congrArg (· = BitVec.ofNat 32 p.val) (congrFun (fix_unary (List.forall_cons _ _ _ |>.1 h').1) (ix2 b n)))

theorem mask_v83 (h : (oneHotPosOps (.of main_v82) main_call8 : List (HloOp _ _ (Elt Ideal))).Forall (Fix w))
    (h' : (opsPlace2 : List (HloOp _ _ (Elt Ideal))).Forall (Fix w)) (b : Fin 4) (n : Fin 2048) (p : Fin 160) :
    (at_ w main_v83 : S4x2048x160.Idx → EReal) (ix3 b n p) = ind (Ideal.fptosi 32 ((at_ w main_v76 : S4x2048.Idx → EReal) (ix2 b n)) = BitVec.ofNat 32 p) := by
  obtain ⟨h0, h1, h2, h3, h4, h5⟩ := h
  have e4 := fix_binary h4
  have e5 := fix_unary (List.forall_cons _ _ _ |>.1 h5).1
  rw [fix_unary h2, fix_unary h0, fix_unary h3, fix_nullary h1] at e4
  rw [e4] at e5
  refine (congrFun e5 (ix3 b n p)).trans ((oneHotPos_read _ b n p).trans (ind_congr ?_))
  exact iff_of_eq (congrArg (· = BitVec.ofNat 32 p.val) (congrFun (fix_unary (List.forall_cons _ _ _ |>.1 h').1) (ix2 b n)))

/-- The two weights' factors, multiplied and added, and where the sum is not zero. -/
theorem combine_read (hA : (opsCombineA : List (HloOp _ _ (Elt Ideal))).Forall (Fix w)) (hB : (opsCombineB : List (HloOp _ _ (Elt Ideal))).Forall (Fix w))
    (b : Fin 4) (n : Fin 2048) (e : Fin 16) (p : Fin 160) (a1 b1 c1 d1 a2 b2 c2 d2 : EReal)
    (h65 : (at_ w main_v65 : S4x2048.Idx → EReal) (ix2 b n) = a1) (h63 : (at_ w main_v63 : S4x2048.Idx → EReal) (ix2 b n) = b1)
    (h78 : (at_ w main_v78 : S4x2048x16.Idx → EReal) (ix3 b n e) = c1) (h81 : (at_ w main_v81 : S4x2048x160.Idx → EReal) (ix3 b n p) = d1)
    (h77 : (at_ w main_v77 : S4x2048.Idx → EReal) (ix2 b n) = a2) (h75 : (at_ w main_v75 : S4x2048.Idx → EReal) (ix2 b n) = b2)
    (h79 : (at_ w main_v79 : S4x2048x16.Idx → EReal) (ix3 b n e) = c2) (h83 : (at_ w main_v83 : S4x2048x160.Idx → EReal) (ix3 b n p) = d2) :
    (at_ w main_v104 : S4x2048x16x160.Idx → EReal) (ix4 b n e p) = a1 * b1 * c1 * d1 + a2 * b2 * c2 * d2
      ∧ (at_ w main_v107 : S4x2048x16x160.Idx → EReal) (ix4 b n e p) = ind (a1 * b1 * c1 * d1 + a2 * b2 * c2 * d2 ≠ 0) := by
  obtain ⟨p0, p1, p2, p3, p4, p5, p6, p7, p8⟩ := hA
  obtain ⟨q0, q1, q2, q3, q4, q5, q6, q7, q8, q9, q10, q11, q12, q13, q14, q15⟩ := hB
  have e7 := fix_unary p7
  have e8 := fix_unary (List.forall_cons _ _ _ |>.1 p8).1
  have e0 := fix_binary q0
  have e8' := fix_unary q8
  have e10 := fix_binary q10
  have e11 := fix_binary q11
  have e15 := fix_unary (List.forall_cons _ _ _ |>.1 q15).1
  rw [fix_binary p5, fix_unary p4, fix_binary p2, fix_unary p0, fix_unary p1, fix_unary p3] at e7
  rw [fix_unary p6] at e8
  rw [e7, e8] at e0
  rw [fix_binary q6, fix_unary q5, fix_binary q3, fix_unary q1, fix_unary q2, fix_unary q4] at e8'
  rw [e8', fix_unary q9, fix_unary q7] at e10
  rw [e0, e10] at e11
  rw [fix_binary q14, fix_unary q13, fix_nullary q12] at e15
  have v104 : (at_ w main_v104 : S4x2048x16x160.Idx → EReal) (ix4 b n e p) = a1 * b1 * c1 * d1 + a2 * b2 * c2 * d2 := by
    refine (congrFun e11 (ix4 b n e p)).trans ?_
    unfold at_ at *
    generalize w (Proc.devRef .tc main_v65) = A1 at h65 ⊢
    generalize w (Proc.devRef .tc main_v63) = B1 at h63 ⊢
    generalize w (Proc.devRef .tc main_v78) = C1 at h78 ⊢
    generalize w (Proc.devRef .tc main_v81) = D1 at h81 ⊢
    generalize w (Proc.devRef .tc main_v77) = A2 at h77 ⊢
    generalize w (Proc.devRef .tc main_v75) = B2 at h75 ⊢
    generalize w (Proc.devRef .tc main_v79) = C2 at h79 ⊢
    generalize w (Proc.devRef .tc main_v83) = D2 at h83 ⊢
    change S4x2048.Idx → EReal at A1
    change S4x2048.Idx → EReal at B1
    change S4x2048x16.Idx → EReal at C1
    change S4x2048x160.Idx → EReal at D1
    change S4x2048.Idx → EReal at A2
    change S4x2048.Idx → EReal at B2
    change S4x2048x16.Idx → EReal at C2
    change S4x2048x160.Idx → EReal at D2
    pointwise [h65, h63, h78, h81, h77, h75, h79, h83]
  refine ⟨v104, (congrFun e15 (ix4 b n e p)).trans ?_⟩
  unfold at_ at v104
  generalize w (Proc.devRef .tc main_v104) = A at v104 ⊢
  change S4x2048x16x160.Idx → EReal at A
  pointwise [v104]
  exact ne_dec _ _

end Values

end Cert.ReferenceIdeal.Hand
end
-- ==== Proof.RefVal.lean ====
module

public import proofs.«01_k».proof.Proof.RefPlaces

@[expose] public section

set_option maxRecDepth 16384
set_option maxHeartbeats 4000000

noncomputable section

/-! The reference's four results, entry by entry. -/

namespace Cert.ReferenceIdeal.Hand

open Idealize.ShloMosaic Idealize.ShloMosaic.TcCoe
open Idealize.ShloMosaic.StableHlo
open Idealize.SL Idealize.SL.Sem
open Cert.ReferenceIdeal Cert.ReferenceIdeal.Facts₀ Cert.Hand

theorem un_fin (u : Fin 4 → Fin 2048 → EReal) (b : Fin 4) (n : Fin 2048) : un u b n = u b n := by
  unfold un
  congr 1 <;> apply Fin.ext <;> simp only <;> omega

theorem word_eq (i e : Fin 16) : BitVec.ofNat 32 i.val = BitVec.ofNat 32 e.val ↔ e = i := by
  have := i.isLt
  have := e.isLt
  rw [ofNat_inj (by omega) (by omega), Fin.ext_iff]
  exact eq_comm

section Values

variable (w : Valuation τ sig (Elt Ideal))
variable (x : Fin 4 → Fin 2048 → Fin 4096 → EReal) (k : Fin 4096 → Fin 16 → EReal) (u : Fin 4 → Fin 2048 → EReal)

/-- The four results before their last reshape. -/
theorem has_results (h : (mainOps : List (HloOp _ _ (Elt Ideal))).Forall (Fix w))
    (hx : ∀ (b : Fin 4) (n : Fin 2048) (d : Fin 4096), (at_ w main_arg0 : S4x2048x4096.Idx → EReal) (ix3 b n d) = x b n d)
    (hk : ∀ (d : Fin 4096) (e : Fin 16), (at_ w main_arg1 : S4096x16.Idx → EReal) (ix2 d e) = k d e)
    (hu : ∀ (b : Fin 4) (n : Fin 2048), (at_ w main_v44 : S4x2048.Idx → EReal) (ix2 b n) = u b n) (h0 : ∀ b n, 0 ≤ u b n) :
    (∀ (b : Fin 4) (n : Fin 2048) (e : Fin 16) (p : Fin 160),
      (at_ w main_v104 : S4x2048x16x160.Idx → EReal) (ix4 b n e p) = comb (lg x k b) (un u b) n (e.val * 160 + p.val)
      ∧ (at_ w main_v107 : S4x2048x16x160.Idx → EReal) (ix4 b n e p) = disp (lg x k b) (un u b) n (e.val * 160 + p.val))
    ∧ (at_ w main_v36 : S_.Idx → EReal) ix0 = balSum x k 4 * Ideal.ofBits .f32 0x35800000#32
    ∧ (at_ w main_v118 : S_.Idx → EReal) ix0 = zSum x k 8192 * Ideal.ofBits .f32 0x3E800000#32
    ∧ (opsResults : List (HloOp _ _ (Elt Ideal))).Forall (Fix w) := by
  unfold mainOps at h
  obtain ⟨s1, h⟩ := List.forall_append.1 h
  obtain ⟨s2, h⟩ := List.forall_append.1 h
  obtain ⟨s3, h⟩ := List.forall_append.1 h
  obtain ⟨s4, h⟩ := List.forall_append.1 h
  obtain ⟨s5, h⟩ := List.forall_append.1 h
  obtain ⟨-, h⟩ := List.forall_append.1 h
  obtain ⟨-, h⟩ := List.forall_append.1 h
  obtain ⟨-, h⟩ := List.forall_append.1 h
  obtain ⟨s9, h⟩ := List.forall_append.1 h
  obtain ⟨s10, h⟩ := List.forall_append.1 h
  obtain ⟨s11, h⟩ := List.forall_append.1 h
  obtain ⟨s12, h⟩ := List.forall_append.1 h
  obtain ⟨s13, h⟩ := List.forall_append.1 h
  obtain ⟨s14, h⟩ := List.forall_append.1 h
  obtain ⟨s15, h⟩ := List.forall_append.1 h
  obtain ⟨s16, h⟩ := List.forall_append.1 h
  obtain ⟨s17, h⟩ := List.forall_append.1 h
  obtain ⟨s18, h⟩ := List.forall_append.1 h
  obtain ⟨s19, h⟩ := List.forall_append.1 h
  obtain ⟨s20, h⟩ := List.forall_append.1 h
  obtain ⟨s21, h⟩ := List.forall_append.1 h
  obtain ⟨s22, s23⟩ := List.forall_append.1 h
  clear h
  have hl := has_logits w x k s1 hx hk
  have hs := has_softmax w x k s1 hl
  have ht := has_top w x k s2 hs
  have g := fun b n => has_gates w s5 b n (sm (lg x k b n)) (ht b n).1 (ht b n).2.1
  have m20 : ∀ (b : Fin 4) (n : Fin 2048) (e : Fin 16), (at_ w main_v20 : S4x2048x16.Idx → EReal) (ix3 b n e) = ind (e = ex1 (lg x k b) n) := fun b n e => by
    rw [mask_v20 w s3 b n e, (ht b n).2.2.1]
    exact ind_congr (word_eq _ _)
  have m21 : ∀ (b : Fin 4) (n : Fin 2048) (e : Fin 16), (at_ w main_v21 : S4x2048x16.Idx → EReal) (ix3 b n e) = ind (e = srt (sm (lg x k b n)) 1) := fun b n e => by
    rw [mask_v21 w s4 b n e, (ht b n).2.2.2]
    exact ind_congr (word_eq _ _)
  have m78 : ∀ (b : Fin 4) (n : Fin 2048) (e : Fin 16), (at_ w main_v78 : S4x2048x16.Idx → EReal) (ix3 b n e) = ind (e = ex1 (lg x k b) n) := fun b n e => by
    rw [mask_v78 w s14 b n e, (ht b n).2.2.1]
    exact ind_congr (word_eq _ _)
  have m79 : ∀ (b : Fin 4) (n : Fin 2048) (e : Fin 16), (at_ w main_v79 : S4x2048x16.Idx → EReal) (ix3 b n e) = ind (e = srt (sm (lg x k b n)) 1) := fun b n e => by
    rw [mask_v79 w s15 b n e, (ht b n).2.2.2]
    exact ind_congr (word_eq _ _)
  have m51 := fun b n e => has_mask2 w (fun b => lg x k b) (fun b => un u b) s9 b n e (g b n).2 ((hu b n).trans (un_fin u b n).symm) (by rw [un_fin]; exact h0 b n) (m21 b n e)
  have v52 := has_v52 w s10 (fun b e n => e = ex1 (lg x k b) n) m20
  have v66 := has_v66 w s12 (fun b e n => e = ex2 (lg x k b) n ∧ kp (lg x k b) (un u b) n) m51
  have p1 := has_pos1 w (fun b => lg x k b) s11 m20 v52 (fun b n => (g b n).1)
  have p2 := has_pos2 w (fun b => lg x k b) (fun b => un u b) s13 m51 v66 (fun b e => (p1 b 0).2.2.2 e) (fun b n => (g b n).2)
  refine ⟨fun b n e p => ?_, has_balance w x k s5 hs m20, has_router w x k s22 hl, s23⟩
  have n1 : num1 (lg x k b) (ex1 (lg x k b) n) n < 2 ^ 31 := by
    have := cnt_le (fun k' => ex1 (lg x k b) n = ex1 (lg x k b) k') n
    have := n.isLt
    unfold num1
    omega
  have n2 : num2 (lg x k b) (un u b) (ex2 (lg x k b) n) n < 2 ^ 31 := by
    have := cnt_le (fun k' => ex2 (lg x k b) n = ex2 (lg x k b) k' ∧ kp (lg x k b) (un u b) k') n
    have := n.isLt
    unfold num2
    omega
  have hp := p.isLt
  have c := combine_read w s20 s21 b n e p _ _ _ _ _ _ _ _ (p1 b n).2.2.1 (p1 b n).2.1 (m78 b n e) (mask_v81 w s17 s16 b n p)
    (p2 b n).2.2 (p2 b n).2.1 (m79 b n e) (mask_v83 w s19 s18 b n p)
  rw [(p1 b n).1, (p2 b n).1, fptosi_nat n1] at c
  have key : gate1 (sm (lg x k b n)) * ind (True ∧ num1 (lg x k b) (ex1 (lg x k b) n) n < 160) * ind (True ∧ num1 (lg x k b) (ex1 (lg x k b) n) n < 160)
        * ind (e = ex1 (lg x k b) n) * ind (BitVec.ofNat 32 (num1 (lg x k b) (ex1 (lg x k b) n) n) = BitVec.ofNat 32 p.val)
      + gate2 (sm (lg x k b n)) * ind (kp (lg x k b) (un u b) n ∧ num2 (lg x k b) (un u b) (ex2 (lg x k b) n) n < 160)
        * ind (kp (lg x k b) (un u b) n ∧ num2 (lg x k b) (un u b) (ex2 (lg x k b) n) n < 160)
        * ind (e = srt (sm (lg x k b n)) 1)
        * ind (Ideal.fptosi 32 (((num2 (lg x k b) (un u b) (ex2 (lg x k b) n) n : EReal) + (((kept (fun b => lg x k b) b (ex2 (lg x k b) n) : ℝ) * 2048⁻¹ : ℝ) : EReal)) * ind (kp (lg x k b) (un u b) n)) = BitVec.ofNat 32 p.val)
      = comb (lg x k b) (un u b) n (e.val * 160 + p.val) := by
    unfold comb
    refine congr (congrArg HAdd.hAdd ?_) ?_
    · rw [ind_congr (ofNat_inj (by omega) (by omega)), weight]
      refine congrArg _ (ind_congr ?_)
      simp only [true_and]
    · by_cases q : kp (lg x k b) (un u b) n
      · have z : srt (sm (lg x k b n)) 1 = ex2 (lg x k b) n := srt_one_of (keep_rest (u := un u b n) (by rw [un_fin]; exact h0 b n) q)
        rw [z, ind_true q, mul_one, fptosi_frac (kept_lt _ b _) n2, ind_congr (ofNat_inj (by omega) (by omega)), weight]
      · rw [ind_false (p := kp (lg x k b) (un u b) n ∧ _) (fun z => q z.1), ind_false (p := _ ∧ kp (lg x k b) (un u b) n ∧ _) (fun z => q z.2.1)]
        simp only [mul_zero, zero_mul]
  exact ⟨c.1.trans key, c.2.trans (ind_congr (by rw [key]))⟩

/-- An array of sixteen experts' 160 places, laid flat: entry `c` is place `c % 160` of expert `c / 160`. -/
theorem flat_read (A : S4x2048x16x160.Idx → EReal) (f : ℕ → EReal) (b : Fin 4) (n : Fin 2048)
    (hf : ∀ (e : Fin 16) (p : Fin 160), A (ix4 b n e p) = f (e.val * 160 + p.val)) (c : Fin 2560) :
    shapeCast S4x2048x2560 A shapeCasts_S4x2048x16x160_S4x2048x2560 (ix3 b n c) = f c.val := by
  have hc := c.isLt
  have key := hf ⟨c.val / 160, by omega⟩ ⟨c.val % 160, by omega⟩
  pointwise
  refine key.trans (congrArg f ?_)
  show c.val / 160 * 160 + c.val % 160 = c.val
  omega

/-- A scalar as an array of one entry. -/
theorem one_read (A : S_.Idx → EReal) : shapeCast S1x1 A shapeCasts_S_S1x1 (ix2 0 0) = A ix0 :=
  congrArg A (funext fun a => Fin.elim0 a)

/-- The four results as the program returns them. -/
theorem has_flat (h : (opsResults : List (HloOp _ _ (Elt Ideal))).Forall (Fix w)) :
    (∀ (f : ℕ → EReal) (b : Fin 4) (n : Fin 2048),
      (∀ (e : Fin 16) (p : Fin 160), (at_ w main_v107 : S4x2048x16x160.Idx → EReal) (ix4 b n e p) = f (e.val * 160 + p.val)) →
      ∀ c : Fin 2560, (at_ w main_v119 : S4x2048x2560.Idx → EReal) (ix3 b n c) = f c.val)
    ∧ (∀ (f : ℕ → EReal) (b : Fin 4) (n : Fin 2048),
      (∀ (e : Fin 16) (p : Fin 160), (at_ w main_v104 : S4x2048x16x160.Idx → EReal) (ix4 b n e p) = f (e.val * 160 + p.val)) →
      ∀ c : Fin 2560, (at_ w main_v120 : S4x2048x2560.Idx → EReal) (ix3 b n c) = f c.val)
    ∧ (at_ w main_v121 : S1x1.Idx → EReal) (ix2 0 0) = (at_ w main_v36 : S_.Idx → EReal) ix0
    ∧ (at_ w main_v122 : S1x1.Idx → EReal) (ix2 0 0) = (at_ w main_v118 : S_.Idx → EReal) ix0 := by
  obtain ⟨h0, h1, h2, h3⟩ := h
  have e3 := (List.forall_cons _ _ _ |>.1 h3).1
  exact ⟨fun f b n hf c => (congrFun (fix_reshape h0) (ix3 b n c)).trans (flat_read _ f b n hf c),
    fun f b n hf c => (congrFun (fix_reshape h1) (ix3 b n c)).trans (flat_read _ f b n hf c),
    (congrFun (fix_reshape h2) (ix2 0 0)).trans (one_read _), (congrFun (fix_reshape e3) (ix2 0 0)).trans (one_read _)⟩

end Values

end Cert.ReferenceIdeal.Hand
end
-- ==== Proof.Link.lean ====
module

public import proofs.«01_k».proof.Proof.Fold
public import proofs.«01_k».proof.Proof.Draw
public import proofs.«01_k».proof.Proof.RefVal

@[expose] public section

set_option maxRecDepth 16384
set_option maxHeartbeats 4000000

noncomputable section

/-! The two programs leave equal results. -/

namespace Cert.Hand

open Idealize.ShloMosaic Idealize.ShloMosaic.TcCoe
open Idealize.ShloMosaic.StableHlo

/-- A row of 2048 values for each batch, cut into four blocks of 512. -/
theorem cut_read (A : Cert.KernelIdeal.S4x2048.Idx → EReal) (b : Fin 4) (n : Fin 2048) :
    shapeCast Cert.KernelIdeal.S4x4x512x1 A Cert.KernelIdeal.Facts₀.shapeCasts_S4x2048_S4x4x512x1
      (ix4 b ⟨n.val / 512, by omega⟩ ⟨n.val % 512, by omega⟩ 0) = A (ix2 b n) := by
  have hn := n.isLt
  pointwise

/-- An index of a three-axis array by its coordinates. -/
theorem ix3_of (i : Cert.ReferenceIdeal.S4x2048x2560.Idx) : i = ix3 (i 0 : Fin 4) (i 1 : Fin 2048) (i 2 : Fin 2560) := by
  funext a
  match a with
  | ⟨0, _⟩ => rfl
  | ⟨1, _⟩ => rfl
  | ⟨2, _⟩ => rfl

/-- The one index of a one-entry array. -/
theorem ix2_of (i : Cert.ReferenceIdeal.S1x1.Idx) : i = ix2 (0 : Fin 1) (0 : Fin 1) := by
  funext a
  match a with
  | ⟨0, _⟩ => exact Subsingleton.elim (α := Fin 1) _ _
  | ⟨1, _⟩ => exact Subsingleton.elim (α := Fin 1) _ _

section Same
open Cert.ReferenceIdeal Cert.ReferenceIdeal.Hand

/-- Contents that satisfy the reference's equations hold the four results the kernel leaves. -/
theorem same (w : Valuation τ sig (Elt Ideal))
    (x : Fin 4 → Fin 2048 → Fin 4096 → EReal) (k : Fin 4096 → Fin 16 → EReal) (u : Fin 4 → Fin 2048 → EReal)
    (h : (mainOps : List (HloOp _ _ (Elt Ideal))).Forall (Fix w))
    (hx : ∀ (b : Fin 4) (n : Fin 2048) (d : Fin 4096), (at_ w main_arg0 : S4x2048x4096.Idx → EReal) (ix3 b n d) = x b n d)
    (hk : ∀ (d : Fin 4096) (e : Fin 16), (at_ w main_arg1 : S4096x16.Idx → EReal) (ix2 d e) = k d e)
    (hu : ∀ (b : Fin 4) (n : Fin 2048), (at_ w main_v44 : S4x2048.Idx → EReal) (ix2 b n) = u b n) (h0 : ∀ b n, 0 ≤ u b n)
    (d c : S4x2048x2560.Idx → EReal) (p z : S1x1.Idx → EReal)
    (hd : ∀ (b : Fin 4) (n : Fin 2048) (j : Fin 2560), d (ix3 b n j) = disp (lg x k b) (un u b) n j.val)
    (hc : ∀ (b : Fin 4) (n : Fin 2048) (j : Fin 2560), c (ix3 b n j) = comb (lg x k b) (un u b) n j.val)
    (hp : p (ix2 0 0) = balSum x k 4 * Ideal.ofBits .f32 0x35800000#32)
    (hz : z (ix2 0 0) = zSum x k 8192 * Ideal.ofBits .f32 0x3E800000#32) :
    (at_ w main_v119 : S4x2048x2560.Idx → EReal) = d ∧ (at_ w main_v120 : S4x2048x2560.Idx → EReal) = c
    ∧ (at_ w main_v121 : S1x1.Idx → EReal) = p ∧ (at_ w main_v122 : S1x1.Idx → EReal) = z := by
  obtain ⟨r, rb, rz, ho⟩ := has_results w x k u h hx hk hu h0
  obtain ⟨f0, f1, f2, f3⟩ := has_flat w ho
  refine ⟨funext fun i => ?_, funext fun i => ?_, funext fun i => ?_, funext fun i => ?_⟩
  · rw [ix3_of i]
    exact (f0 (fun q => disp (lg x k (i 0)) (un u (i 0)) (i 1) q) (i 0) (i 1) (fun e q => (r _ _ e q).2) (i 2)).trans (hd _ _ _).symm
  · rw [ix3_of i]
    exact (f1 (fun q => comb (lg x k (i 0)) (un u (i 0)) (i 1) q) (i 0) (i 1) (fun e q => (r _ _ e q).1) (i 2)).trans (hc _ _ _).symm
  · rw [ix2_of i]
    exact (f2.trans rb).trans hp.symm
  · rw [ix2_of i]
    exact (f3.trans rz).trans hz.symm

end Same

section Link

variable (m : (ℓ : Loc Cert.KernelIdeal.nD Cert.KernelIdeal.τ Cert.KernelIdeal.sig) → Buf (Elt Ideal) ℓ)
  (c : Dev Cert.KernelIdeal.nD)
  (m' : (ℓ : Loc Cert.ReferenceIdeal.nD Cert.ReferenceIdeal.τ Cert.ReferenceIdeal.sig) → Buf (Elt Ideal) ℓ)

/-- The random values the kernel reads are those the reference draws. -/
theorem argU_eq (b : Fin 4) (n : Fin 2048) : Cert.KernelIdeal.Hand.argU m c b n = draw m' c (ix2 b n) := by
  have h := congrFun (draw_v8 m c) (ix4 b ⟨n.val / 512, by omega⟩ ⟨n.val % 512, by omega⟩ 0)
  rw [cut_read] at h
  exact h.trans (congrFun (draw_v7 m c m' c) (ix2 b n))

/-- The results of the kernel, as what the reference's main program leaves. -/
theorem link (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    (Cert.ReferenceIdeal.Hand.W m' c (Proc.devRef .tc Cert.ReferenceIdeal.main_v119) : Cert.ReferenceIdeal.S4x2048x2560.Idx → EReal) = Cert.KernelIdeal.Value.G3 m c
    ∧ (Cert.ReferenceIdeal.Hand.W m' c (Proc.devRef .tc Cert.ReferenceIdeal.main_v120) : Cert.ReferenceIdeal.S4x2048x2560.Idx → EReal) = Cert.KernelIdeal.Value.G4 m c
    ∧ (Cert.ReferenceIdeal.Hand.W m' c (Proc.devRef .tc Cert.ReferenceIdeal.main_v121) : Cert.ReferenceIdeal.S1x1.Idx → EReal) = Cert.KernelIdeal.Value.G5 m c
    ∧ (Cert.ReferenceIdeal.Hand.W m' c (Proc.devRef .tc Cert.ReferenceIdeal.main_v122) : Cert.ReferenceIdeal.S1x1.Idx → EReal) = Cert.KernelIdeal.Value.G6 m c := by
  have hx : ∀ b n d, (Cert.ReferenceIdeal.Hand.at_ (Cert.ReferenceIdeal.Hand.W m' c) Cert.ReferenceIdeal.main_arg0 : Cert.ReferenceIdeal.S4x2048x4096.Idx → EReal) (ix3 b n d) = Cert.KernelIdeal.Hand.argX m c b n d :=
    fun b n d => congrFun ((Cert.ReferenceIdeal.Hand.fin_arg0 m' c).trans h0) (ix3 b n d)
  have hk : ∀ d e, (Cert.ReferenceIdeal.Hand.at_ (Cert.ReferenceIdeal.Hand.W m' c) Cert.ReferenceIdeal.main_arg1 : Cert.ReferenceIdeal.S4096x16.Idx → EReal) (ix2 d e) = Cert.KernelIdeal.Hand.argW m c d e :=
    fun d e => congrFun ((Cert.ReferenceIdeal.Hand.fin_arg1 m' c).trans h1) (ix2 d e)
  have hu : ∀ b n, (Cert.ReferenceIdeal.Hand.at_ (Cert.ReferenceIdeal.Hand.W m' c) Cert.ReferenceIdeal.main_v44 : Cert.ReferenceIdeal.S4x2048.Idx → EReal) (ix2 b n) = Cert.KernelIdeal.Hand.argU m c b n :=
    fun b n => (argU_eq m c m' b n).symm
  have hp : ∀ b n, 0 ≤ Cert.KernelIdeal.Hand.argU m c b n := fun b n => (argU_eq m c m' b n).symm ▸ draw_nonneg m' c (ix2 b n)
  have g3 := Cert.KernelIdeal.Hand.G3_apply m c
  have g4 := Cert.KernelIdeal.Hand.G4_apply m c
  have g5 := Cert.KernelIdeal.Hand.G5_apply m c
  have g6 := Cert.KernelIdeal.Hand.G6_apply m c
  have hf := Cert.ReferenceIdeal.Hand.main_ssa.fix (launchContents m' c)
  change (Cert.ReferenceIdeal.Hand.mainOps : List (HloOp _ _ (Elt Ideal))).Forall (Fix (Cert.ReferenceIdeal.Hand.W m' c)) at hf
  unfold Cert.KernelIdeal.Hand.L Cert.KernelIdeal.Hand.U at g3 g4
  exact same _ _ _ _ hf hx hk hu hp _ _ _ _ g3 g4 g5 g6

end Link

end Cert.Hand

end
-- ==== Proof.lean ====
/- The proof of the claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.RefRun
public import proofs.«01_k».proof.Proof.Link
public import Idealize.ShloMosaic.Adequacy
public import Idealize.ShloMosaic.Init

@[expose] public section

noncomputable section

namespace Cert.Proof

open Idealize.ShloMosaic Idealize.SL.Sem

/-- The kernel and the reference leave equal results. -/
theorem equal_results : Cert.algebraic_KernelIdeal_ReferenceIdeal (hKernelIdeal := Cert.KernelIdeal.Gen.facts) (hReferenceIdeal := Cert.ReferenceIdeal.Gen.facts) := by
  intro m g m' g' _ ha
  refine ⟨fun c => Cert.KernelIdeal.Value.G3 m c, fun c => Cert.KernelIdeal.Value.G4 m c, fun c => Cert.KernelIdeal.Value.G5 m c,
    fun c => Cert.KernelIdeal.Value.G6 m c, Cert.KernelIdeal.Value.run m g,
    (θ_run _ _ _).mono (fun r h c => ?_) (Cert.ReferenceIdeal.Hand.run m' g')⟩
  obtain ⟨e0, e1, e2, e3⟩ := Cert.Hand.link m c m' (ha c).1 (ha c).2
  exact ⟨(h c _).trans e0, (h c _).trans e1, (h c _).trans e2, (h c _).trans e3,
    (h c _).trans (Cert.ReferenceIdeal.Hand.fin_arg0 m' c), (h c _).trans (Cert.ReferenceIdeal.Hand.fin_arg1 m' c)⟩

/-- The three programs run, keep their arguments and leave every counter at zero; the kernel's results are the reference's. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g,
    fun m g _ => Cert.ReferenceIdeal.Hand.frame m g, trivial, equal_results⟩

end Cert.Proof

end
